-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v26_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v259) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_tables_in_range.lean ====
abbrev S1699840x128 : Shape := ⟨2, ![1699840, 128]⟩
abbrev S415 : Shape := ⟨1, ![415]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S415 : S_.BroadcastsInDim S415 (![] : Fin 0 → Fin S415.rank)
  reducesTo_S415_S_d0 : S415.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S1699840x128 .f32) (main_arg1 : IVec S415 32) (main_arg2 : IVec S1 32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S415 32 := broadcastInDim S415 ![] bcast_S_S415 main_c
  let main_v1 : IVec S415 1 := cmpi .sge main_arg1 main_v0
  let main_c_0 : IVec S_ 1 := constantI S_ 1 1#1
  let main_v2 : IVec S_ 1 := (fun x v => Host.reduce IntOp.andi x v reducesTo_S415_S_d0 h_S_) main_v1 main_c_0
  let main_c_1 : IVec S_ 32 := constantI S_ 32 32#32
  let main_v3 : IVec S415 32 := broadcastInDim S415 ![] bcast_S_S415 main_c_1
  let main_v4 : IVec S415 1 := cmpi .slt main_arg1 main_v3
  let main_c_2 : IVec S_ 1 := constantI S_ 1 1#1
  let main_v5 : IVec S_ 1 := (fun x v => Host.reduce IntOp.andi x v reducesTo_S415_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg2 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Kernel.lean ====
abbrev S1699840x128 : Shape := ⟨2, ![1699840, 128]⟩
abbrev S415 : Shape := ⟨1, ![415]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S512x128 : Shape := ⟨2, ![512, 128]⟩
abbrev S512x1024 : Shape := ⟨2, ![512, 1024]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S1699840x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S1699840x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S415, .i32⟩
  | .local _ .smem, ⟨1, _⟩ => ⟨S1, .i32⟩
  | _, _ => ⟨S1699840x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![415], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v6 : Index := Scalar.indexCast arg0
  ![v6.toNat]
def k0_off3 (i : grid0.Coords) : Fin 1 → Nat :=
  let arg0 : BitVec 32 := BitVec.ofNat 32 (i 0).val
  let c1_i32 : BitVec 32 := 1#32
  let v8 : BitVec 32 := Scalar.subi arg0 c1_i32
  let c0_i32_1 : BitVec 32 := 0#32
  let v9 : BitVec 32 := Scalar.maxsi v8 c0_i32_1
  let v10 : Index := Scalar.indexCast v9
  ![v10.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond3 (i : grid0.Coords) (v0 : BitVec 32) : BitVec 1 :=
  let arg0 : BitVec 32 := BitVec.ofNat 32 (i 0).val
  let v1 : BitVec 1 := Scalar.cmpi .slt arg0 v0
  let v16 : BitVec 32 := Scalar.extui v1
  let c0_i32_3 : BitVec 32 := 0#32
  let v17 : BitVec 1 := Scalar.cmpi .ne v16 c0_i32_3
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S415.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S415) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S415.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S415) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S415.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S415) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S415.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S415) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1699840x128 : Shape := ⟨2, ![1699840, 128]⟩
abbrev S415 : Shape := ⟨1, ![415]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S415x512x1024 : Shape := ⟨3, ![415, 512, 1024]⟩
abbrev S_ : Shape := ⟨0, ![]⟩
abbrev S415x1 : Shape := ⟨2, ![415, 1]⟩
abbrev S415x1024x2048 : Shape := ⟨3, ![415, 1024, 2048]⟩
abbrev S415x512x2048 : Shape := ⟨3, ![415, 512, 2048]⟩
abbrev S415x1x2048 : Shape := ⟨3, ![415, 1, 2048]⟩
abbrev S415x1024x1024 : Shape := ⟨3, ![415, 1024, 1024]⟩
abbrev S415x1x1024 : Shape := ⟨3, ![415, 1, 1024]⟩
abbrev S415x1x1 : Shape := ⟨3, ![415, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S1699840x128, .f32⟩
  | .hbm, ⟨1, _⟩ => ⟨S415, .i32⟩
  | .hbm, ⟨2, _⟩ => ⟨S1, .i32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S415x512x1024, .f32⟩
  | .hbm, ⟨8, _⟩ => ⟨S_, .i32⟩
  | .hbm, ⟨9, _⟩ => ⟨S415, .i32⟩
  | .hbm, ⟨10, _⟩ => ⟨S415, .i1⟩
  | .hbm, ⟨11, _⟩ => ⟨S_, .i32⟩
  | .hbm, ⟨12, _⟩ => ⟨S415, .i32⟩
  | .hbm, ⟨13, _⟩ => ⟨S415, .i32⟩
  | .hbm, ⟨14, _⟩ => ⟨S415, .i32⟩
  | .hbm, ⟨15, _⟩ => ⟨S415x1, .i32⟩
  | .hbm, ⟨16, _⟩ => ⟨S415x1024x2048, .f32⟩
  | .hbm, ⟨17, _⟩ => ⟨S415x512x2048, .f32⟩
  | .hbm, ⟨18, _⟩ => ⟨S_, .i32⟩
  | .hbm, ⟨19, _⟩ => ⟨S415, .i32⟩
  | .hbm, ⟨20, _⟩ => ⟨S415, .i1⟩
  | .hbm, ⟨21, _⟩ => ⟨S_, .i32⟩
  | .hbm, ⟨22, _⟩ => ⟨S415, .i32⟩
  | .hbm, ⟨23, _⟩ => ⟨S415, .i32⟩
  | .hbm, ⟨24, _⟩ => ⟨S415, .i32⟩
  | .hbm, ⟨25, _⟩ => ⟨S415x1, .i32⟩
  | .hbm, ⟨26, _⟩ => ⟨S415x1x2048, .f32⟩
  | .hbm, ⟨27, _⟩ => ⟨S415x512x2048, .f32⟩
  | .hbm, ⟨28, _⟩ => ⟨S415x512x2048, .f32⟩
  | .hbm, ⟨29, _⟩ => ⟨S415x512x1024, .f32⟩
  | .hbm, ⟨30, _⟩ => ⟨S415x512x1024, .f32⟩
  | .hbm, ⟨31, _⟩ => ⟨S_, .f32⟩
  | .hbm, ⟨32, _⟩ => ⟨S415x512x1024, .f32⟩
  | .hbm, ⟨33, _⟩ => ⟨S415x512x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S415x512x1024, .f32⟩
  | .hbm, ⟨38, _⟩ => ⟨S415x512x1024, .f32⟩
  | .hbm, ⟨39, _⟩ => ⟨S_, .f32⟩
  | .hbm, ⟨40, _⟩ => ⟨S415x512x1024, .f32⟩
  | .hbm, ⟨41, _⟩ => ⟨S415x512x1024, .f32⟩
  | .hbm, ⟨42, _⟩ => ⟨S_, .f32⟩
  | .hbm, ⟨43, _⟩ => ⟨S415x512x1024, .f32⟩
  | .hbm, ⟨44, _⟩ => ⟨S415x512x1024, .f32⟩
  | .hbm, ⟨45, _⟩ => ⟨S_, .f32⟩
  | .hbm, ⟨46, _⟩ => ⟨S415x512x1024, .f32⟩
  | .hbm, ⟨47, _⟩ => ⟨S415x512x1024, .f32⟩
  | .hbm, ⟨48, _⟩ => ⟨S415x512x1024, .f32⟩
  | .hbm, ⟨49, _⟩ => ⟨S415x512x1024, .f32⟩
  | .hbm, ⟨50, _⟩ => ⟨S_, .f32⟩
  | .hbm, ⟨51, _⟩ => ⟨S415x512x1024, .f32⟩
  | .hbm, ⟨52, _⟩ => ⟨S415x512x1024, .f32⟩
  | .hbm, ⟨53, _⟩ => ⟨S_, .f32⟩
  | .hbm, ⟨54, _⟩ => ⟨S415x512x1024, .f32⟩
  | .hbm, ⟨55, _⟩ => ⟨S415x512x1024, .f32⟩
  | .hbm, ⟨56, _⟩ => ⟨S415x512x1024, .f32⟩
  | .hbm, ⟨57, _⟩ => ⟨S415x512x1024, .f32⟩
  | .hbm, ⟨58, _⟩ => ⟨S_, .i32⟩
  | .hbm, ⟨59, _⟩ => ⟨S415, .i32⟩
  | .hbm, ⟨60, _⟩ => ⟨S415, .i1⟩
  | .hbm, ⟨61, _⟩ => ⟨S_, .i32⟩
  | .hbm, ⟨62, _⟩ => ⟨S415, .i32⟩
  | .hbm, ⟨63, _⟩ => ⟨S415, .i32⟩
  | .hbm, ⟨64, _⟩ => ⟨S415, .i32⟩
  | .hbm, ⟨65, _⟩ => ⟨S415x1, .i32⟩
  | .hbm, ⟨66, _⟩ => ⟨S415x1024x1024, .f32⟩
  | .hbm, ⟨67, _⟩ => ⟨S415x512x1024, .f32⟩
  | .hbm, ⟨68, _⟩ => ⟨S_, .i32⟩
  | .hbm, ⟨69, _⟩ => ⟨S415, .i32⟩
  | .hbm, ⟨70, _⟩ => ⟨S415, .i1⟩
  | .hbm, ⟨71, _⟩ => ⟨S_, .i32⟩
  | .hbm, ⟨72, _⟩ => ⟨S415, .i32⟩
  | .hbm, ⟨73, _⟩ => ⟨S415, .i32⟩
  | .hbm, ⟨74, _⟩ => ⟨S415, .i32⟩
  | .hbm, ⟨75, _⟩ => ⟨S415x1, .i32⟩
  | .hbm, ⟨76, _⟩ => ⟨S415x1x1024, .f32⟩
  | .hbm, ⟨77, _⟩ => ⟨S415x512x1024, .f32⟩
  | .hbm, ⟨78, _⟩ => ⟨S415x512x1024, .f32⟩
  | .hbm, ⟨79, _⟩ => ⟨S415, .i32⟩
  | .hbm, ⟨80, _⟩ => ⟨S415x1x1, .i32⟩
  | .hbm, ⟨81, _⟩ => ⟨S_, .i32⟩
  | .hbm, ⟨82, _⟩ => ⟨S415x1x1, .i32⟩
  | .hbm, ⟨83, _⟩ => ⟨S415x1x1, .i1⟩
  | .hbm, ⟨84, _⟩ => ⟨S_, .f32⟩
  | .hbm, ⟨85, _⟩ => ⟨S_, .f32⟩
  | .hbm, ⟨86, _⟩ => ⟨S415x512x1024, .i1⟩
  | .hbm, ⟨87, _⟩ => ⟨S415x512x1024, .f32⟩
  | .hbm, ⟨88, _⟩ => ⟨S415x512x1024, .f32⟩
  | .hbm, ⟨89, _⟩ => ⟨S1699840x128, .f32⟩
  | _, _ => ⟨S1699840x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1x1024x3584 : Shape := ⟨3, ![1, 1024, 3584]⟩
abbrev S1x3584 : Shape := ⟨2, ![1, 3584]⟩
abbrev S1024x3584 : Shape := ⟨2, ![1024, 3584]⟩
abbrev S1024x1536 : Shape := ⟨2, ![1024, 1536]⟩
abbrev S1x1536 : Shape := ⟨2, ![1, 1536]⟩
abbrev S1536 : Shape := ⟨1, ![1536]⟩
abbrev S16384x1024 : Shape := ⟨2, ![16384, 1024]⟩
abbrev S1x1024 : Shape := ⟨2, ![1, 1024]⟩
abbrev S16384x512 : Shape := ⟨2, ![16384, 512]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 16
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1x1024x3584, .f32⟩
  | .hbm, ⟨4, _⟩ => ⟨S1x3584, .f32⟩
  | .hbm, ⟨5, _⟩ => ⟨S1024x3584, .f32⟩
  | .hbm, ⟨6, _⟩ => ⟨S1024x3584, .bf16⟩
  | .hbm, ⟨7, _⟩ => ⟨S1024x1536, .bf16⟩
  | .hbm, ⟨8, _⟩ => ⟨S1x1536, .f32⟩
  | .hbm, ⟨9, _⟩ => ⟨S1536, .f32⟩
  | .hbm, ⟨10, _⟩ => ⟨S1x1536, .f32⟩
  | .hbm, ⟨11, _⟩ => ⟨S16384x1024, .f32⟩
  | .hbm, ⟨12, _⟩ => ⟨S1x1024, .f32⟩
  | .hbm, ⟨13, _⟩ => ⟨S1x1024, .f32⟩
  | .hbm, ⟨14, _⟩ => ⟨S16384x512, .bf16⟩
  | .hbm, ⟨15, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1536, .bf16⟩
  | .local _ .vmem, ⟨5, _⟩ => ⟨S1x1536, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x2048x1024 : Shape := ⟨3, ![8, 2048, 1024]⟩
abbrev S1024 : Shape := ⟨1, ![1024]⟩
abbrev S1x1024x3584 : Shape := ⟨3, ![1, 1024, 3584]⟩
abbrev S1x3584 : Shape := ⟨2, ![1, 3584]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3584 : Shape := ⟨2, ![1024, 3584]⟩
abbrev S8x2048x3584 : Shape := ⟨3, ![8, 2048, 3584]⟩
abbrev S3584 : Shape := ⟨1, ![3584]⟩
abbrev S1x1x3584 : Shape := ⟨3, ![1, 1, 3584]⟩
abbrev S8x2048x512 : Shape := ⟨3, ![8, 2048, 512]⟩
abbrev S16384x512 : Shape := ⟨2, ![16384, 512]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1x1024x3584, .f32⟩
  | .hbm, ⟨4, _⟩ => ⟨S1x3584, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S1024x3584, .f32⟩
  | .hbm, ⟨35, _⟩ => ⟨S8x2048x3584, .f32⟩
  | .hbm, ⟨36, _⟩ => ⟨S3584, .f32⟩
  | .hbm, ⟨37, _⟩ => ⟨S1x1x3584, .f32⟩
  | .hbm, ⟨38, _⟩ => ⟨S8x2048x3584, .f32⟩
  | .hbm, ⟨39, _⟩ => ⟨S8x2048x3584, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S8x2048x512, .f32⟩
  | .hbm, ⟨44, _⟩ => ⟨S8x2048x512, .f32⟩
  | .hbm, ⟨45, _⟩ => ⟨S_, .f32⟩
  | .hbm, ⟨46, _⟩ => ⟨S8x2048x512, .f32⟩
  | .hbm, ⟨47, _⟩ => ⟨S8x2048x512, .f32⟩
  | .hbm, ⟨48, _⟩ => ⟨S_, .f32⟩
  | .hbm, ⟨49, _⟩ => ⟨S8x2048x512, .f32⟩
  | .hbm, ⟨50, _⟩ => ⟨S8x2048x512, .f32⟩
  | .hbm, ⟨51, _⟩ => ⟨S8x2048x512, .f32⟩
  | .hbm, ⟨52, _⟩ => ⟨S16384x512, .f32⟩
  | .hbm, ⟨53, _⟩ => ⟨S16384x512, .bf16⟩
  | .hbm, ⟨54, _⟩ => ⟨S16384x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel3.lean ====
abbrev S8x2048x1024 : Shape := ⟨3, ![8, 2048, 1024]⟩
abbrev S16384x1024 : Shape := ⟨2, ![16384, 1024]⟩
abbrev S32x128 : Shape := ⟨2, ![32, 128]⟩
abbrev S1024 : Shape := ⟨1, ![1024]⟩
abbrev S1x1024x3584 : Shape := ⟨3, ![1, 1024, 3584]⟩
abbrev S1x3584 : Shape := ⟨2, ![1, 3584]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x3584 : Shape := ⟨2, ![1024, 3584]⟩
abbrev S1024x2048 : Shape := ⟨2, ![1024, 2048]⟩
abbrev S1x2048 : Shape := ⟨2, ![1, 2048]⟩
abbrev S2048 : Shape := ⟨1, ![2048]⟩
abbrev S1024x1024 : Shape := ⟨2, ![1024, 1024]⟩
abbrev S1024x32 : Shape := ⟨2, ![1024, 32]⟩
abbrev S_ : Shape := ⟨0, ![]⟩
abbrev S1024x128 : Shape := ⟨2, ![1024, 128]⟩
abbrev S1024x256 : Shape := ⟨2, ![1024, 256]⟩
abbrev S32 : Shape := ⟨1, ![32]⟩
abbrev S32x1 : Shape := ⟨2, ![32, 1]⟩
abbrev S131072x128 : Shape := ⟨2, ![131072, 128]⟩
abbrev S4x16384 : Shape := ⟨2, ![4, 16384]⟩
abbrev S512x1024 : Shape := ⟨2, ![512, 1024]⟩
abbrev S4096x128 : Shape := ⟨2, ![4096, 128]⟩
abbrev S4x512 : Shape := ⟨2, ![4, 512]⟩
abbrev S32x512 : Shape := ⟨2, ![32, 512]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S512x256 : Shape := ⟨2, ![512, 256]⟩
abbrev S128x512 : Shape := ⟨2, ![128, 512]⟩
abbrev S1x512 : Shape := ⟨2, ![1, 512]⟩

abbrev nBuf : Space → Nat
  | .hbm => 47
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S16384x1024, .f32⟩
  | .hbm, ⟨3, _⟩ => ⟨S32x128, .f32⟩
  | .hbm, ⟨4, _⟩ => ⟨S1024, .f32⟩
  | .hbm, ⟨5, _⟩ => ⟨S1024, .f32⟩
  | .hbm, ⟨6, _⟩ => ⟨S1x1024x3584, .f32⟩
  | .hbm, ⟨7, _⟩ => ⟨S1x3584, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024x32, .f32⟩
  | .hbm, ⟨13, _⟩ => ⟨S1x32, .f32⟩
  | .hbm, ⟨14, _⟩ => ⟨S1024x3584, .f32⟩
  | .hbm, ⟨15, _⟩ => ⟨S1024x3584, .bf16⟩
  | .hbm, ⟨16, _⟩ => ⟨S1024x2048, .bf16⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S1024x1024, .f32⟩
  | .hbm, ⟨21, _⟩ => ⟨S1024x1024, .bf16⟩
  | .hbm, ⟨22, _⟩ => ⟨S1024x32, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x128, .bf16⟩
  | .hbm, ⟨27, _⟩ => ⟨S1024x128, .f32⟩
  | .hbm, ⟨28, _⟩ => ⟨S1024x128, .f32⟩
  | .hbm, ⟨29, _⟩ => ⟨S1024x128, .bf16⟩
  | .hbm, ⟨30, _⟩ => ⟨S1024x256, .bf16⟩
  | .hbm, ⟨31, _⟩ => ⟨S32, .f32⟩
  | .hbm, ⟨32, _⟩ => ⟨S32x1, .f32⟩
  | .hbm, ⟨33, _⟩ => ⟨S16384x1024, .f32⟩
  | .hbm, ⟨34, _⟩ => ⟨S1x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S131072x128, .f32⟩
  | .hbm, ⟨43, _⟩ => ⟨S4x16384, .i32⟩
  | .hbm, ⟨44, _⟩ => ⟨S4x16384, .f32⟩
  | .hbm, ⟨45, _⟩ => ⟨S4x16384, .i32⟩
  | .hbm, ⟨46, _⟩ => ⟨S32x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S32x128, .f32⟩
  | .local _ .vmem, ⟨7, _⟩ => ⟨S1x1024, .f32⟩
  | .local _ .vmem, ⟨8, _⟩ => ⟨S1x1024, .f32⟩
  | .local _ .vmem, ⟨9, _⟩ => ⟨S1024x2048, .bf16⟩
  | .local _ .vmem, ⟨10, _⟩ => ⟨S1x2048, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x256, .bf16⟩
  | .local _ .vmem, ⟨16, _⟩ => ⟨S32x1, .f32⟩
  | .local _ .vmem, ⟨17, _⟩ => ⟨S4096x128, .f32⟩
  | .local _ .vmem, ⟨18, _⟩ => ⟨S4096x128, .f32⟩
  | .local _ .vmem, ⟨19, _⟩ => ⟨S4x512, .i32⟩
  | .local _ .vmem, ⟨20, _⟩ => ⟨S4x512, .i32⟩
  | .local _ .vmem, ⟨21, _⟩ => ⟨S4x512, .f32⟩
  | .local _ .vmem, ⟨22, _⟩ => ⟨S4x512, .f32⟩
  | .local _ .vmem, ⟨23, _⟩ => ⟨S4x512, .i32⟩
  | .local _ .vmem, ⟨24, _⟩ => ⟨S4x512, .i32⟩
  | .local _ .vmem, ⟨25, _⟩ => ⟨S32x128, .f32⟩
  | .local _ .vmem, ⟨26, _⟩ => ⟨S32x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_call0_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev main_v26_2 : Ref sig .tc := ⟨.hbm, 44, rfl⟩
abbrev main_v26_3 : Ref sig .tc := ⟨.hbm, 45, rfl⟩
abbrev main_v26_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4096x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x512 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S32x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference3Ideal.lean ====
abbrev S8x2048x1024 : Shape := ⟨3, ![8, 2048, 1024]⟩
abbrev S16384x1024 : Shape := ⟨2, ![16384, 1024]⟩
abbrev S32x128 : Shape := ⟨2, ![32, 128]⟩
abbrev S1024 : Shape := ⟨1, ![1024]⟩
abbrev S1x1024x3584 : Shape := ⟨3, ![1, 1024, 3584]⟩
abbrev S1x3584 : Shape := ⟨2, ![1, 3584]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3584 : Shape := ⟨2, ![1024, 3584]⟩
abbrev S8x2048x3584 : Shape := ⟨3, ![8, 2048, 3584]⟩
abbrev S3584 : Shape := ⟨1, ![3584]⟩
abbrev S1x1x3584 : Shape := ⟨3, ![1, 1, 3584]⟩
abbrev S1024x1024 : Shape := ⟨2, ![1024, 1024]⟩
abbrev S131072x128 : Shape := ⟨2, ![131072, 128]⟩

abbrev nBuf : Space → Nat
  | .hbm => 115
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S16384x1024, .f32⟩
  | .hbm, ⟨3, _⟩ => ⟨S32x128, .f32⟩
  | .hbm, ⟨4, _⟩ => ⟨S1024, .f32⟩
  | .hbm, ⟨5, _⟩ => ⟨S1024, .f32⟩
  | .hbm, ⟨6, _⟩ => ⟨S1x1024x3584, .f32⟩
  | .hbm, ⟨7, _⟩ => ⟨S1x3584, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024x32, .f32⟩
  | .hbm, ⟨13, _⟩ => ⟨S1x32, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S1024x3584, .f32⟩
  | .hbm, ⟨44, _⟩ => ⟨S8x2048x3584, .f32⟩
  | .hbm, ⟨45, _⟩ => ⟨S3584, .f32⟩
  | .hbm, ⟨46, _⟩ => ⟨S1x1x3584, .f32⟩
  | .hbm, ⟨47, _⟩ => ⟨S8x2048x3584, .f32⟩
  | .hbm, ⟨48, _⟩ => ⟨S8x2048x3584, .f32⟩
  | .hbm, ⟨49, _⟩ => ⟨S8x2048x1024, .f32⟩
  | .hbm, ⟨50, _⟩ => ⟨S8x2048x1024, .f32⟩
  | .hbm, ⟨51, _⟩ => ⟨S16384x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S8x2048x1024, .f32⟩
  | .hbm, ⟨58, _⟩ => ⟨S8x2048x1024, .f32⟩
  | .hbm, ⟨59, _⟩ => ⟨S_, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S_, .f32⟩
  | .hbm, ⟨66, _⟩ => ⟨S8x2048x1024, .f32⟩
  | .hbm, ⟨67, _⟩ => ⟨S8x2048x1024, .f32⟩
  | .hbm, ⟨68, _⟩ => ⟨S_, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S1024x1024, .f32⟩
  | .hbm, ⟨74, _⟩ => ⟨S8x2048x1024, .f32⟩
  | .hbm, ⟨75, _⟩ => ⟨S1024, .f32⟩
  | .hbm, ⟨76, _⟩ => ⟨S1x1x1024, .f32⟩
  | .hbm, ⟨77, _⟩ => ⟨S8x2048x1024, .f32⟩
  | .hbm, ⟨78, _⟩ => ⟨S8x2048x1024, .f32⟩
  | .hbm, ⟨79, _⟩ => ⟨S_, .f32⟩
  | .hbm, ⟨80, _⟩ => ⟨S8x2048x1024, .f32⟩
  | .hbm, ⟨81, _⟩ => ⟨S8x2048x1024, .f32⟩
  | .hbm, ⟨82, _⟩ => ⟨S8x2048x1024, .f32⟩
  | .hbm, ⟨83, _⟩ => ⟨S_, .f32⟩
  | .hbm, ⟨84, _⟩ => ⟨S8x2048, .f32⟩
  | .hbm, ⟨85, _⟩ => ⟨S8x2048x1, .f32⟩
  | .hbm, ⟨86, _⟩ => ⟨S_, .f32⟩
  | .hbm, ⟨87, _⟩ => ⟨S8x2048x1, .f32⟩
  | .hbm, ⟨88, _⟩ => ⟨S8x2048x1, .f32⟩
  | .hbm, ⟨89, _⟩ => ⟨S8x2048x1024, .f32⟩
  | .hbm, ⟨90, _⟩ => ⟨S8x2048x1024, .f32⟩
  | .hbm, ⟨91, _⟩ => ⟨S8x2048x1024, .f32⟩
  | .hbm, ⟨92, _⟩ => ⟨S_, .f32⟩
  | .hbm, ⟨93, _⟩ => ⟨S8x2048, .f32⟩
  | .hbm, ⟨94, _⟩ => ⟨S8x2048x1, .f32⟩
  | .hbm, ⟨95, _⟩ => ⟨S_, .f32⟩
  | .hbm, ⟨96, _⟩ => ⟨S8x2048x1, .f32⟩
  | .hbm, ⟨97, _⟩ => ⟨S8x2048x1, .f32⟩
  | .hbm, ⟨98, _⟩ => ⟨S8x2048x1024, .f32⟩
  | .hbm, ⟨99, _⟩ => ⟨S8x2048x1024, .f32⟩
  | .hbm, ⟨100, _⟩ => ⟨S_, .f32⟩
  | .hbm, ⟨101, _⟩ => ⟨S8x2048x1, .f32⟩
  | .hbm, ⟨102, _⟩ => ⟨S8x2048x1, .f32⟩
  | .hbm, ⟨103, _⟩ => ⟨S8x2048x1, .f32⟩
  | .hbm, ⟨104, _⟩ => ⟨S8x2048x1024, .f32⟩
  | .hbm, ⟨105, _⟩ => ⟨S8x2048x1024, .f32⟩
  | .hbm, ⟨106, _⟩ => ⟨S1024, .f32⟩
  | .hbm, ⟨107, _⟩ => ⟨S1x1x1024, .f32⟩
  | .hbm, ⟨108, _⟩ => ⟨S8x2048x1024, .f32⟩
  | .hbm, ⟨109, _⟩ => ⟨S8x2048x1024, .f32⟩
  | .hbm, ⟨110, _⟩ => ⟨S1024, .f32⟩
  | .hbm, ⟨111, _⟩ => ⟨S1x1x1024, .f32⟩
  | .hbm, ⟨112, _⟩ => ⟨S8x2048x1024, .f32⟩
  | .hbm, ⟨113, _⟩ => ⟨S8x2048x1024, .f32⟩
  | .hbm, ⟨114, _⟩ => ⟨S131072x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_13 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]
-- ==== Kernel4.lean ====
abbrev S8x2048x512 : Shape := ⟨3, ![8, 2048, 512]⟩
abbrev S1x31x512 : Shape := ⟨3, ![1, 31, 512]⟩
abbrev S1x512 : Shape := ⟨2, ![1, 512]⟩
abbrev S1x512x1024 : Shape := ⟨3, ![1, 512, 1024]⟩
abbrev S31x512 : Shape := ⟨2, ![31, 512]⟩
abbrev S512 : Shape := ⟨1, ![512]⟩
abbrev S512x1024 : Shape := ⟨2, ![512, 1024]⟩
abbrev S8x2048x1024 : Shape := ⟨3, ![8, 2048, 1024]⟩
abbrev S1x16x512 : Shape := ⟨3, ![1, 16, 512]⟩
abbrev S1x512x512 : Shape := ⟨3, ![1, 512, 512]⟩
abbrev S8x544x512 : Shape := ⟨3, ![8, 544, 512]⟩
abbrev S512x512 : Shape := ⟨2, ![512, 512]⟩
abbrev S16x512 : Shape := ⟨2, ![16, 512]⟩
abbrev S1x536x512 : Shape := ⟨3, ![1, 536, 512]⟩
abbrev S536x512 : Shape := ⟨2, ![536, 512]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩

abbrev nBuf : Space → Nat
  | .hbm => 16
  | .vmem => 15
  | .smem => 0
  | _ => 0

abbrev bufTy : (tb : Table) → Fin (tcTables nBuf tb) → BufTy
  | .hbm, ⟨0, _⟩ => ⟨S8x2048x512, .bf16⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512x1024, .f32⟩
  | .hbm, ⟨6, _⟩ => ⟨S31x512, .f32⟩
  | .hbm, ⟨7, _⟩ => ⟨S512, .f32⟩
  | .hbm, ⟨8, _⟩ => ⟨S1x512, .f32⟩
  | .hbm, ⟨9, _⟩ => ⟨S512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S512x1024, .f32⟩
  | .hbm, ⟨14, _⟩ => ⟨S512x1024, .bf16⟩
  | .hbm, ⟨15, _⟩ => ⟨S8x2048x1024, .bf16⟩
  | .local _ .vmem, ⟨0, _⟩ => ⟨S1x16x512, .bf16⟩
  | .local _ .vmem, ⟨1, _⟩ => ⟨S1x16x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x16x512, .bf16⟩
  | .local _ .vmem, ⟨5, _⟩ => ⟨S1x16x512, .bf16⟩
  | .local _ .vmem, ⟨6, _⟩ => ⟨S31x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S8x544x512, .f32⟩
  | .local _ .vmem, ⟨14, _⟩ => ⟨S512x512, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_56 : BitVec 32 := 0#32
  let c2_i32 : BitVec 32 := 2#32
  let v64 : BitVec 32 := Scalar.addi c0_i32_56 c2_i32
  let c1_i32 : BitVec 32 := 1#32
  ⟨c0_i32_56, v64, c1_i32⟩
def k0_mult1 (k0_t1 : Fin k0_t1_loop.trips) : BitVec 32 :=
  let c0_i32_56 : BitVec 32 := 0#32
  let c1_i32 : BitVec 32 := 1#32
  let arg13 : BitVec 32 := Scf.iv c0_i32_56 c1_i32 k0_t1
  let c256_i32 : BitVec 32 := 256#32
  let v73 : BitVec 32 := Scalar.muli arg13 c256_i32
  v73
def k0_off1 (k0_t1 : Fin k0_t1_loop.trips) (c0_i32_69 : BitVec 32) : Fin 3 → Nat :=
  let c1_70 : Index := 1#32
  let c0_i32_56 : BitVec 32 := 0#32
  let c1_i32 : BitVec 32 := 1#32
  let arg13 : BitVec 32 := Scf.iv c0_i32_56 c1_i32 k0_t1
  let c256_i32 : BitVec 32 := 256#32
  let v73 : BitVec 32 := Scalar.muli arg13 c256_i32
  let v74 : BitVec 32 := v73
  let v80 : BitVec 32 := Scalar.addi v74 c0_i32_69
  let v81 : Index := Scalar.indexCast v80
  let c0_71 : Index := 0#32
  ![1, v81.toNat, 0]
def k0_off2 (k0_t1 : Fin k0_t1_loop.trips) (c0_i32_74 : BitVec 32) : Fin 3 → Nat :=
  let c2_75 : Index := 2#32
  let c0_i32_56 : BitVec 32 := 0#32
  let c1_i32 : BitVec 32 := 1#32
  let arg13 : BitVec 32 := Scf.iv c0_i32_56 c1_i32 k0_t1
  let c256_i32 : BitVec 32 := 256#32
  let v73 : BitVec 32 := Scalar.muli arg13 c256_i32
  let v74 : BitVec 32 := v73
  let v89 : BitVec 32 := Scalar.addi v74 c0_i32_74
  let v90 : Index := Scalar.indexCast v89
  let c0_76 : Index := 0#32
  ![2, v90.toNat, 0]
def k0_off3 (k0_t1 : Fin k0_t1_loop.trips) (c0_i32_79 : BitVec 32) : Fin 3 → Nat :=
  let c3_80 : Index := 3#32
  let c0_i32_56 : BitVec 32 := 0#32
  let c1_i32 : BitVec 32 := 1#32
  let arg13 : BitVec 32 := Scf.iv c0_i32_56 c1_i32 k0_t1
  let c256_i32 : BitVec 32 := 256#32
  let v73 : BitVec 32 := Scalar.muli arg13 c256_i32
  let v74 : BitVec 32 := v73
  let v98 : BitVec 32 := Scalar.addi v74 c0_i32_79
  let v99 : Index := Scalar.indexCast v98
  let c0_81 : Index := 0#32
  ![3, v99.toNat, 0]
def k0_off4 (k0_t1 : Fin k0_t1_loop.trips) (c0_i32_84 : BitVec 32) : Fin 3 → Nat :=
  let c4_85 : Index := 4#32
  let c0_i32_56 : BitVec 32 := 0#32
  let c1_i32 : BitVec 32 := 1#32
  let arg13 : BitVec 32 := Scf.iv c0_i32_56 c1_i32 k0_t1
  let c256_i32 : BitVec 32 := 256#32
  let v73 : BitVec 32 := Scalar.muli arg13 c256_i32
  let v74 : BitVec 32 := v73
  let v107 : BitVec 32 := Scalar.addi v74 c0_i32_84
  let v108 : Index := Scalar.indexCast v107
  let c0_86 : Index := 0#32
  ![4, v108.toNat, 0]
def k0_off5 (k0_t1 : Fin k0_t1_loop.trips) (c0_i32_89 : BitVec 32) : Fin 3 → Nat :=
  let c5_90 : Index := 5#32
  let c0_i32_56 : BitVec 32 := 0#32
  let c1_i32 : BitVec 32 := 1#32
  let arg13 : BitVec 32 := Scf.iv c0_i32_56 c1_i32 k0_t1
  let c256_i32 : BitVec 32 := 256#32
  let v73 : BitVec 32 := Scalar.muli arg13 c256_i32
  let v74 : BitVec 32 := v73
  let v116 : BitVec 32 := Scalar.addi v74 c0_i32_89
  let v117 : Index := Scalar.indexCast v116
  let c0_91 : Index := 0#32
  ![5, v117.toNat, 0]
def k0_off6 (k0_t1 : Fin k0_t1_loop.trips) (c0_i32_94 : BitVec 32) : Fin 3 → Nat :=
  let c6_95 : Index := 6#32
  let c0_i32_56 : BitVec 32 := 0#32
  let c1_i32 : BitVec 32 := 1#32
  let arg13 : BitVec 32 := Scf.iv c0_i32_56 c1_i32 k0_t1
  let c256_i32 : BitVec 32 := 256#32
  let v73 : BitVec 32 := Scalar.muli arg13 c256_i32
  let v74 : BitVec 32 := v73
  let v125 : BitVec 32 := Scalar.addi v74 c0_i32_94
  let v126 : Index := Scalar.indexCast v125
  let c0_96 : Index := 0#32
  ![6, v126.toNat, 0]
def k0_off7 (k0_t1 : Fin k0_t1_loop.trips) (c0_i32_99 : BitVec 32) : Fin 3 → Nat :=
  let c7_100 : Index := 7#32
  let c0_i32_56 : BitVec 32 := 0#32
  let c1_i32 : BitVec 32 := 1#32
  let arg13 : BitVec 32 := Scf.iv c0_i32_56 c1_i32 k0_t1
  let c256_i32 : BitVec 32 := 256#32
  let v73 : BitVec 32 := Scalar.muli arg13 c256_i32
  let v74 : BitVec 32 := v73
  let v134 : BitVec 32 := Scalar.addi v74 c0_i32_99
  let v135 : Index := Scalar.indexCast v134
  let c0_101 : Index := 0#32
  ![7, v135.toNat, 0]
def k0_off8 (k0_t1 : Fin k0_t1_loop.trips) (c8_i32 : BitVec 32) : Fin 3 → Nat :=
  let c0_104 : Index := 0#32
  let c0_i32_56 : BitVec 32 := 0#32
  let c1_i32 : BitVec 32 := 1#32
  let arg13 : BitVec 32 := Scf.iv c0_i32_56 c1_i32 k0_t1
  let c256_i32 : BitVec 32 := 256#32
  let v73 : BitVec 32 := Scalar.muli arg13 c256_i32
  let v74 : BitVec 32 := v73
  let v143 : BitVec 32 := Scalar.addi v74 c8_i32
  let v144 : Index := Scalar.indexCast v143
  let c0_105 : Index := 0#32
  ![0, v144.toNat, 0]
def k0_off9 (k0_t1 : Fin k0_t1_loop.trips) : Fin 2 → Nat :=
  let c0_i32_56 : BitVec 32 := 0#32
  let c1_i32 : BitVec 32 := 1#32
  let arg13 : BitVec 32 := Scf.iv c0_i32_56 c1_i32 k0_t1
  let c256_i32 : BitVec 32 := 256#32
  let v73 : BitVec 32 := Scalar.muli arg13 c256_i32
  let v74 : BitVec 32 := v73
  let v386 : Index := Scalar.indexCast v74
  let c0_205 : Index := 0#32
  ![v386.toNat, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8x2048x512 : Shape := ⟨3, ![8, 2048, 512]⟩
abbrev S1x31x512 : Shape := ⟨3, ![1, 31, 512]⟩
abbrev S1x512 : Shape := ⟨2, ![1, 512]⟩
abbrev S1x512x1024 : Shape := ⟨3, ![1, 512, 1024]⟩
abbrev S_ : Shape := ⟨0, ![]⟩
abbrev S8x2078x512 : Shape := ⟨3, ![8, 2078, 512]⟩
abbrev S1x1x512 : Shape := ⟨3, ![1, 1, 512]⟩
abbrev S512 : Shape := ⟨1, ![512]⟩
abbrev S8x2048 : Shape := ⟨2, ![8, 2048]⟩
abbrev S8x2048x1 : Shape := ⟨3, ![8, 2048, 1]⟩
abbrev S512x1024 : Shape := ⟨2, ![512, 1024]⟩
abbrev S8x2048x1024 : Shape := ⟨3, ![8, 2048, 1024]⟩

abbrev nBuf : Space → Nat
  | .hbm => 276
  | .vmem => 0
  | .smem => 0
  | _ => 0

abbrev hbmTy0_0 (i : Nat) : BufTy := match i % 128 with
  | 0 => ⟨S8x2048x512, .bf16⟩
  | 1 => ⟨S1x31x512, .f32⟩
  | 2 => ⟨S1x512, .f32⟩
  | 3 => ⟨S1x512, .f32⟩
  | 4 => ⟨S1x512, .f32⟩
  | 5 => ⟨S1x512x1024, .f32⟩
  | 6 => ⟨S8x2048x512, .f32⟩
  | 7 => ⟨S_, .i32⟩
  | 8 => ⟨S_, .f32⟩
  | 9 => ⟨S8x2078x512, .f32⟩
  | 10 => ⟨S8x2048x512, .f32⟩
  | 11 => ⟨S1x1x512, .f32⟩
  | 12 => ⟨S512, .f32⟩
  | 13 => ⟨S1x1x512, .f32⟩
  | 14 => ⟨S8x2048x512, .f32⟩
  | 15 => ⟨S8x2048x512, .f32⟩
  | 16 => ⟨S_, .f32⟩
  | 17 => ⟨S8x2048x512, .f32⟩
  | 18 => ⟨S8x2048x512, .f32⟩
  | 19 => ⟨S8x2048x512, .f32⟩
  | 20 => ⟨S1x1x512, .f32⟩
  | 21 => ⟨S512, .f32⟩
  | 22 => ⟨S1x1x512, .f32⟩
  | 23 => ⟨S8x2048x512, .f32⟩
  | 24 => ⟨S8x2048x512, .f32⟩
  | 25 => ⟨S8x2048x512, .f32⟩
  | 26 => ⟨S8x2048x512, .f32⟩
  | 27 => ⟨S1x1x512, .f32⟩
  | 28 => ⟨S512, .f32⟩
  | 29 => ⟨S1x1x512, .f32⟩
  | 30 => ⟨S8x2048x512, .f32⟩
  | 31 => ⟨S8x2048x512, .f32⟩
  | 32 => ⟨S8x2048x512, .f32⟩
  | 33 => ⟨S8x2048x512, .f32⟩
  | 34 => ⟨S1x1x512, .f32⟩
  | 35 => ⟨S512, .f32⟩
  | 36 => ⟨S1x1x512, .f32⟩
  | 37 => ⟨S8x2048x512, .f32⟩
  | 38 => ⟨S8x2048x512, .f32⟩
  | 39 => ⟨S8x2048x512, .f32⟩
  | 40 => ⟨S8x2048x512, .f32⟩
  | 41 => ⟨S1x1x512, .f32⟩
  | 42 => ⟨S512, .f32⟩
  | 43 => ⟨S1x1x512, .f32⟩
  | 44 => ⟨S8x2048x512, .f32⟩
  | 45 => ⟨S8x2048x512, .f32⟩
  | 46 => ⟨S8x2048x512, .f32⟩
  | 47 => ⟨S8x2048x512, .f32⟩
  | 48 => ⟨S1x1x512, .f32⟩
  | 49 => ⟨S512, .f32⟩
  | 50 => ⟨S1x1x512, .f32⟩
  | 51 => ⟨S8x2048x512, .f32⟩
  | 52 => ⟨S8x2048x512, .f32⟩
  | 53 => ⟨S8x2048x512, .f32⟩
  | 54 => ⟨S8x2048x512, .f32⟩
  | 55 => ⟨S1x1x512, .f32⟩
  | 56 => ⟨S512, .f32⟩
  | 57 => ⟨S1x1x512, .f32⟩
  | 58 => ⟨S8x2048x512, .f32⟩
  | 59 => ⟨S8x2048x512, .f32⟩
  | 60 => ⟨S8x2048x512, .f32⟩
  | 61 => ⟨S8x2048x512, .f32⟩
  | 62 => ⟨S1x1x512, .f32⟩
  | 63 => ⟨S512, .f32⟩
  | 64 => ⟨S1x1x512, .f32⟩
  | 65 => ⟨S8x2048x512, .f32⟩
  | 66 => ⟨S8x2048x512, .f32⟩
  | 67 => ⟨S8x2048x512, .f32⟩
  | 68 => ⟨S8x2048x512, .f32⟩
  | 69 => ⟨S1x1x512, .f32⟩
  | 70 => ⟨S512, .f32⟩
  | 71 => ⟨S1x1x512, .f32⟩
  | 72 => ⟨S8x2048x512, .f32⟩
  | 73 => ⟨S8x2048x512, .f32⟩
  | 74 => ⟨S8x2048x512, .f32⟩
  | 75 => ⟨S8x2048x512, .f32⟩
  | 76 => ⟨S1x1x512, .f32⟩
  | 77 => ⟨S512, .f32⟩
  | 78 => ⟨S1x1x512, .f32⟩
  | 79 => ⟨S8x2048x512, .f32⟩
  | 80 => ⟨S8x2048x512, .f32⟩
  | 81 => ⟨S8x2048x512, .f32⟩
  | 82 => ⟨S8x2048x512, .f32⟩
  | 83 => ⟨S1x1x512, .f32⟩
  | 84 => ⟨S512, .f32⟩
  | 85 => ⟨S1x1x512, .f32⟩
  | 86 => ⟨S8x2048x512, .f32⟩
  | 87 => ⟨S8x2048x512, .f32⟩
  | 88 => ⟨S8x2048x512, .f32⟩
  | 89 => ⟨S8x2048x512, .f32⟩
  | 90 => ⟨S1x1x512, .f32⟩
  | 91 => ⟨S512, .f32⟩
  | 92 => ⟨S1x1x512, .f32⟩
  | 93 => ⟨S8x2048x512, .f32⟩
  | 94 => ⟨S8x2048x512, .f32⟩
  | 95 => ⟨S8x2048x512, .f32⟩
  | 96 => ⟨S8x2048x512, .f32⟩
  | 97 => ⟨S1x1x512, .f32⟩
  | 98 => ⟨S512, .f32⟩
  | 99 => ⟨S1x1x512, .f32⟩
  | 100 => ⟨S8x2048x512, .f32⟩
  | 101 => ⟨S8x2048x512, .f32⟩
  | 102 => ⟨S8x2048x512, .f32⟩
  | 103 => ⟨S8x2048x512, .f32⟩
  | 104 => ⟨S1x1x512, .f32⟩
  | 105 => ⟨S512, .f32⟩
  | 106 => ⟨S1x1x512, .f32⟩
  | 107 => ⟨S8x2048x512, .f32⟩
  | 108 => ⟨S8x2048x512, .f32⟩
  | 109 => ⟨S8x2048x512, .f32⟩
  | 110 => ⟨S8x2048x512, .f32⟩
  | 111 => ⟨S1x1x512, .f32⟩
  | 112 => ⟨S512, .f32⟩
  | 113 => ⟨S1x1x512, .f32⟩
  | 114 => ⟨S8x2048x512, .f32⟩
  | 115 => ⟨S8x2048x512, .f32⟩
  | 116 => ⟨S8x2048x512, .f32⟩
  | 117 => ⟨S8x2048x512, .f32⟩
  | 118 => ⟨S1x1x512, .f32⟩
  | 119 => ⟨S512, .f32⟩
  | 120 => ⟨S1x1x512, .f32⟩
  | 121 => ⟨S8x2048x512, .f32⟩
  | 122 => ⟨S8x2048x512, .f32⟩
  | 123 => ⟨S8x2048x512, .f32⟩
  | 124 => ⟨S8x2048x512, .f32⟩
  | 125 => ⟨S1x1x512, .f32⟩
  | 126 => ⟨S512, .f32⟩
  | 127 => ⟨S1x1x512, .f32⟩
  | _ => ⟨S8x2048x512, .bf16⟩

abbrev hbmTy0_1 (i : Nat) : BufTy := match i % 128 with
  | 0 => ⟨S8x2048x512, .f32⟩
  | 1 => ⟨S8x2048x512, .f32⟩
  | 2 => ⟨S8x2048x512, .f32⟩
  | 3 => ⟨S8x2048x512, .f32⟩
  | 4 => ⟨S1x1x512, .f32⟩
  | 5 => ⟨S512, .f32⟩
  | 6 => ⟨S1x1x512, .f32⟩
  | 7 => ⟨S8x2048x512, .f32⟩
  | 8 => ⟨S8x2048x512, .f32⟩
  | 9 => ⟨S8x2048x512, .f32⟩
  | 10 => ⟨S8x2048x512, .f32⟩
  | 11 => ⟨S1x1x512, .f32⟩
  | 12 => ⟨S512, .f32⟩
  | 13 => ⟨S1x1x512, .f32⟩
  | 14 => ⟨S8x2048x512, .f32⟩
  | 15 => ⟨S8x2048x512, .f32⟩
  | 16 => ⟨S8x2048x512, .f32⟩
  | 17 => ⟨S8x2048x512, .f32⟩
  | 18 => ⟨S1x1x512, .f32⟩
  | 19 => ⟨S512, .f32⟩
  | 20 => ⟨S1x1x512, .f32⟩
  | 21 => ⟨S8x2048x512, .f32⟩
  | 22 => ⟨S8x2048x512, .f32⟩
  | 23 => ⟨S8x2048x512, .f32⟩
  | 24 => ⟨S8x2048x512, .f32⟩
  | 25 => ⟨S1x1x512, .f32⟩
  | 26 => ⟨S512, .f32⟩
  | 27 => ⟨S1x1x512, .f32⟩
  | 28 => ⟨S8x2048x512, .f32⟩
  | 29 => ⟨S8x2048x512, .f32⟩
  | 30 => ⟨S8x2048x512, .f32⟩
  | 31 => ⟨S8x2048x512, .f32⟩
  | 32 => ⟨S1x1x512, .f32⟩
  | 33 => ⟨S512, .f32⟩
  | 34 => ⟨S1x1x512, .f32⟩
  | 35 => ⟨S8x2048x512, .f32⟩
  | 36 => ⟨S8x2048x512, .f32⟩
  | 37 => ⟨S8x2048x512, .f32⟩
  | 38 => ⟨S8x2048x512, .f32⟩
  | 39 => ⟨S1x1x512, .f32⟩
  | 40 => ⟨S512, .f32⟩
  | 41 => ⟨S1x1x512, .f32⟩
  | 42 => ⟨S8x2048x512, .f32⟩
  | 43 => ⟨S8x2048x512, .f32⟩
  | 44 => ⟨S8x2048x512, .f32⟩
  | 45 => ⟨S8x2048x512, .f32⟩
  | 46 => ⟨S1x1x512, .f32⟩
  | 47 => ⟨S512, .f32⟩
  | 48 => ⟨S1x1x512, .f32⟩
  | 49 => ⟨S8x2048x512, .f32⟩
  | 50 => ⟨S8x2048x512, .f32⟩
  | 51 => ⟨S8x2048x512, .f32⟩
  | 52 => ⟨S8x2048x512, .f32⟩
  | 53 => ⟨S1x1x512, .f32⟩
  | 54 => ⟨S512, .f32⟩
  | 55 => ⟨S1x1x512, .f32⟩
  | 56 => ⟨S8x2048x512, .f32⟩
  | 57 => ⟨S8x2048x512, .f32⟩
  | 58 => ⟨S8x2048x512, .f32⟩
  | 59 => ⟨S8x2048x512, .f32⟩
  | 60 => ⟨S1x1x512, .f32⟩
  | 61 => ⟨S512, .f32⟩
  | 62 => ⟨S1x1x512, .f32⟩
  | 63 => ⟨S8x2048x512, .f32⟩
  | 64 => ⟨S8x2048x512, .f32⟩
  | 65 => ⟨S8x2048x512, .f32⟩
  | 66 => ⟨S8x2048x512, .f32⟩
  | 67 => ⟨S1x1x512, .f32⟩
  | 68 => ⟨S512, .f32⟩
  | 69 => ⟨S1x1x512, .f32⟩
  | 70 => ⟨S8x2048x512, .f32⟩
  | 71 => ⟨S8x2048x512, .f32⟩
  | 72 => ⟨S8x2048x512, .f32⟩
  | 73 => ⟨S8x2048x512, .f32⟩
  | 74 => ⟨S1x1x512, .f32⟩
  | 75 => ⟨S512, .f32⟩
  | 76 => ⟨S1x1x512, .f32⟩
  | 77 => ⟨S8x2048x512, .f32⟩
  | 78 => ⟨S8x2048x512, .f32⟩
  | 79 => ⟨S8x2048x512, .f32⟩
  | 80 => ⟨S8x2048x512, .f32⟩
  | 81 => ⟨S1x1x512, .f32⟩
  | 82 => ⟨S512, .f32⟩
  | 83 => ⟨S1x1x512, .f32⟩
  | 84 => ⟨S8x2048x512, .f32⟩
  | 85 => ⟨S8x2048x512, .f32⟩
  | 86 => ⟨S8x2048x512, .f32⟩
  | 87 => ⟨S8x2048x512, .f32⟩
  | 88 => ⟨S1x1x512, .f32⟩
  | 89 => ⟨S512, .f32⟩
  | 90 => ⟨S1x1x512, .f32⟩
  | 91 => ⟨S8x2048x512, .f32⟩
  | 92 => ⟨S8x2048x512, .f32⟩
  | 93 => ⟨S8x2048x512, .f32⟩
  | 94 => ⟨S8x2048x512, .f32⟩
  | 95 => ⟨S1x1x512, .f32⟩
  | 96 => ⟨S512, .f32⟩
  | 97 => ⟨S1x1x512, .f32⟩
  | 98 => ⟨S8x2048x512, .f32⟩
  | 99 => ⟨S8x2048x512, .f32⟩
  | 100 => ⟨S8x2048x512, .f32⟩
  | 101 => ⟨S512, .f32⟩
  | 102 => ⟨S1x1x512, .f32⟩
  | 103 => ⟨S8x2048x512, .f32⟩
  | 104 => ⟨S8x2048x512, .f32⟩
  | 105 => ⟨S_, .f32⟩
  | 106 => ⟨S8x2048, .f32⟩
  | 107 => ⟨S8x2048x1, .f32⟩
  | 108 => ⟨S_, .f32⟩
  | 109 => ⟨S8x2048x1, .f32⟩
  | 110 => ⟨S8x2048x1, .f32⟩
  | 111 => ⟨S8x2048x512, .f32⟩
  | 112 => ⟨S8x2048x512, .f32⟩
  | 113 => ⟨S8x2048x512, .f32⟩
  | 114 => ⟨S_, .f32⟩
  | 115 => ⟨S8x2048, .f32⟩
  | 116 => ⟨S8x2048x1, .f32⟩
  | 117 => ⟨S_, .f32⟩
  | 118 => ⟨S8x2048x1, .f32⟩
  | 119 => ⟨S8x2048x1, .f32⟩
  | 120 => ⟨S8x2048x512, .f32⟩
  | 121 => ⟨S8x2048x512, .f32⟩
  | 122 => ⟨S_, .f32⟩
  | 123 => ⟨S8x2048x1, .f32⟩
  | 124 => ⟨S8x2048x1, .f32⟩
  | 125 => ⟨S8x2048x1, .f32⟩
  | 126 => ⟨S8x2048x512, .f32⟩
  | 127 => ⟨S8x2048x512, .f32⟩
  | _ => ⟨S8x2048x512, .bf16⟩

abbrev hbmTy0_2 (i : Nat) : BufTy := match i % 128 with
  | 0 => ⟨S512, .f32⟩
  | 1 => ⟨S1x1x512, .f32⟩
  | 2 => ⟨S8x2048x512, .f32⟩
  | 3 => ⟨S8x2048x512, .f32⟩
  | 4 => ⟨S512, .f32⟩
  | 5 => ⟨S1x1x512, .f32⟩
  | 6 => ⟨S8x2048x512, .f32⟩
  | 7 => ⟨S8x2048x512, .f32⟩
  | 8 => ⟨S8x2048x512, .f32⟩
  | 9 => ⟨S8x2048x512, .f32⟩
  | 10 => ⟨S_, .f32⟩
  | 11 => ⟨S8x2048x512, .f32⟩
  | 12 => ⟨S8x2048x512, .f32⟩
  | 13 => ⟨S_, .f32⟩
  | 14 => ⟨S8x2048x512, .f32⟩
  | 15 => ⟨S8x2048x512, .f32⟩
  | 16 => ⟨S8x2048x512, .f32⟩
  | 17 => ⟨S512x1024, .f32⟩
  | 18 => ⟨S8x2048x1024, .f32⟩
  | 19 => ⟨S8x2048x1024, .bf16⟩
  | _ => ⟨S8x2048x512, .bf16⟩

abbrev hbmTy (i : Nat) : BufTy := match i / 128 with
  | 0 => hbmTy0_0 i
  | 1 => hbmTy0_1 i
  | 2 => hbmTy0_2 i
  | _ => ⟨S8x2048x512, .bf16⟩

abbrev bufTy : (tb : Table) → Fin (tcTables nBuf tb) → BufTy
  | .hbm, ⟨i, _⟩ => hbmTy i
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_cst_0 : Ref sig .tc := ⟨.hbm, 233, rfl⟩
abbrev main_v224 : Ref sig .tc := ⟨.hbm, 234, rfl⟩
abbrev main_v225 : Ref sig .tc := ⟨.hbm, 235, rfl⟩
abbrev main_cst_1 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_cst_2 : Ref sig .tc := ⟨.hbm, 242, rfl⟩
abbrev main_v231 : Ref sig .tc := ⟨.hbm, 243, rfl⟩
abbrev main_v232 : Ref sig .tc := ⟨.hbm, 244, rfl⟩
abbrev main_cst_3 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_cst_4 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_cst_5 : Ref sig .tc := ⟨.hbm, 266, rfl⟩
abbrev main_v252 : Ref sig .tc := ⟨.hbm, 267, rfl⟩
abbrev main_v253 : Ref sig .tc := ⟨.hbm, 268, rfl⟩
abbrev main_cst_6 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩

abbrev nD : Nat := 1
abbrev τ : Topo := Topo.v7x

variable {F : FTy → Type} [FloatOps F]
-- ==== Proof.IdealBody.lean ====
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! # One grid point of the expert call, on each of its four control paths

A point either copies the expert's weights into the two scratch buffers (the *recast* paths) or keeps what is there, and it
either computes its block (the *live* paths) or writes zeros over it.  Each definition below packs what a path leaves — the
stores into the output block, and the contents of the two scratch buffers — with the proof that the body, run on that
path, leaves it. -/

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The block table, where the body reads it. -/
abbrev tb0 : Memref sig .tc .smem S415 .i32 := Memref.whole main_arg1
/-- The number of blocks in use, where the body reads it. -/
abbrev tb1 : Memref sig .tc .smem S1 .i32 := Memref.whole main_arg2
/-- The scratch buffer of the first weights. -/
abbrev sc0 : Memref sig .tc .vmem S1024x2048 .bf16 := Memref.whole cc0_scratch0
/-- The scratch buffer of the second weights. -/
abbrev sc1 : Memref sig .tc .vmem S1024x1024 .bf16 := Memref.whole cc0_scratch1

/-- The number of blocks in use, as the body reads it. -/
abbrev nbWord (T1 : S1.Idx → Elt F .i32) : Elt F .i32 :=
  View.readAt (Elt F) (tb1).view (Rect.unit (s := S1) ![0] S1.size inb_S1_S1_0).toLoadRect T1 (Shape.Idx.first (numel1_S1.symm ▸ Nat.one_pos))
/-- The expert of point `i`, as the body reads it. -/
abbrev beWord (i : grid0.Coords) (T0 : S415.Idx → Elt F .i32) : Elt F .i32 :=
  View.readAt (Elt F) (tb0).view (Rect.unit (s := S415) (k0_off2 i) S1.size (k0_off2_inb i)).toLoadRect T0 (Shape.Idx.first (numel1_S1.symm ▸ Nat.one_pos))
/-- The expert of the point before `i`, as the body reads it. -/
abbrev bePrev (i : grid0.Coords) (T0 : S415.Idx → Elt F .i32) : Elt F .i32 :=
  View.readAt (Elt F) (tb0).view (Rect.unit (s := S415) (k0_off3 i) S1.size (k0_off3_inb i)).toLoadRect T0 (Shape.Idx.first (numel1_S1.symm ▸ Nat.one_pos))
/-- The word by which the body decides whether to copy the weights: the first point, or another expert than before. -/
abbrev recastWord (i : grid0.Coords) (T0 : S415.Idx → Elt F .i32) : BitVec 1 :=
  Scalar.cmpi .ne (Scalar.extui (Scalar.ori (Scalar.cmpi .eq (BitVec.ofNat 32 (i 0).val) 0#32) (Scalar.cmpi .ne (beWord (F := F) i T0) (bePrev (F := F) i T0)))) 0#32

set_option backward.proofsInPublic true in
set_option maxHeartbeats 8000000 in
/-- A live point that copies its expert's weights first. -/
noncomputable def runLR (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S415.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32)
    (k0_h1 : ¬(k0_cond1 i (nbWord (F := F) T1) = 1#1)) (hc1 : (recastWord (F := F) i T0 = 1#1)) (k0_h3 : (k0_cond3 i (nbWord (F := F) T1) = 1#1)) :
    Σ' (out0 : List (View.Piece (Elt F) S4096x128 .f32)) (out1 : Buf (Elt F) ((c : Thread nD τ).loc cc0_scratch0)), { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tb0.view.loc (c : Thread nD τ) ↦{fullShare.right} T0)
          ∗ (tb1.view.loc (c : Thread nD τ) ↦{fullShare.right} T1)
          ∗ (∃ d, owns (c : Thread nD τ) arg8 fullShare d)
          ∗ (sc0.view.loc (c : Thread nD τ) ↦{fullShare} xa0)
          ∗ (sc1.view.loc (c : Thread nD τ) ↦{fullShare} xa1)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tb0.view.loc (c : Thread nD τ) ↦{fullShare.right} T0)
          ∗ (tb1.view.loc (c : Thread nD τ) ↦{fullShare.right} T1)
              ∗ (∃ f, arg8.view.loc (c : Thread nD τ) ↦[arg8.view.set]{fullShare} arg8.view.writes (Elt F) f out0)
              ∗ (sc0.view.loc (c : Thread nD τ) ↦{fullShare} out1)
              ∗ (sc1.view.loc (c : Thread nD τ) ↦{fullShare} out2)) -∗ K ⟨⟩))
          ⊢ wp frame (wpE (defs₀ (F := F)) Variants.none c none) Set.univ (cc0_moe_experts i tb0 (Memref.isWhole_whole _) tb1 (Memref.isWhole_whole _) arg3 harg3 arg4 harg4 arg5 harg5 arg6 harg6 arg7 harg7 arg8 harg8 sc0 (Memref.isWhole_whole _) sc1 (Memref.isWhole_whole _)) K } :=
  ⟨_, _, _, fun xa0 xa1 K => by
    unfold owns
    rw [cc0_moe_experts_eq_skeleton]; unfold cc0_moe_experts_skel
    iintro ⟨H0, H1, H2, H3, H4, HT0, HT1, ⟨%d5, %f5, -, HO5⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = (Scalar.cmpi _ _ _ = _); exact hc1) | (guard_target = (k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

set_option backward.proofsInPublic true in
set_option maxHeartbeats 8000000 in
/-- A live point of the same expert as the point before: it reads the weights the scratch buffers hold. -/
noncomputable def runLK (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S415.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32) (xa0 : Buf (Elt F) ((c : Thread nD τ).loc cc0_scratch0)) (xa1 : Buf (Elt F) ((c : Thread nD τ).loc cc0_scratch1))
    (k0_h1 : ¬(k0_cond1 i (nbWord (F := F) T1) = 1#1)) (hc1 : ¬(recastWord (F := F) i T0 = 1#1)) (k0_h3 : (k0_cond3 i (nbWord (F := F) T1) = 1#1)) :
    { out0 : List (View.Piece (Elt F) S4096x128 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tb0.view.loc (c : Thread nD τ) ↦{fullShare.right} T0)
          ∗ (tb1.view.loc (c : Thread nD τ) ↦{fullShare.right} T1)
          ∗ (∃ d, owns (c : Thread nD τ) arg8 fullShare d)
          ∗ (sc0.view.loc (c : Thread nD τ) ↦{fullShare} xa0)
          ∗ (sc1.view.loc (c : Thread nD τ) ↦{fullShare} xa1)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tb0.view.loc (c : Thread nD τ) ↦{fullShare.right} T0)
          ∗ (tb1.view.loc (c : Thread nD τ) ↦{fullShare.right} T1)
              ∗ (∃ f, arg8.view.loc (c : Thread nD τ) ↦[arg8.view.set]{fullShare} arg8.view.writes (Elt F) f out0)
              ∗ (sc0.view.loc (c : Thread nD τ) ↦{fullShare} xa0)
              ∗ (sc1.view.loc (c : Thread nD τ) ↦{fullShare} xa1)) -∗ K ⟨⟩))
          ⊢ wp frame (wpE (defs₀ (F := F)) Variants.none c none) Set.univ (cc0_moe_experts i tb0 (Memref.isWhole_whole _) tb1 (Memref.isWhole_whole _) arg3 harg3 arg4 harg4 arg5 harg5 arg6 harg6 arg7 harg7 arg8 harg8 sc0 (Memref.isWhole_whole _) sc1 (Memref.isWhole_whole _)) K } :=
  ⟨_, fun K => by
    unfold owns
    rw [cc0_moe_experts_eq_skeleton]; unfold cc0_moe_experts_skel
    iintro ⟨H0, H1, H2, H3, H4, HT0, HT1, ⟨%d5, %f5, -, HO5⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | (guard_target = ¬(k0_cond1 _ _ = _); exact k0_h1) | (guard_target = ¬(Scalar.cmpi _ _ _ = _); exact hc1) | (guard_target = (k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

set_option backward.proofsInPublic true in
set_option maxHeartbeats 8000000 in
/-- A point past the blocks in use that still copies its expert's weights. -/
noncomputable def runDR (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S415.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32)
    (k0_h1 : (k0_cond1 i (nbWord (F := F) T1) = 1#1)) (hc1 : (recastWord (F := F) i T0 = 1#1)) (k0_h3 : ¬(k0_cond3 i (nbWord (F := F) T1) = 1#1)) :
    Σ' (out0 : List (View.Piece (Elt F) S4096x128 .f32)) (out1 : Buf (Elt F) ((c : Thread nD τ).loc cc0_scratch0)), { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tb0.view.loc (c : Thread nD τ) ↦{fullShare.right} T0)
          ∗ (tb1.view.loc (c : Thread nD τ) ↦{fullShare.right} T1)
          ∗ (∃ d, owns (c : Thread nD τ) arg8 fullShare d)
          ∗ (sc0.view.loc (c : Thread nD τ) ↦{fullShare} xa0)
          ∗ (sc1.view.loc (c : Thread nD τ) ↦{fullShare} xa1)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tb0.view.loc (c : Thread nD τ) ↦{fullShare.right} T0)
          ∗ (tb1.view.loc (c : Thread nD τ) ↦{fullShare.right} T1)
              ∗ (∃ f, arg8.view.loc (c : Thread nD τ) ↦[arg8.view.set]{fullShare} arg8.view.writes (Elt F) f out0)
              ∗ (sc0.view.loc (c : Thread nD τ) ↦{fullShare} out1)
              ∗ (sc1.view.loc (c : Thread nD τ) ↦{fullShare} out2)) -∗ K ⟨⟩))
          ⊢ wp frame (wpE (defs₀ (F := F)) Variants.none c none) Set.univ (cc0_moe_experts i tb0 (Memref.isWhole_whole _) tb1 (Memref.isWhole_whole _) arg3 harg3 arg4 harg4 arg5 harg5 arg6 harg6 arg7 harg7 arg8 harg8 sc0 (Memref.isWhole_whole _) sc1 (Memref.isWhole_whole _)) K } :=
  ⟨_, _, _, fun xa0 xa1 K => by
    unfold owns
    rw [cc0_moe_experts_eq_skeleton]; unfold cc0_moe_experts_skel
    iintro ⟨H0, H1, H2, H3, H4, HT0, HT1, ⟨%d5, %f5, -, HO5⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | (guard_target = (k0_cond1 _ _ = _); exact k0_h1) | (guard_target = (Scalar.cmpi _ _ _ = _); exact hc1) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

set_option backward.proofsInPublic true in
set_option maxHeartbeats 8000000 in
/-- A point past the blocks in use, of the same expert as the point before. -/
noncomputable def runDK (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S415.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32) (xa0 : Buf (Elt F) ((c : Thread nD τ).loc cc0_scratch0)) (xa1 : Buf (Elt F) ((c : Thread nD τ).loc cc0_scratch1))
    (k0_h1 : (k0_cond1 i (nbWord (F := F) T1) = 1#1)) (hc1 : ¬(recastWord (F := F) i T0 = 1#1)) (k0_h3 : ¬(k0_cond3 i (nbWord (F := F) T1) = 1#1)) :
    { out0 : List (View.Piece (Elt F) S4096x128 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tb0.view.loc (c : Thread nD τ) ↦{fullShare.right} T0)
          ∗ (tb1.view.loc (c : Thread nD τ) ↦{fullShare.right} T1)
          ∗ (∃ d, owns (c : Thread nD τ) arg8 fullShare d)
          ∗ (sc0.view.loc (c : Thread nD τ) ↦{fullShare} xa0)
          ∗ (sc1.view.loc (c : Thread nD τ) ↦{fullShare} xa1)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tb0.view.loc (c : Thread nD τ) ↦{fullShare.right} T0)
          ∗ (tb1.view.loc (c : Thread nD τ) ↦{fullShare.right} T1)
              ∗ (∃ f, arg8.view.loc (c : Thread nD τ) ↦[arg8.view.set]{fullShare} arg8.view.writes (Elt F) f out0)
              ∗ (sc0.view.loc (c : Thread nD τ) ↦{fullShare} xa0)
              ∗ (sc1.view.loc (c : Thread nD τ) ↦{fullShare} xa1)) -∗ K ⟨⟩))
          ⊢ wp frame (wpE (defs₀ (F := F)) Variants.none c none) Set.univ (cc0_moe_experts i tb0 (Memref.isWhole_whole _) tb1 (Memref.isWhole_whole _) arg3 harg3 arg4 harg4 arg5 harg5 arg6 harg6 arg7 harg7 arg8 harg8 sc0 (Memref.isWhole_whole _) sc1 (Memref.isWhole_whole _)) K } :=
  ⟨_, fun K => by
    unfold owns
    rw [cc0_moe_experts_eq_skeleton]; unfold cc0_moe_experts_skel
    iintro ⟨H0, H1, H2, H3, H4, HT0, HT1, ⟨%d5, %f5, -, HO5⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | (guard_target = (k0_cond1 _ _ = _); exact k0_h1) | (guard_target = ¬(Scalar.cmpi _ _ _ = _); exact hc1) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

end Cert.KernelIdeal.Hand
-- ==== Proof.IdealContents.lean ====
module

public import proofs.«01_k».proof.Proof.IdealBody
public import Idealize.ShloMosaic.Lib.VecWindow
public import Idealize.ShloMosaic.Lib.ValueLayout

/-! # What a grid point leaves, in closed form

The scratch buffers after a copy hold the point's weights rounded to the narrow format (`castGu`, `castD`).  The output
block of a live point is `liveOut`: row `8 r + j` of the block is columns `128 j … 128 j + 127` of row `r` of the point's
512 by 1024 result.  The block of a point past the blocks in use is zero. -/

@[expose] public section

set_option maxRecDepth 16384
set_option Elab.async false

noncomputable section

namespace Cert.KernelIdeal.Hand

open Cert.KernelIdeal Cert.KernelIdeal.Gen
open Idealize.ShloMosaic Idealize.ShloMosaic.ValueIdx
open Idealize.ShloMosaic.TcCoe Idealize.ShloMosaic.Tactic

variable {F : FTy → Type} [FloatOps F]

/-- The first weights of a block, rounded. -/
def castGu (x1 : S1x1024x2048.Idx → Elt F .f32) : S1024x2048.Idx → Elt F .bf16 :=
  fun y => truncf .bf16 x1 bitsLt_bf16_f32 (ix3 (0 : Fin 1) (y 0) (y 1))

/-- The second weights of a block, rounded. -/
def castD (x3 : S1x1024x1024.Idx → Elt F .f32) : S1024x1024.Idx → Elt F .bf16 :=
  fun y => truncf .bf16 x3 bitsLt_bf16_f32 (ix3 (0 : Fin 1) (y 0) (y 1))

/-- Every eighth row of the point's rows, from row `j` on. -/
abbrev rows (j : ℕ) (inb : ∀ a, S512x128.size a = 0 ∨ (![j, 0] : Fin 2 → ℕ) a + (![8, 1] : Fin 2 → ℕ) a * (S512x128.size a - 1) < S4096x128.size a) (x0 : S4096x128.Idx → Elt F .f32) : S512x128.Idx → Elt F .f32 :=
  fun y => x0 ((⟨![j, 0], S512x128.size, ![8, 1], inb⟩ : LoadRect S4096x128).idx y)

/-- The sum of the gate half: rows times the first half of the weights, plus its bias. -/
def gateOf (a0 : S1024x2048.Idx → Elt F .bf16) (x0 : S4096x128.Idx → Elt F .f32) (x2 : S1x1x2048.Idx → Elt F .f32) : S512x1024.Idx → Elt F .f32 :=
  k0_pay22 (rows 0 inb_S4096x128_S512x128_0_0_s_8_1 x0) (rows 1 inb_S4096x128_S512x128_1_0_s_8_1 x0) (rows 2 inb_S4096x128_S512x128_2_0_s_8_1 x0)
    (rows 3 inb_S4096x128_S512x128_3_0_s_8_1 x0) (rows 4 inb_S4096x128_S512x128_4_0_s_8_1 x0) (rows 5 inb_S4096x128_S512x128_5_0_s_8_1 x0)
    (rows 6 inb_S4096x128_S512x128_6_0_s_8_1 x0) (rows 7 inb_S4096x128_S512x128_7_0_s_8_1 x0)
    (fun y => a0 ((Rect.unit (s := S1024x2048) ![0, 0] S1024x1024.size inb_S1024x2048_S1024x1024_0_0).toLoadRect.idx y))
    (fun y => x2 ((Rect.unit (s := S1x1x2048) ![0, 0, 0] S1x1x1024.size inb_S1x1x2048_S1x1x1024_0_0_0).toLoadRect.idx y))

/-- The sum of the other half. -/
def upOf (a0 : S1024x2048.Idx → Elt F .bf16) (x0 : S4096x128.Idx → Elt F .f32) (x2 : S1x1x2048.Idx → Elt F .f32) : S512x1024.Idx → Elt F .f32 :=
  k0_pay23 (rows 0 inb_S4096x128_S512x128_0_0_s_8_1 x0) (rows 1 inb_S4096x128_S512x128_1_0_s_8_1 x0) (rows 2 inb_S4096x128_S512x128_2_0_s_8_1 x0)
    (rows 3 inb_S4096x128_S512x128_3_0_s_8_1 x0) (rows 4 inb_S4096x128_S512x128_4_0_s_8_1 x0) (rows 5 inb_S4096x128_S512x128_5_0_s_8_1 x0)
    (rows 6 inb_S4096x128_S512x128_6_0_s_8_1 x0) (rows 7 inb_S4096x128_S512x128_7_0_s_8_1 x0)
    (fun y => a0 ((Rect.unit (s := S1024x2048) ![0, 1024] S1024x1024.size inb_S1024x2048_S1024x1024_0_1024).toLoadRect.idx y))
    (fun y => x2 ((Rect.unit (s := S1x1x2048) ![0, 0, 1024] S1x1x1024.size inb_S1x1x2048_S1x1x1024_0_0_1024).toLoadRect.idx y))

/-- The 512 by 1024 result of a live point, from the weights in the scratch buffers, the rows and the two biases. -/
def blockOf (a0 : S1024x2048.Idx → Elt F .bf16) (a1 : S1024x1024.Idx → Elt F .bf16) (x0 : S4096x128.Idx → Elt F .f32)
    (x2 : S1x1x2048.Idx → Elt F .f32) (x4 : S1x1x1024.Idx → Elt F .f32) : S512x1024.Idx → Elt F .f32 :=
  k0_pay24 (k0_pay21 x4) (gateOf a0 x0 x2) (upOf a0 x0 x2) (Scalar.ofBits .f32 0x40E00000#32) a1

/-- A 512 by 1024 array laid out as 4096 rows of 128. -/
def unfold8 (V : S512x1024.Idx → Elt F .f32) : S4096x128.Idx → Elt F .f32 :=
  fun y => V (ix2 (⟨(y 0).val / 8, by have := idx2_lt0 y; omega⟩ : Fin 512)
    (⟨128 * ((y 0).val % 8) + (y 1).val, by have := idx2_lt1 y; omega⟩ : Fin 1024))

/-- The output block of a live point. -/
def liveOut (a0 : S1024x2048.Idx → Elt F .bf16) (a1 : S1024x1024.Idx → Elt F .bf16) (x0 : S4096x128.Idx → Elt F .f32)
    (x2 : S1x1x2048.Idx → Elt F .f32) (x4 : S1x1x1024.Idx → Elt F .f32) : S4096x128.Idx → Elt F .f32 :=
  unfold8 (blockOf a0 a1 x0 x2 x4)

/-! ## The output block: eight stores, one per residue of the row -/

/-- The store of residue `j`. -/
abbrev colRect (j : ℕ) (inb : ∀ a, S512x128.size a = 0 ∨ (![j, 0] : Fin 2 → ℕ) a + (![8, 1] : Fin 2 → ℕ) a * (S512x128.size a - 1) < S4096x128.size a) : Rect S4096x128 := ⟨⟨![j, 0], S512x128.size, ![8, 1], inb⟩, spos_8_1⟩

/-- A column slice stored at residue `j` puts the result's elements where `unfold8` says. -/
theorem slice_agree (V : S512x1024.Idx → Elt F .f32) (j o : ℕ) (hj : j < 8) (ho : o = 128 * j) (inb)
    (hs : S512x1024.Slices ![0, o] S512x128) (x : S512x128.Idx) :
    extractStridedSlice S512x128 ![0, o] V hs x = unfold8 V ((colRect j inb).emb x) := by
  subst ho
  unfold unfold8
  refine extractStridedSlice_apply _ V hs x _ fun a => ?_
  have h0 : ((colRect j inb).emb x 0).val = j + 8 * (x 0).val := rfl
  have h1 : ((colRect j inb).emb x 1).val = 0 + 1 * (x 1).val := rfl
  match a with
  | ⟨0, _⟩ => show ((colRect j inb).emb x 0).val / 8 = 0 + (x 0).val; rw [h0]; omega
  | ⟨1, _⟩ => show 128 * (((colRect j inb).emb x 0).val % 8) + ((colRect j inb).emb x 1).val = 128 * j + (x 1).val; rw [h0, h1]; omega

/-- Rows of residue `j` lie in the store of residue `j`. -/
theorem mem_colRect (j : ℕ) (hj : j < 8) (inb) (y : S4096x128.Idx) (h : (y 0).val % 8 = j) : y ∈ (colRect j inb).set := by
  rw [LoadRect.mem_set]
  have h0 := idx2_lt0 y
  have h1 := idx2_lt1 y
  intro a
  match a with
  | ⟨0, _⟩ => exact ⟨(y 0).val / 8, by show _ < 512; omega, by show (y 0).val = j + 8 * _; omega⟩
  | ⟨1, _⟩ => exact ⟨(y 1).val, h1, by show (y 1).val = 0 + 1 * (y 1).val; omega⟩

/-- Eight column slices stored at the eight residues leave `unfold8` of the result, whatever was there. -/
theorem read_cols {sig' : RefSig} {κ : Kind} {sp : Space} (v : View sig' κ sp S4096x128 .f32) (f : v.ty.Contents (Elt F)) (V : S512x1024.Idx → Elt F .f32)
    (i0 i1 i2 i3 i4 i5 i6 i7 s0 s1 s2 s3 s4 s5 s6 s7) :
    v.read (Elt F) (v.writes (Elt F) f
      [⟨colRect 7 i7, extractStridedSlice S512x128 ![0, 896] V s7⟩, ⟨colRect 6 i6, extractStridedSlice S512x128 ![0, 768] V s6⟩,
       ⟨colRect 5 i5, extractStridedSlice S512x128 ![0, 640] V s5⟩, ⟨colRect 4 i4, extractStridedSlice S512x128 ![0, 512] V s4⟩,
       ⟨colRect 3 i3, extractStridedSlice S512x128 ![0, 384] V s3⟩, ⟨colRect 2 i2, extractStridedSlice S512x128 ![0, 256] V s2⟩,
       ⟨colRect 1 i1, extractStridedSlice S512x128 ![0, 128] V s1⟩, ⟨colRect 0 i0, extractStridedSlice S512x128 ![0, 0] V s0⟩]) = unfold8 V := by
  funext y
  refine View.read_writes_apply_of_pieces v f (unfold8 V) _ ?_ y ?_
  · simp only [List.forall_mem_cons]
    exact ⟨fun x => slice_agree V 7 896 (by omega) rfl i7 s7 x, fun x => slice_agree V 6 768 (by omega) rfl i6 s6 x, fun x => slice_agree V 5 640 (by omega) rfl i5 s5 x,
      fun x => slice_agree V 4 512 (by omega) rfl i4 s4 x, fun x => slice_agree V 3 384 (by omega) rfl i3 s3 x, fun x => slice_agree V 2 256 (by omega) rfl i2 s2 x,
      fun x => slice_agree V 1 128 (by omega) rfl i1 s1 x, fun x => slice_agree V 0 0 (by omega) rfl i0 s0 x, fun _ h => absurd h List.not_mem_nil⟩
  · simp only [List.exists_mem_cons_iff]
    rcases (by omega : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0)
      with h | h | h | h | h | h | h | h
    · exact .inl (mem_colRect 7 (by omega) i7 y h)
    · exact .inr (.inl (mem_colRect 6 (by omega) i6 y h))
    · exact .inr (.inr (.inl (mem_colRect 5 (by omega) i5 y h)))
    · exact .inr (.inr (.inr (.inl (mem_colRect 4 (by omega) i4 y h))))
    · exact .inr (.inr (.inr (.inr (.inl (mem_colRect 3 (by omega) i3 y h)))))
    · exact .inr (.inr (.inr (.inr (.inr (.inl (mem_colRect 2 (by omega) i2 y h))))))
    · exact .inr (.inr (.inr (.inr (.inr (.inr (.inl (mem_colRect 1 (by omega) i1 y h)))))))
    · exact .inr (.inr (.inr (.inr (.inr (.inr (.inr (.inl (mem_colRect 0 (by omega) i0 y h))))))))

/-! ## The scratch buffers: eight bands of 128 rows -/

/-- A band of `W` columns: 128 rows from row `o` on. -/
theorem mem_band {n W : ℕ} (o : ℕ) (inb) (y : (⟨2, ![n, W]⟩ : Shape).Idx) (h : o ≤ (y 0).val) (h' : (y 0).val < o + 128) :
    y ∈ (Rect.unit (s := ⟨2, ![n, W]⟩) ![o, 0] ![128, W] inb).set := by
  rw [LoadRect.mem_set]
  have h1 := idx2_lt1 y
  intro a
  match a with
  | ⟨0, _⟩ => exact ⟨(y 0).val - o, by show _ < 128; omega, by show (y 0).val = o + 1 * _; omega⟩
  | ⟨1, _⟩ => exact ⟨(y 1).val, h1, by show (y 1).val = 0 + 1 * (y 1).val; omega⟩

/-- The rounded band of `W` columns, loaded from the point's weights at row `o` and stored at row `o`. -/
theorem band_agree {W : ℕ} (X : (⟨3, ![1, 1024, W]⟩ : Shape).Idx → Elt F .f32) (o : ℕ) (inb3 inb2)
    (hc : (⟨3, ![1, 128, W]⟩ : Shape).ShapeCasts ⟨2, ![128, W]⟩) (hc' : (⟨2, ![128, W]⟩ : Shape).ShapeCasts ⟨2, ![128, W]⟩)
    (x : (⟨2, ![128, W]⟩ : Shape).Idx) :
    shapeCast (⟨2, ![128, W]⟩ : Shape) (truncf .bf16 (shapeCast (⟨2, ![128, W]⟩ : Shape)
        (fun y => X ((Rect.unit (s := ⟨3, ![1, 1024, W]⟩) ![0, o, 0] ![1, 128, W] inb3).toLoadRect.idx y)) hc) bitsLt_bf16_f32) hc' x
      = truncf .bf16 X bitsLt_bf16_f32 (ix3 (0 : Fin 1) ((Rect.unit (s := ⟨2, ![1024, W]⟩) ![o, 0] ![128, W] inb2).emb x 0) ((Rect.unit (s := ⟨2, ![1024, W]⟩) ![o, 0] ![128, W] inb2).emb x 1)) := by
  obtain ⟨p, q, rfl⟩ : ∃ (p : Fin 128) (q : Fin W), x = ix2 p q := ⟨x 0, x 1, eq_ix2 x⟩
  rw [shapeCast_self]
  refine congrArg (FloatOps.truncf .bf16 bitsLt_bf16_f32) ((shapeCast_1ab_ab_apply _ hc p q).trans (congrArg X (funext fun a => Fin.ext ?_)))
  match a with
  | ⟨0, _⟩ => rfl
  | ⟨1, _⟩ => rfl
  | ⟨2, _⟩ => show 0 + 1 * q.val = 0 + 1 * q.val; rfl

/-- Eight bands of 128 rows, each agreeing with `G`, stored over anything leave `G`. -/
theorem read_bands {W : ℕ} {e : EltTy} {sig' : RefSig} {κ : Kind} {sp : Space} (v : View sig' κ sp ⟨2, ![1024, W]⟩ e) (f : v.ty.Contents (Elt F))
    (G : (⟨2, ![1024, W]⟩ : Shape).Idx → Elt F e) (i0 i1 i2 i3 i4 i5 i6 i7)
    (p0 p1 p2 p3 p4 p5 p6 p7 : (⟨2, ![128, W]⟩ : Shape).Idx → Elt F e)
    (h0 : ∀ x, p0 x = G ((Rect.unit (s := ⟨2, ![1024, W]⟩) ![0, 0] ![128, W] i0).emb x))
    (h1 : ∀ x, p1 x = G ((Rect.unit (s := ⟨2, ![1024, W]⟩) ![128, 0] ![128, W] i1).emb x))
    (h2 : ∀ x, p2 x = G ((Rect.unit (s := ⟨2, ![1024, W]⟩) ![256, 0] ![128, W] i2).emb x))
    (h3 : ∀ x, p3 x = G ((Rect.unit (s := ⟨2, ![1024, W]⟩) ![384, 0] ![128, W] i3).emb x))
    (h4 : ∀ x, p4 x = G ((Rect.unit (s := ⟨2, ![1024, W]⟩) ![512, 0] ![128, W] i4).emb x))
    (h5 : ∀ x, p5 x = G ((Rect.unit (s := ⟨2, ![1024, W]⟩) ![640, 0] ![128, W] i5).emb x))
    (h6 : ∀ x, p6 x = G ((Rect.unit (s := ⟨2, ![1024, W]⟩) ![768, 0] ![128, W] i6).emb x))
    (h7 : ∀ x, p7 x = G ((Rect.unit (s := ⟨2, ![1024, W]⟩) ![896, 0] ![128, W] i7).emb x)) :
    v.read (Elt F) (v.writes (Elt F) f
      [⟨Rect.unit (s := ⟨2, ![1024, W]⟩) ![896, 0] ![128, W] i7, p7⟩, ⟨Rect.unit (s := ⟨2, ![1024, W]⟩) ![768, 0] ![128, W] i6, p6⟩,
       ⟨Rect.unit (s := ⟨2, ![1024, W]⟩) ![640, 0] ![128, W] i5, p5⟩, ⟨Rect.unit (s := ⟨2, ![1024, W]⟩) ![512, 0] ![128, W] i4, p4⟩,
       ⟨Rect.unit (s := ⟨2, ![1024, W]⟩) ![384, 0] ![128, W] i3, p3⟩, ⟨Rect.unit (s := ⟨2, ![1024, W]⟩) ![256, 0] ![128, W] i2, p2⟩,
       ⟨Rect.unit (s := ⟨2, ![1024, W]⟩) ![128, 0] ![128, W] i1, p1⟩, ⟨Rect.unit (s := ⟨2, ![1024, W]⟩) ![0, 0] ![128, W] i0, p0⟩]) = G := by
  funext y
  refine View.read_writes_apply_of_pieces v f G _ ?_ y ?_
  · simp only [List.forall_mem_cons]
    exact ⟨h7, h6, h5, h4, h3, h2, h1, h0, fun _ h => absurd h List.not_mem_nil⟩
  · simp only [List.exists_mem_cons_iff]
    have hy := idx2_lt0 y
    rcases (by omega : 896 ≤ (y 0).val ∨ (768 ≤ (y 0).val ∧ (y 0).val < 896) ∨ (640 ≤ (y 0).val ∧ (y 0).val < 768) ∨ (512 ≤ (y 0).val ∧ (y 0).val < 640)
        ∨ (384 ≤ (y 0).val ∧ (y 0).val < 512) ∨ (256 ≤ (y 0).val ∧ (y 0).val < 384) ∨ (128 ≤ (y 0).val ∧ (y 0).val < 256) ∨ (y 0).val < 128)
      with h | h | h | h | h | h | h | h
    · exact .inl (mem_band 896 i7 y h (by omega))
    · exact .inr (.inl (mem_band 768 i6 y h.1 (by omega)))
    · exact .inr (.inr (.inl (mem_band 640 i5 y h.1 (by omega))))
    · exact .inr (.inr (.inr (.inl (mem_band 512 i4 y h.1 (by omega)))))
    · exact .inr (.inr (.inr (.inr (.inl (mem_band 384 i3 y h.1 (by omega))))))
    · exact .inr (.inr (.inr (.inr (.inr (.inl (mem_band 256 i2 y h.1 (by omega)))))))
    · exact .inr (.inr (.inr (.inr (.inr (.inr (.inl (mem_band 128 i1 y h.1 (by omega))))))))
    · exact .inr (.inr (.inr (.inr (.inr (.inr (.inr (.inl (mem_band 0 i0 y (by omega) (by omega)))))))))

/-- The eight bands the run stores into scratch buffer 0 leave the rounded weights, over anything. -/
theorem runLR_bands0 {sig' : RefSig} {κ : Kind} {sp : Space} (v : View sig' κ sp S1024x2048 .bf16) (f : v.ty.Contents (Elt F))
    (arg4 : Memref sig .tc .vmem S1x1024x2048 .f32) (x1 : S1x1024x2048.Idx → Elt F .f32) :
    v.read (Elt F) (v.writes (Elt F) f (runLR.sl.HS0_8 arg4 x1)) = castGu x1 := by
  refine read_bands v f (castGu x1) _ _ _ _ _ _ _ _ _ _ _ _ _ _ _ _ ?_ ?_ ?_ ?_ ?_ ?_ ?_ ?_ <;>
    (intro x; rw [View.readAt_rep]; exact band_agree x1 _ _ _ _ _ x)

/-- The eight bands the run stores into scratch buffer 1 leave the rounded weights, over anything. -/
theorem runLR_bands1 {sig' : RefSig} {κ : Kind} {sp : Space} (v : View sig' κ sp S1024x1024 .bf16) (f : v.ty.Contents (Elt F))
    (arg6 : Memref sig .tc .vmem S1x1024x1024 .f32) (x3 : S1x1024x1024.Idx → Elt F .f32) :
    v.read (Elt F) (v.writes (Elt F) f (runLR.sl.HS1_8 arg6 x3)) = castD x3 := by
  refine read_bands v f (castD x3) _ _ _ _ _ _ _ _ _ _ _ _ _ _ _ _ ?_ ?_ ?_ ?_ ?_ ?_ ?_ ?_ <;>
    (intro x; rw [View.readAt_rep]; exact band_agree x3 _ _ _ _ _ x)

/-- The eight bands the run stores into scratch buffer 0 leave the rounded weights, over anything. -/
theorem runDR_bands0 {sig' : RefSig} {κ : Kind} {sp : Space} (v : View sig' κ sp S1024x2048 .bf16) (f : v.ty.Contents (Elt F))
    (arg4 : Memref sig .tc .vmem S1x1024x2048 .f32) (x1 : S1x1024x2048.Idx → Elt F .f32) :
    v.read (Elt F) (v.writes (Elt F) f (runDR.sl.HS0_8 arg4 x1)) = castGu x1 := by
  refine read_bands v f (castGu x1) _ _ _ _ _ _ _ _ _ _ _ _ _ _ _ _ ?_ ?_ ?_ ?_ ?_ ?_ ?_ ?_ <;>
    (intro x; rw [View.readAt_rep]; exact band_agree x1 _ _ _ _ _ x)

/-- The eight bands the run stores into scratch buffer 1 leave the rounded weights, over anything. -/
theorem runDR_bands1 {sig' : RefSig} {κ : Kind} {sp : Space} (v : View sig' κ sp S1024x1024 .bf16) (f : v.ty.Contents (Elt F))
    (arg6 : Memref sig .tc .vmem S1x1024x1024 .f32) (x3 : S1x1024x1024.Idx → Elt F .f32) :
    v.read (Elt F) (v.writes (Elt F) f (runDR.sl.HS1_8 arg6 x3)) = castD x3 := by
  refine read_bands v f (castD x3) _ _ _ _ _ _ _ _ _ _ _ _ _ _ _ _ ?_ ?_ ?_ ?_ ?_ ?_ ?_ ?_ <;>
    (intro x; rw [View.readAt_rep]; exact band_agree x3 _ _ _ _ _ x)

end Cert.KernelIdeal.Hand
-- ==== Proof.Sigmoid.lean ====
module

public import Idealize.ShloMosaic.Lib.IdealHost
public import Idealize.ShloMosaic.PureOps.Ideal

/-! # The logistic function by the hyperbolic tangent

`1/2 · tanh (x/2) + 1/2 = 1 / (1 + exp (-x))`, on the reals and at the two infinities. -/

@[expose] public section

noncomputable section

namespace Cert.Sigmoid

open Idealize.ShloMosaic

/-- The word of one half. -/
theorem half_word : Ideal.ofBits .f32 0x3F000000#32 = (((1 : ℝ) / 2 : ℝ) : EReal) := by
  simp [Ideal.ofBits, Ideal.ieee, -EReal.coe_mul]; norm_num

/-- On the reals. -/
theorem real_half (r : ℝ) : (1 / 2 : ℝ) * Real.tanh (1 / 2 * r) + 1 / 2 = (1 + Real.exp (-r))⁻¹ := by
  rw [Real.tanh_eq_sinh_div_cosh, Real.sinh_eq, Real.cosh_eq]
  have e : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add]; simp
  have hp := Real.exp_pos (1 / 2 * r)
  have hn := Real.exp_pos (-(1 / 2 * r))
  rw [e]
  generalize Real.exp (1 / 2 * r) = a at *
  generalize Real.exp (-(1 / 2 * r)) = b at *
  have ha : a = b⁻¹ := eq_inv_of_mul_eq_one_left h1
  subst ha
  field_simp
  ring

/-- On the extended reals. -/
theorem half_tanh (x : EReal) :
    Ideal.ofBits .f32 0x3F000000#32 * Ideal.tanh (Ideal.ofBits .f32 0x3F000000#32 * x) + Ideal.ofBits .f32 0x3F000000#32
      = Ideal.logistic x := by
  rw [half_word]
  induction x using EReal.rec with
  | bot =>
    rw [EReal.coe_mul_bot_of_pos (by norm_num), Ideal.tanh_bot, Ideal.logistic_bot]
    have : (-1 : EReal) = ((-1 : ℝ) : EReal) := by rw [EReal.coe_neg, EReal.coe_one]
    rw [this, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add, real_half]

end Cert.Sigmoid

end
-- ==== Proof.Gather.lean ====
module

public import Idealize.ShloMosaic.Lib.Pointwise
public import Idealize.ShloMosaic.Lib.ValueIdx

/-! # Taking whole blocks of a stack by a table

`x[t]` for a stack `x` of `N` matrices and a table `t` of `n` words is the gather whose result at `(c, p, q)` is
`x (t c, p, q)`, when the word `t c` names a member of the stack. -/

@[expose] public section

noncomputable section

namespace Cert.Gather

open Idealize.ShloMosaic

/-- The dimension numbers of taking matrices `[A, B]` out of a stack `[N, A, B]` by a column of `n` words. -/
abbrev stackDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- The gather at `(c, p, q)` is the stack's member the word `c` names, at `(p, q)`. -/
theorem gather_stack {α : Type} {N A B n : Nat}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (p : Fin A) (q : Fin B) (b : Fin N)
    (hb : (idx (ix2 c (0 : Fin 1))).toInt = (b.val : ℤ)) :
    Host.gather (stackDims N A B n wf) x idx (ix3 c p q) = x (ix3 b p q) := by
  unfold Host.gather
  refine congrArg x (funext fun a => Fin.ext ?_)
  show (stackDims N A B n wf).start (ix3 c p q) idx a + (stackDims N A B n wf).batchCoord (ix3 c p q) a
    + (stackDims N A B n wf).offCoord (ix3 c p q) a = _
  rw [GatherDims.batchCoord_eq_zero _ _ _ List.not_mem_nil, Nat.add_zero]
  have hbl := b.isLt
  match a with
  | ⟨0, _⟩ =>
    have hm : (0 : Fin 3) ∈ (stackDims N A B n wf).startIndexMap := List.mem_singleton.mpr rfl
    show (stackDims N A B n wf).start (ix3 c p q) idx 0 + (stackDims N A B n wf).offCoord (ix3 c p q) 0 = b.val
    rw [GatherDims.offCoord_eq_zero _ _ _ (fun h => ((GatherDims.mem_sKept _ _).mp h).1 (List.mem_singleton.mpr rfl)), Nat.add_zero]
    unfold GatherDims.start
    rw [dif_pos hm]
    have hsi : (stackDims N A B n wf).siIdx (ix3 c p q) ⟨List.idxOf (0 : Fin 3) (stackDims N A B n wf).startIndexMap,
        List.idxOf_lt_length_iff.2 hm⟩ = ix2 c (0 : Fin 1) := by
      funext k; refine Fin.ext ?_
      match k with
      | ⟨0, _⟩ => rfl
      | ⟨1, _⟩ => rfl
    rw [hsi, hb]
    show min ((b.val : ℤ)).toNat (N - 1) = b.val
    omega
  | ⟨1, _⟩ =>
    have hk : (1 : Fin 3) ∈ (stackDims N A B n wf).sKept :=
      (GatherDims.mem_sKept _ _).2 ⟨(by decide : (1 : Fin 3) ∉ [(0 : Fin 3)]), List.not_mem_nil⟩
    have hm : (1 : Fin 3) ∉ (stackDims N A B n wf).startIndexMap := (by decide : (1 : Fin 3) ∉ [(0 : Fin 3)])
    show (stackDims N A B n wf).start (ix3 c p q) idx 1 + (stackDims N A B n wf).offCoord (ix3 c p q) 1 = p.val
    unfold GatherDims.start GatherDims.offCoord
    rw [dif_neg hm, dif_pos hk, Nat.zero_add]
    rfl
  | ⟨2, _⟩ =>
    have hk : (2 : Fin 3) ∈ (stackDims N A B n wf).sKept :=
      (GatherDims.mem_sKept _ _).2 ⟨(by decide : (2 : Fin 3) ∉ [(0 : Fin 3)]), List.not_mem_nil⟩
    have hm : (2 : Fin 3) ∉ (stackDims N A B n wf).startIndexMap := (by decide : (2 : Fin 3) ∉ [(0 : Fin 3)])
    show (stackDims N A B n wf).start (ix3 c p q) idx 2 + (stackDims N A B n wf).offCoord (ix3 c p q) 2 = q.val
    unfold GatherDims.start GatherDims.offCoord
    rw [dif_neg hm, dif_pos hk, Nat.zero_add]
    rfl

end Cert.Gather

end
-- ==== Proof.RefValue.lean ====
module

public import proofs.«01_k».proof.Proof.Gen.ReferenceIdeal.Run
public import proofs.«01_k».proof.Proof.Gather
public import Idealize.ShloMosaic.Lib.Pointwise

/-! # What the reference computes, read at an index

The reference's arrays in the order it makes them: each block's expert number as a column, the gate-and-up product, the
activation, the down product, and the rows of the blocks in use.  Each is given by its entries. -/

@[expose] public section

set_option maxRecDepth 8192
set_option Elab.async false

noncomputable section

namespace Cert.RefValue

open Cert.ReferenceIdeal Cert.ReferenceIdeal.Facts₀ Cert.ReferenceIdeal.Facts
open Idealize.ShloMosaic Idealize.ShloMosaic.TcCoe

variable (xs : FVec Ideal S1699840x128 .f32) (be : IVec S415 32) (nb : IVec S1 32)
variable (wgu : FVec Ideal S32x1024x2048 .f32) (bgu : FVec Ideal S32x1x2048 .f32)
variable (wd : FVec Ideal S32x1024x1024 .f32) (bd : FVec Ideal S32x1x1024 .f32)

/-- The expert numbers as a column, a negative one counted from the end. -/
def col : IVec S415x1 32 :=
  broadcastInDim S415x1 ![0] bcast_S415_S415x1_0 (select (cmpi .slt be (broadcastInDim S415 ![] bcast_S_S415 (constantI S_ 32 0#32))) (addi be (broadcastInDim S415 ![] bcast_S_S415 (constantI S_ 32 32#32))) be)

/-- Gate and up together, before the activation. -/
def gu : FVec Ideal S415x512x2048 .f32 :=
  addf (Host.dotGeneral dot_S415x512x1024_S415x1024x2048_S415x512x2048_2_1_1_2_0_0 none (shapeCast _ xs shapeCasts_S1699840x128_S415x512x1024) (Host.gather gather_S32x1024x2048_S415x1_S415x1024x2048_12_0_n_n_0_1_110242048 wgu (col be))) (broadcastInDim S415x512x2048 ![0, 1, 2] bcast_S415x1x2048_S415x512x2048_0_1_2 (Host.gather gather_S32x1x2048_S415x1_S415x1x2048_12_0_n_n_0_1_112048 bgu (col be)))

/-- The activation of a gate-and-up array. -/
def act (G : FVec Ideal S415x512x2048 .f32) : FVec Ideal S415x512x1024 .f32 :=
  mulf (addf (minimumf (broadcastInDim S415x512x1024 ![] bcast_S_S415x512x1024 (id (constant S_ .f32 0x40E00000#32))) (maximumf (broadcastInDim S415x512x1024 ![] bcast_S_S415x512x1024 (id (constant S_ .f32 0xC0E00000#32))) (extractStridedSlice S415x512x1024 ![0, 0, 1024] G slices_S415x512x2048_S415x512x1024_0_0_1024))) (broadcastInDim S415x512x1024 ![] bcast_S_S415x512x1024 (constant S_ .f32 0x3F800000#32))) (mulf (minimumf (extractStridedSlice S415x512x1024 ![0, 0, 0] G slices_S415x512x2048_S415x512x1024_0_0_0) (broadcastInDim S415x512x1024 ![] bcast_S_S415x512x1024 (constant S_ .f32 0x40E00000#32))) (Host.divf (broadcastInDim S415x512x1024 ![] bcast_S_S415x512x1024 (constant S_ .f32 0x3F800000#32)) (addf (broadcastInDim S415x512x1024 ![] bcast_S_S415x512x1024 (constant S_ .f32 0x3F800000#32)) (Host.exp (Host.negf (mulf (minimumf (extractStridedSlice S415x512x1024 ![0, 0, 0] G slices_S415x512x2048_S415x512x1024_0_0_0) (broadcastInDim S415x512x1024 ![] bcast_S_S415x512x1024 (constant S_ .f32 0x40E00000#32))) (broadcastInDim S415x512x1024 ![] bcast_S_S415x512x1024 (constant S_ .f32 0x3FD9DB23#32))))))))

/-- The down product of an activation. -/
def down (A : FVec Ideal S415x512x1024 .f32) : FVec Ideal S415x512x1024 .f32 :=
  addf (Host.dotGeneral dot_S415x512x1024_S415x1024x1024_S415x512x1024_2_1_1_2_0_0 none A (Host.gather gather_S32x1024x1024_S415x1_S415x1024x1024_12_0_n_n_0_1_110241024 wd (col be))) (broadcastInDim S415x512x1024 ![0, 1, 2] bcast_S415x1x1024_S415x512x1024_0_1_2 (Host.gather gather_S32x1x1024_S415x1_S415x1x1024_12_0_n_n_0_1_111024 bd (col be)))

/-- Which blocks are in use. -/
def used : IVec S415x512x1024 1 :=
  broadcastInDim S415x512x1024 ![0, 1, 2] bcast_S415x1x1_S415x512x1024_0_1_2 (cmpi .slt (broadcastInDim S415x1x1 ![0] bcast_S415_S415x1x1_0 (iotaInDim S415 32 0)) (broadcastInDim S415x1x1 ![] bcast_S_S415x1x1 (shapeCast _ nb shapeCasts_S1_S_)))

/-- The result. -/
def out : FVec Ideal S1699840x128 .f32 :=
  shapeCast _ (select (used nb) (down be wd bd (act (gu xs be wgu bgu))) (broadcastInDim S415x512x1024 ![] bcast_S_S415x512x1024 (id (constant S_ .f32 0x00000000#32)))) shapeCasts_S415x512x1024_S1699840x128

/-- The reference's result is `out` of its arguments. -/
theorem res_eq (m : (ℓ : Loc nD τ sig) → Buf (Elt Ideal) ℓ) (c : Dev nD) :
    Value.res_main_v58 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold Value.res_main_v58 out used down act gu col
  rfl

/-! ## The entries -/

/-- The row and lane of the packed rows that hold feature `k` of row `p` of block `b`. -/
def packRow (b : Fin 415) (p : Fin 512) (k : Fin 1024) : Fin 1699840 := ⟨4096 * b.val + 8 * p.val + k.val / 128, by omega⟩
def packLane (k : Fin 1024) : Fin 128 := ⟨k.val % 128, by omega⟩

theorem col_apply (b : Fin 415) (e : Fin 32) (he : (be (ix1 b)).toNat = e.val) : (col be (ix2 b (0 : Fin 1))).toInt = (e.val : ℤ) := by
  have h32 := e.isLt
  have hi : (be (ix1 b)).toInt = (e.val : ℤ) := by rw [BitVec.toInt_eq_toNat_cond, he]; split <;> omega
  have hs : ¬ (be (ix1 b)).slt 0#32 = true := by
    simp only [BitVec.slt_eq_decide, decide_eq_true_eq, hi, BitVec.toInt_zero]; omega
  have hc : IntOp.cmpi .slt (be (ix1 b)) 0#32 = 0#1 := by
    unfold IntOp.cmpi; simp only [hs]; rfl
  have : col be (ix2 b (0 : Fin 1)) = Scalar.select (IntOp.cmpi .slt (be (ix1 b)) 0#32) (IntOp.addi (be (ix1 b)) 32#32) (be (ix1 b)) := by
    unfold col
    pointwise
  rw [this, hc]
  exact hi

theorem rows_apply (b : Fin 415) (p : Fin 512) (k : Fin 1024) :
    shapeCast S415x512x1024 xs shapeCasts_S1699840x128_S415x512x1024 (ix3 b p k) = xs (ix2 (packRow b p k) (packLane k)) := by
  refine shapeCast_apply _ _ _ _ ?_
  rw [Shape.rowMajor_val_two, Shape.rowMajor_val_three]
  show (4096 * b.val + 8 * p.val + k.val / 128) * 128 + k.val % 128 = (b.val * 512 + p.val) * 1024 + k.val
  omega

theorem gu_apply (b : Fin 415) (e : Fin 32) (he : (be (ix1 b)).toNat = e.val) (p : Fin 512) (f : Fin 2048) :
    gu xs be wgu bgu (ix3 b p f)
      = (∑ k : Fin 1024, xs (ix2 (packRow b p k) (packLane k)) * wgu (ix3 e k f)) + bgu (ix3 e (0 : Fin 1) f) := by
  have hc := col_apply be b e he
  have h1 : ∀ k : Fin 1024, Host.gather gather_S32x1024x2048_S415x1_S415x1024x2048_12_0_n_n_0_1_110242048 wgu (col be) (ix3 b k f) = wgu (ix3 e k f) :=
    fun k => Gather.gather_stack _ wgu (col be) b k f e hc
  have h2 : Host.gather gather_S32x1x2048_S415x1_S415x1x2048_12_0_n_n_0_1_112048 bgu (col be) (ix3 b (0 : Fin 1) f) = bgu (ix3 e (0 : Fin 1) f) :=
    Gather.gather_stack _ bgu (col be) b 0 f e hc
  have hx := rows_apply xs b p
  unfold gu
  generalize Host.gather gather_S32x1024x2048_S415x1_S415x1024x2048_12_0_n_n_0_1_110242048 wgu (col be) = W at *
  generalize Host.gather gather_S32x1x2048_S415x1_S415x1x2048_12_0_n_n_0_1_112048 bgu (col be) = V at *
  generalize shapeCast S415x512x1024 xs shapeCasts_S1699840x128_S415x512x1024 = X at *
  have : addf (Host.dotGeneral dot_S415x512x1024_S415x1024x2048_S415x512x2048_2_1_1_2_0_0 none X W) (broadcastInDim S415x512x2048 ![0, 1, 2] bcast_S415x1x2048_S415x512x2048_0_1_2 V) (ix3 b p f)
      = (∑ k : Fin 1024, X (ix3 b p k) * W (ix3 b k f)) + V (ix3 b (0 : Fin 1) f) := by
    pointwise
  rw [this, h2]
  simp only [h1, hx]

/-- The activation of one gate and one up value. -/
def actOf (g u : EReal) : EReal :=
  (min (Ideal.ofBits .f32 0x40E00000#32) (max (Ideal.ofBits .f32 0xC0E00000#32) u) + 1)
    * (min g (Ideal.ofBits .f32 0x40E00000#32) * Ideal.logistic (min g (Ideal.ofBits .f32 0x40E00000#32) * Ideal.ofBits .f32 0x3FD9DB23#32))

/-- The up half of the columns. -/
def up (f : Fin 1024) : Fin 2048 := ⟨1024 + f.val, by omega⟩
/-- The gate half. -/
def gate (f : Fin 1024) : Fin 2048 := ⟨f.val, by omega⟩

theorem act_apply (G : FVec Ideal S415x512x2048 .f32) (b : Fin 415) (p : Fin 512) (f : Fin 1024) :
    act G (ix3 b p f) = actOf (G (ix3 b p (gate f))) (G (ix3 b p (up f))) := by
  unfold act
  pointwise
  unfold actOf Ideal.logistic
  rfl

theorem down_apply (A : FVec Ideal S415x512x1024 .f32) (b : Fin 415) (e : Fin 32) (he : (be (ix1 b)).toNat = e.val) (p : Fin 512) (d : Fin 1024) :
    down be wd bd A (ix3 b p d) = (∑ f : Fin 1024, A (ix3 b p f) * wd (ix3 e f d)) + bd (ix3 e (0 : Fin 1) d) := by
  have hc := col_apply be b e he
  have h1 : ∀ k : Fin 1024, Host.gather gather_S32x1024x1024_S415x1_S415x1024x1024_12_0_n_n_0_1_110241024 wd (col be) (ix3 b k d) = wd (ix3 e k d) :=
    fun k => Gather.gather_stack _ wd (col be) b k d e hc
  have h2 : Host.gather gather_S32x1x1024_S415x1_S415x1x1024_12_0_n_n_0_1_111024 bd (col be) (ix3 b (0 : Fin 1) d) = bd (ix3 e (0 : Fin 1) d) :=
    Gather.gather_stack _ bd (col be) b 0 d e hc
  unfold down
  generalize Host.gather gather_S32x1024x1024_S415x1_S415x1024x1024_12_0_n_n_0_1_110241024 wd (col be) = W at *
  generalize Host.gather gather_S32x1x1024_S415x1_S415x1x1024_12_0_n_n_0_1_111024 bd (col be) = V at *
  have : addf (Host.dotGeneral dot_S415x512x1024_S415x1024x1024_S415x512x1024_2_1_1_2_0_0 none A W) (broadcastInDim S415x512x1024 ![0, 1, 2] bcast_S415x1x1024_S415x512x1024_0_1_2 V) (ix3 b p d)
      = (∑ k : Fin 1024, A (ix3 b p k) * W (ix3 b k d)) + V (ix3 b (0 : Fin 1) d) := by
    pointwise
  rw [this, h2]
  simp only [h1]

theorem used_apply (b : Fin 415) (p : Fin 512) (d : Fin 1024) :
    used nb (ix3 b p d) = IntOp.cmpi .slt (BitVec.ofNat 32 b.val) (nb (ix1 (0 : Fin 1))) := by
  unfold used
  pointwise

/-- The result at row `8 p + j` of block `b`, lane `q`: the block's output at row `p` and column `128 j + q` when the block is in
    use, zero when it is not. -/
def cell (b : Fin 415) (p : Fin 512) (j : Fin 8) (q : Fin 128) : Fin 1699840 × Fin 128 := (⟨4096 * b.val + 8 * p.val + j.val, by omega⟩, q)

/-- Column `128 j + q`. -/
def lane (j : Fin 8) (q : Fin 128) : Fin 1024 := ⟨128 * j.val + q.val, by omega⟩

/-- One value before the activation. -/
def guOf (b : Fin 415) (e : Fin 32) (p : Fin 512) (f : Fin 2048) : EReal :=
  (∑ k : Fin 1024, xs (ix2 (packRow b p k) (packLane k)) * wgu (ix3 e k f)) + bgu (ix3 e (0 : Fin 1) f)

/-- One value of the expert's output. -/
def outOf (b : Fin 415) (e : Fin 32) (p : Fin 512) (d : Fin 1024) : EReal :=
  (∑ f : Fin 1024, actOf (guOf xs wgu bgu b e p (gate f)) (guOf xs wgu bgu b e p (up f)) * wd (ix3 e f d)) + bd (ix3 e (0 : Fin 1) d)

theorem out_apply (b : Fin 415) (e : Fin 32) (he : (be (ix1 b)).toNat = e.val) (p : Fin 512) (j : Fin 8) (q : Fin 128) :
    out xs be nb wgu bgu wd bd (ix2 (cell b p j q).1 (cell b p j q).2)
      = if IntOp.cmpi .slt (BitVec.ofNat 32 b.val) (nb (ix1 (0 : Fin 1))) = 1#1 then outOf xs wgu bgu wd bd b e p (lane j q) else 0 := by
  unfold out
  rw [shapeCast_apply _ _ _ (ix3 b p (lane j q)) (by
    rw [Shape.rowMajor_val_two, Shape.rowMajor_val_three]
    show (b.val * 512 + p.val) * 1024 + (128 * j.val + q.val) = (4096 * b.val + 8 * p.val + j.val) * 128 + q.val
    omega)]
  show (if used nb (ix3 b p (lane j q)) = 1#1 then down be wd bd (act (gu xs be wgu bgu)) (ix3 b p (lane j q)) else Ideal.ofBits .f32 0x00000000#32) = _
  rw [used_apply, down_apply be wd bd _ b e he, Ideal.ofBits_zero_f32]
  simp only [act_apply, gu_apply xs be wgu bgu b e he]
  rfl

end Cert.RefValue

end
-- ==== Proof.IdealPay.lean ====
module

public import proofs.«01_k».proof.Proof.IdealContents
public import proofs.«01_k».proof.Proof.Sigmoid
public import proofs.«01_k».proof.Proof.RefValue
public import Idealize.ShloMosaic.Lib.Pointwise

/-! # The idealised block, read at an index

A live point's block of 512 by 1024 results, at row `p` and column `d`: the expert's output of row `p`, from the point's
rows, weights and biases. -/

@[expose] public section

set_option maxRecDepth 16384
set_option Elab.async false

noncomputable section

namespace Cert.KernelIdeal.Hand

open Cert.KernelIdeal Cert.KernelIdeal.Gen Cert.RefValue
open Idealize.ShloMosaic Idealize.ShloMosaic.TcCoe

/-- The row of the point's 4096 rows that holds feature `k` of row `p`. -/
def subRow (p : Fin 512) (k : Fin 1024) : Fin 4096 := ⟨8 * p.val + k.val / 128, by omega⟩

/-- Row `p` of residue `j`. -/
theorem rows_apply (j : ℕ) (inb) (x0 : S4096x128.Idx → Elt Ideal .f32) (p : Fin 512) (q : Fin 128) (r : Fin 4096) (hr : r.val = j + 8 * p.val) :
    rows j inb x0 (ix2 p q) = x0 (ix2 r q) := by
  unfold rows
  refine congrArg x0 (funext fun a => Fin.ext ?_)
  match a with
  | ⟨0, _⟩ => exact hr.symm
  | ⟨1, _⟩ => show 0 + 1 * q.val = q.val; omega

/-- The eight residues side by side are the packed rows unpacked. -/
theorem cat_apply (x0 : S4096x128.Idx → Elt Ideal .f32) (i0 i1 i2 i3 i4 i5 i6 i7) (p : Fin 512) (k : Fin 1024) :
    k0_pay20 (F := Ideal) (rows 0 i0 x0) (rows 1 i1 x0) (rows 2 i2 x0) (rows 3 i3 x0) (rows 4 i4 x0) (rows 5 i5 x0) (rows 6 i6 x0) (rows 7 i7 x0) (ix2 p k)
      = x0 (ix2 (subRow p k) (packLane k)) := by
  have key : ∀ (X : ℕ → S512x128.Idx → Elt Ideal .f32),
      (∀ j p q (r : Fin 4096), j < 8 → r.val = j + 8 * p.val → X j (ix2 p q) = x0 (ix2 r q)) →
      k0_pay20 (F := Ideal) (X 0) (X 1) (X 2) (X 3) (X 4) (X 5) (X 6) (X 7) (ix2 p k) = x0 (ix2 (subRow p k) (packLane k)) := by
    intro X hX
    have e : ∀ j (hj : j < 8) (l : Fin 128), 128 * j + l.val = k.val → X j (ix2 p l) = x0 (ix2 (subRow p k) (packLane k)) := by
      intro j hj l hl
      have h1 : l = packLane k := Fin.ext (by show l.val = k.val % 128; omega)
      rw [h1]
      exact hX j p _ _ hj (by show 8 * p.val + k.val / 128 = j + 8 * p.val; omega)
    unfold k0_pay20
    pointwise
    have hk := k.isLt
    repeat' split
    · exact e 0 (by omega) _ (by simp only; omega)
    · exact e 1 (by omega) _ (by simp only; omega)
    · exact e 2 (by omega) _ (by simp only; omega)
    · exact e 3 (by omega) _ (by simp only; omega)
    · exact e 4 (by omega) _ (by simp only; omega)
    · exact e 5 (by omega) _ (by simp only; omega)
    · exact e 6 (by omega) _ (by simp only; omega)
    · exact e 7 (by omega) _ (by simp only; omega)
  refine key (fun j => match j with | 0 => rows 0 i0 x0 | 1 => rows 1 i1 x0 | 2 => rows 2 i2 x0 | 3 => rows 3 i3 x0 | 4 => rows 4 i4 x0 | 5 => rows 5 i5 x0 | 6 => rows 6 i6 x0 | _ => rows 7 i7 x0) ?_
  intro j p q r hj hr
  match j, hj with
  | 0, _ | 1, _ | 2, _ | 3, _ | 4, _ | 5, _ | 6, _ | 7, _ => exact rows_apply _ _ x0 p q r hr

/-- A product with a bias row, at an index. -/
theorem pay22_apply (v18 v19 v20 v21 v22 v23 v24 v25 : Vec Ideal S512x128 .f32) (w : Vec Ideal S1024x1024 .bf16) (b : Vec Ideal S1x1x1024 .f32) (p : Fin 512) (f : Fin 1024) :
    k0_pay22 (F := Ideal) v18 v19 v20 v21 v22 v23 v24 v25 w b (ix2 p f)
      = (∑ k : Fin 1024, k0_pay20 (F := Ideal) v18 v19 v20 v21 v22 v23 v24 v25 (ix2 p k) * w (ix2 k f)) + b (ix3 (0 : Fin 1) (0 : Fin 1) f) := by
  unfold k0_pay22
  generalize k0_pay20 (F := Ideal) v18 v19 v20 v21 v22 v23 v24 v25 = X
  pointwise

theorem pay23_apply (v18 v19 v20 v21 v22 v23 v24 v25 : Vec Ideal S512x128 .f32) (w : Vec Ideal S1024x1024 .bf16) (b : Vec Ideal S1x1x1024 .f32) (p : Fin 512) (f : Fin 1024) :
    k0_pay23 (F := Ideal) v18 v19 v20 v21 v22 v23 v24 v25 w b (ix2 p f)
      = (∑ k : Fin 1024, k0_pay20 (F := Ideal) v18 v19 v20 v21 v22 v23 v24 v25 (ix2 p k) * w (ix2 k f)) + b (ix3 (0 : Fin 1) (0 : Fin 1) f) := by
  unfold k0_pay23
  generalize k0_pay20 (F := Ideal) v18 v19 v20 v21 v22 v23 v24 v25 = X
  pointwise

variable (a0 : S1024x2048.Idx → Elt Ideal .bf16) (a1 : S1024x1024.Idx → Elt Ideal .bf16) (x0 : S4096x128.Idx → Elt Ideal .f32)
variable (x2 : S1x1x2048.Idx → Elt Ideal .f32) (x4 : S1x1x1024.Idx → Elt Ideal .f32)

/-- A value before the activation, of a point's own blocks. -/
def preOf (p : Fin 512) (f : Fin 2048) : EReal :=
  (∑ k : Fin 1024, x0 (ix2 (subRow p k) (packLane k)) * a0 (ix2 k f)) + x2 (ix3 (0 : Fin 1) (0 : Fin 1) f)

theorem gateOf_apply (p : Fin 512) (f : Fin 1024) : gateOf (F := Ideal) a0 x0 x2 (ix2 p f) = preOf a0 x0 x2 p (gate f) := by
  have h0 : ∀ k : Fin 1024, (Rect.unit (s := S1024x2048) ![0, 0] S1024x1024.size inb_S1024x2048_S1024x1024_0_0).toLoadRect.idx (ix2 k f) = ix2 k (gate f) := by
    intro k; funext a; refine Fin.ext ?_
    match a with
    | ⟨0, _⟩ => show 0 + 1 * k.val = k.val; omega
    | ⟨1, _⟩ => show 0 + 1 * f.val = f.val; omega
  have h2 : (Rect.unit (s := S1x1x2048) ![0, 0, 0] S1x1x1024.size inb_S1x1x2048_S1x1x1024_0_0_0).toLoadRect.idx (ix3 (0 : Fin 1) (0 : Fin 1) f) = ix3 (0 : Fin 1) (0 : Fin 1) (gate f) := by
    funext a; refine Fin.ext ?_
    match a with
    | ⟨0, _⟩ => rfl
    | ⟨1, _⟩ => rfl
    | ⟨2, _⟩ => show 0 + 1 * f.val = f.val; omega
  unfold gateOf preOf
  rw [pay22_apply]
  simp only [cat_apply, h0, h2]

theorem upOf_apply (p : Fin 512) (f : Fin 1024) : upOf (F := Ideal) a0 x0 x2 (ix2 p f) = preOf a0 x0 x2 p (up f) := by
  have h0 : ∀ k : Fin 1024, (Rect.unit (s := S1024x2048) ![0, 1024] S1024x1024.size inb_S1024x2048_S1024x1024_0_1024).toLoadRect.idx (ix2 k f) = ix2 k (up f) := by
    intro k; funext a; refine Fin.ext ?_
    match a with
    | ⟨0, _⟩ => show 0 + 1 * k.val = k.val; omega
    | ⟨1, _⟩ => show 1024 + 1 * f.val = 1024 + f.val; omega
  have h2 : (Rect.unit (s := S1x1x2048) ![0, 0, 1024] S1x1x1024.size inb_S1x1x2048_S1x1x1024_0_0_1024).toLoadRect.idx (ix3 (0 : Fin 1) (0 : Fin 1) f) = ix3 (0 : Fin 1) (0 : Fin 1) (up f) := by
    funext a; refine Fin.ext ?_
    match a with
    | ⟨0, _⟩ => rfl
    | ⟨1, _⟩ => rfl
    | ⟨2, _⟩ => show 1024 + 1 * f.val = 1024 + f.val; omega
  unfold upOf preOf
  rw [pay23_apply]
  simp only [cat_apply, h0, h2]

/-- The down product of the activation, at an index. -/
theorem pay24_apply (a b c : FVec Ideal S512x1024 .f32) (w : Vec Ideal S1024x1024 .bf16) (p : Fin 512) (d : Fin 1024) :
    k0_pay24 (F := Ideal) a b c (Scalar.ofBits .f32 0x40E00000#32) w (ix2 p d)
      = a (ix2 p d) + ∑ f : Fin 1024, actOf (b (ix2 p f)) (c (ix2 p f)) * w (ix2 f d) := by
  unfold k0_pay24
  pointwise
  unfold actOf
  refine congrArg (a (ix2 p d) + ·) (Finset.sum_congr rfl fun f _ => ?_)
  rw [← Sigmoid.half_tanh]

/-- The bias of a result, added to zero. -/
theorem pay21_apply (p : Fin 512) (d : Fin 1024) : k0_pay21 (F := Ideal) x4 (ix2 p d) = x4 (ix3 (0 : Fin 1) (0 : Fin 1) d) := by
  unfold k0_pay21
  pointwise

theorem blockOf_apply (p : Fin 512) (d : Fin 1024) :
    blockOf (F := Ideal) a0 a1 x0 x2 x4 (ix2 p d)
      = (∑ f : Fin 1024, actOf (preOf a0 x0 x2 p (gate f)) (preOf a0 x0 x2 p (up f)) * a1 (ix2 f d)) + x4 (ix3 (0 : Fin 1) (0 : Fin 1) d) := by
  unfold blockOf
  rw [pay24_apply, pay21_apply, add_comm]
  simp only [gateOf_apply, upOf_apply]

end Cert.KernelIdeal.Hand

end
-- ==== Proof.IdealStep.lean ====
module

public import proofs.«01_k».proof.Proof.IdealContents

/-! # One grid point of the expert call, all four paths as one statement

`step`: from the point's blocks, the tables, any output block and the scratch buffers at any contents, the body runs and
leaves the blocks and the tables as they were, the scratch buffers at the point's rounded weights if it copies them and
untouched otherwise, and the output block at `liveOut` of the scratch buffers' contents if the point is live, zero otherwise. -/

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The output block of a point past the blocks in use. -/
def deadOut : S4096x128.Idx → Elt F .f32 := fun _ => Scalar.ofBits .f32 0x00000000#32

open Classical in
/-- The first scratch buffer after a point. -/
def nextA0 (i : grid0.Coords) (T0 : S415.Idx → Elt F .i32) (x1 : S1x1024x2048.Idx → Elt F .f32) (a0 : S1024x2048.Idx → Elt F .bf16) :
    S1024x2048.Idx → Elt F .bf16 :=
  if recastWord (F := F) i T0 = 1#1 then castGu x1 else a0

open Classical in
/-- The second scratch buffer after a point. -/
def nextA1 (i : grid0.Coords) (T0 : S415.Idx → Elt F .i32) (x3 : S1x1024x1024.Idx → Elt F .f32) (a1 : S1024x1024.Idx → Elt F .bf16) :
    S1024x1024.Idx → Elt F .bf16 :=
  if recastWord (F := F) i T0 = 1#1 then castD x3 else a1

open Classical in
/-- The output block after a point, from what the scratch buffers then hold. -/
def outBlock (i : grid0.Coords) (T1 : S1.Idx → Elt F .i32) (a0 : S1024x2048.Idx → Elt F .bf16) (a1 : S1024x1024.Idx → Elt F .bf16)
    (x0 : S4096x128.Idx → Elt F .f32) (x2 : S1x1x2048.Idx → Elt F .f32) (x4 : S1x1x1024.Idx → Elt F .f32) : S4096x128.Idx → Elt F .f32 :=
  if k0_cond3 i (nbWord (F := F) T1) = 1#1 then liveOut a0 a1 x0 x2 x4 else deadOut

/-- The conditions of the zero fill and of the computation exclude each other, and one of them holds. -/
theorem cond1_iff (i : grid0.Coords) (w : BitVec 32) : Iff (k0_cond1 i w = 1#1) (¬ k0_cond3 i w = 1#1) := by
  unfold k0_cond1 k0_cond3
  exact (by decide : ∀ b : BitVec 1, Iff (Scalar.cmpi .ne (Scalar.extui (Scalar.xori b 1#1) : BitVec 32) 0#32 = 1#1)
    (¬ Scalar.cmpi .ne (Scalar.extui b : BitVec 32) 0#32 = 1#1)) _

/-- A load of contents that read as `G`. -/
theorem readAt_of_read {sig' : RefSig} {κ : Kind} {sp : Space} {s : Shape} {e : EltTy} (v : View sig' κ sp s e) (f : v.ty.Contents (Elt F))
    (r : LoadRect s) (G : s.Idx → Elt F e) (h : v.read (Elt F) f = G) : v.readAt (Elt F) r f = fun y => G (r.idx y) := by
  subst h; rfl

/-- The result path LR computes is `blockOf` of the weights it reads. -/
theorem runLR_block (arg3 : Memref sig .tc .vmem S4096x128 .f32) (arg4 : Memref sig .tc .vmem S1x1024x2048 .f32) (arg5 : Memref sig .tc .vmem S1x1x2048 .f32) (arg6 : Memref sig .tc .vmem S1x1024x1024 .f32) (arg7 : Memref sig .tc .vmem S1x1x1024 .f32) (x0 : S4096x128.Idx → Elt F .f32) (x1 : S1x1024x2048.Idx → Elt F .f32) (x2 : S1x1x2048.Idx → Elt F .f32) (x3 : S1x1024x1024.Idx → Elt F .f32) (x4 : S1x1x1024.Idx → Elt F .f32) :
    runLR.sl.r_6 arg3 arg4 arg5 arg6 arg7 x0 x1 x2 x3 x4 = blockOf (castGu x1) (castD x3) x0 x2 x4 := by
  have h33 : runLR.sl.v33 arg4 x1 = fun y => castGu x1 ((Rect.unit (s := S1024x2048) ![0, 0] S1024x1024.size inb_S1024x2048_S1024x1024_0_0).toLoadRect.idx y) := by
    unfold runLR.sl.v33 View.readCov
    exact readAt_of_read sc0.view (sc0.view.writes (Elt F) sc0.view.junk (runLR.sl.HS0_8 arg4 x1))
      (Rect.unit (s := S1024x2048) ![0, 0] S1024x1024.size inb_S1024x2048_S1024x1024_0_0).toLoadRect (castGu x1) (runLR_bands0 sc0.view sc0.view.junk arg4 x1)
  have h39 : runLR.sl.v39 arg4 x1 = fun y => castGu x1 ((Rect.unit (s := S1024x2048) ![0, 1024] S1024x1024.size inb_S1024x2048_S1024x1024_0_1024).toLoadRect.idx y) := by
    unfold runLR.sl.v39 View.readCov
    exact readAt_of_read sc0.view (sc0.view.writes (Elt F) sc0.view.junk (runLR.sl.HS0_8 arg4 x1))
      (Rect.unit (s := S1024x2048) ![0, 1024] S1024x1024.size inb_S1024x2048_S1024x1024_0_1024).toLoadRect (castGu x1) (runLR_bands0 sc0.view sc0.view.junk arg4 x1)
  have h65 : runLR.sl.v65 arg6 x3 = castD x3 := by
    unfold runLR.sl.v65 View.readCov
    exact (View.readAt_full sc1.view (sc1.view.writes (Elt F) sc1.view.junk (runLR.sl.HS1_8 arg6 x3)) inb_S1024x1024_S1024x1024_0_0).trans
      (runLR_bands1 sc1.view sc1.view.junk arg6 x3)
  have g3 : runLR.sl.r_3 arg7 x4 = k0_pay21 x4 := congrArg k0_pay21 (View.readAt_rep_full arg7.view x4 _)
  have g4 : runLR.sl.r_4 arg3 arg4 arg5 x0 x1 x2 = gateOf (castGu x1) x0 x2 := by
    unfold runLR.sl.r_4
    rw [h33]
    rw [View.readAt_rep, View.readAt_rep, View.readAt_rep, View.readAt_rep, View.readAt_rep, View.readAt_rep, View.readAt_rep, View.readAt_rep, View.readAt_rep]
    rfl
  have g5 : runLR.sl.r_5 arg3 arg4 arg5 x0 x1 x2 = upOf (castGu x1) x0 x2 := by
    unfold runLR.sl.r_5
    rw [h39]
    rw [View.readAt_rep, View.readAt_rep, View.readAt_rep, View.readAt_rep, View.readAt_rep, View.readAt_rep, View.readAt_rep, View.readAt_rep, View.readAt_rep]
    rfl
  unfold runLR.sl.r_6
  rw [g3, g4, g5, h65]
  rfl

/-- What path LR's stores leave in the output block. -/
theorem runLR_out  (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S415.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32)
    (k0_h1 : ¬(k0_cond1 i (nbWord (F := F) T1) = 1#1)) (hc1 : (recastWord (F := F) i T0 = 1#1)) (k0_h3 : (k0_cond3 i (nbWord (F := F) T1) = 1#1)) (f : arg8.view.ty.Contents (Elt F)) :
    arg8.view.read (Elt F) (arg8.view.writes (Elt F) f (runLR c i arg3 harg3 arg4 harg4 arg5 harg5 arg6 harg6 arg7 harg7 arg8 harg8 T0 T1 x0 x1 x2 x3 x4 k0_h1 hc1 k0_h3).1) = liveOut (castGu x1) (castD x3) x0 x2 x4 := by
  unfold runLR liveOut
  rw [← runLR_block arg3 arg4 arg5 arg6 arg7 x0 x1 x2 x3 x4]
  exact read_cols arg8.view f (runLR.sl.r_6 arg3 arg4 arg5 arg6 arg7 x0 x1 x2 x3 x4) inb_S4096x128_S512x128_0_0_s_8_1 inb_S4096x128_S512x128_1_0_s_8_1 inb_S4096x128_S512x128_2_0_s_8_1 inb_S4096x128_S512x128_3_0_s_8_1 inb_S4096x128_S512x128_4_0_s_8_1 inb_S4096x128_S512x128_5_0_s_8_1 inb_S4096x128_S512x128_6_0_s_8_1 inb_S4096x128_S512x128_7_0_s_8_1 slices_S512x1024_o0_0_S512x128 slices_S512x1024_o0_128_S512x128 slices_S512x1024_o0_256_S512x128 slices_S512x1024_o0_384_S512x128 slices_S512x1024_o0_512_S512x128 slices_S512x1024_o0_640_S512x128 slices_S512x1024_o0_768_S512x128 slices_S512x1024_o0_896_S512x128

/-- The result path LK computes is `blockOf` of the weights it reads. -/
theorem runLK_block (c : Dev nD) (arg3 : Memref sig .tc .vmem S4096x128 .f32) (arg5 : Memref sig .tc .vmem S1x1x2048 .f32) (arg7 : Memref sig .tc .vmem S1x1x1024 .f32) (x0 : S4096x128.Idx → Elt F .f32) (x2 : S1x1x2048.Idx → Elt F .f32) (x4 : S1x1x1024.Idx → Elt F .f32) (xa0 : Buf (Elt F) ((c : Thread nD τ).loc cc0_scratch0)) (xa1 : Buf (Elt F) ((c : Thread nD τ).loc cc0_scratch1)) :
    runLK.sl.r_6 c arg3 arg5 arg7 x0 x2 x4 xa0 xa1 = blockOf xa0 xa1 x0 x2 x4 := by
  have g3 : runLK.sl.r_3 arg7 x4 = k0_pay21 x4 := congrArg k0_pay21 (View.readAt_rep_full arg7.view x4 _)
  have g4 : runLK.sl.r_4 c arg3 arg5 x0 x2 xa0 = gateOf xa0 x0 x2 := by
    unfold runLK.sl.r_4
    rw [View.readAt_rep, View.readAt_rep, View.readAt_rep, View.readAt_rep, View.readAt_rep, View.readAt_rep, View.readAt_rep, View.readAt_rep, View.readAt_rep]
    rfl
  have g5 : runLK.sl.r_5 c arg3 arg5 x0 x2 xa0 = upOf xa0 x0 x2 := by
    unfold runLK.sl.r_5
    rw [View.readAt_rep, View.readAt_rep, View.readAt_rep, View.readAt_rep, View.readAt_rep, View.readAt_rep, View.readAt_rep, View.readAt_rep, View.readAt_rep]
    rfl
  unfold runLK.sl.r_6
  rw [g3, g4, g5, View.readAt_full]
  rfl

/-- What path LK's stores leave in the output block. -/
theorem runLK_out  (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S415.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32) (xa0 : Buf (Elt F) ((c : Thread nD τ).loc cc0_scratch0)) (xa1 : Buf (Elt F) ((c : Thread nD τ).loc cc0_scratch1))
    (k0_h1 : ¬(k0_cond1 i (nbWord (F := F) T1) = 1#1)) (hc1 : ¬(recastWord (F := F) i T0 = 1#1)) (k0_h3 : (k0_cond3 i (nbWord (F := F) T1) = 1#1)) (f : arg8.view.ty.Contents (Elt F)) :
    arg8.view.read (Elt F) (arg8.view.writes (Elt F) f (runLK c i arg3 harg3 arg4 harg4 arg5 harg5 arg6 harg6 arg7 harg7 arg8 harg8 T0 T1 x0 x1 x2 x3 x4 xa0 xa1 k0_h1 hc1 k0_h3).1) = liveOut xa0 xa1 x0 x2 x4 := by
  unfold runLK liveOut
  rw [← runLK_block c arg3 arg5 arg7 x0 x2 x4 xa0 xa1]
  exact read_cols arg8.view f (runLK.sl.r_6 c arg3 arg5 arg7 x0 x2 x4 xa0 xa1) inb_S4096x128_S512x128_0_0_s_8_1 inb_S4096x128_S512x128_1_0_s_8_1 inb_S4096x128_S512x128_2_0_s_8_1 inb_S4096x128_S512x128_3_0_s_8_1 inb_S4096x128_S512x128_4_0_s_8_1 inb_S4096x128_S512x128_5_0_s_8_1 inb_S4096x128_S512x128_6_0_s_8_1 inb_S4096x128_S512x128_7_0_s_8_1 slices_S512x1024_o0_0_S512x128 slices_S512x1024_o0_128_S512x128 slices_S512x1024_o0_256_S512x128 slices_S512x1024_o0_384_S512x128 slices_S512x1024_o0_512_S512x128 slices_S512x1024_o0_640_S512x128 slices_S512x1024_o0_768_S512x128 slices_S512x1024_o0_896_S512x128

/-- What path DR's stores leave in the output block. -/
theorem runDR_out  (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S415.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32)
    (k0_h1 : (k0_cond1 i (nbWord (F := F) T1) = 1#1)) (hc1 : (recastWord (F := F) i T0 = 1#1)) (k0_h3 : ¬(k0_cond3 i (nbWord (F := F) T1) = 1#1)) (f : arg8.view.ty.Contents (Elt F)) :
    arg8.view.read (Elt F) (arg8.view.writes (Elt F) f (runDR c i arg3 harg3 arg4 harg4 arg5 harg5 arg6 harg6 arg7 harg7 arg8 harg8 T0 T1 x0 x1 x2 x3 x4 k0_h1 hc1 k0_h3).1) = deadOut := by
  unfold runDR runDR.sl.HO5_1
  have h := View.read_writes_full (off := ![0, 0]) arg8.view f inb_S4096x128_S4096x128_0_0 (k0_pay1 (F := F)) []
  exact h

/-- What path DK's stores leave in the output block. -/
theorem runDK_out  (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S415.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32) (xa0 : Buf (Elt F) ((c : Thread nD τ).loc cc0_scratch0)) (xa1 : Buf (Elt F) ((c : Thread nD τ).loc cc0_scratch1))
    (k0_h1 : (k0_cond1 i (nbWord (F := F) T1) = 1#1)) (hc1 : ¬(recastWord (F := F) i T0 = 1#1)) (k0_h3 : ¬(k0_cond3 i (nbWord (F := F) T1) = 1#1)) (f : arg8.view.ty.Contents (Elt F)) :
    arg8.view.read (Elt F) (arg8.view.writes (Elt F) f (runDK c i arg3 harg3 arg4 harg4 arg5 harg5 arg6 harg6 arg7 harg7 arg8 harg8 T0 T1 x0 x1 x2 x3 x4 xa0 xa1 k0_h1 hc1 k0_h3).1) = deadOut := by
  unfold runDK runDK.sl.HO5_1
  have h := View.read_writes_full (off := ![0, 0]) arg8.view f inb_S4096x128_S4096x128_0_0 (k0_pay1 (F := F)) []
  exact h

theorem runLR_a0 (arg4 : Memref sig .tc .vmem S1x1024x2048 .f32) (x1 : S1x1024x2048.Idx → Elt F .f32) :
    (View.whole cc0_scratch0).writes (Elt F) (View.whole cc0_scratch0).junk (runLR.sl.HS0_8 arg4 x1) = castGu x1 :=
  (View.read_whole cc0_scratch0 _).symm.trans (runLR_bands0 (View.whole cc0_scratch0) (View.whole cc0_scratch0).junk arg4 x1)

theorem runLR_a1 (arg6 : Memref sig .tc .vmem S1x1024x1024 .f32) (x3 : S1x1024x1024.Idx → Elt F .f32) :
    (View.whole cc0_scratch1).writes (Elt F) (View.whole cc0_scratch1).junk (runLR.sl.HS1_8 arg6 x3) = castD x3 :=
  (View.read_whole cc0_scratch1 _).symm.trans (runLR_bands1 (View.whole cc0_scratch1) (View.whole cc0_scratch1).junk arg6 x3)

/-- The scratch buffers after path LR. -/
theorem runLR_scratch  (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S415.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32)
    (k0_h1 : ¬(k0_cond1 i (nbWord (F := F) T1) = 1#1)) (hc1 : (recastWord (F := F) i T0 = 1#1)) (k0_h3 : (k0_cond3 i (nbWord (F := F) T1) = 1#1)) :
    (runLR c i arg3 harg3 arg4 harg4 arg5 harg5 arg6 harg6 arg7 harg7 arg8 harg8 T0 T1 x0 x1 x2 x3 x4 k0_h1 hc1 k0_h3).2.1 = castGu x1 ∧ (runLR c i arg3 harg3 arg4 harg4 arg5 harg5 arg6 harg6 arg7 harg7 arg8 harg8 T0 T1 x0 x1 x2 x3 x4 k0_h1 hc1 k0_h3).2.2.1 = castD x3 := by
  unfold runLR
  dsimp only
  exact And.intro (runLR_a0 arg4 x1) (runLR_a1 arg6 x3)

theorem runDR_a0 (arg4 : Memref sig .tc .vmem S1x1024x2048 .f32) (x1 : S1x1024x2048.Idx → Elt F .f32) :
    (View.whole cc0_scratch0).writes (Elt F) (View.whole cc0_scratch0).junk (runDR.sl.HS0_8 arg4 x1) = castGu x1 :=
  (View.read_whole cc0_scratch0 _).symm.trans (runDR_bands0 (View.whole cc0_scratch0) (View.whole cc0_scratch0).junk arg4 x1)

theorem runDR_a1 (arg6 : Memref sig .tc .vmem S1x1024x1024 .f32) (x3 : S1x1024x1024.Idx → Elt F .f32) :
    (View.whole cc0_scratch1).writes (Elt F) (View.whole cc0_scratch1).junk (runDR.sl.HS1_8 arg6 x3) = castD x3 :=
  (View.read_whole cc0_scratch1 _).symm.trans (runDR_bands1 (View.whole cc0_scratch1) (View.whole cc0_scratch1).junk arg6 x3)

/-- The scratch buffers after path DR. -/
theorem runDR_scratch  (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S415.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32)
    (k0_h1 : (k0_cond1 i (nbWord (F := F) T1) = 1#1)) (hc1 : (recastWord (F := F) i T0 = 1#1)) (k0_h3 : ¬(k0_cond3 i (nbWord (F := F) T1) = 1#1)) :
    (runDR c i arg3 harg3 arg4 harg4 arg5 harg5 arg6 harg6 arg7 harg7 arg8 harg8 T0 T1 x0 x1 x2 x3 x4 k0_h1 hc1 k0_h3).2.1 = castGu x1 ∧ (runDR c i arg3 harg3 arg4 harg4 arg5 harg5 arg6 harg6 arg7 harg7 arg8 harg8 T0 T1 x0 x1 x2 x3 x4 k0_h1 hc1 k0_h3).2.2.1 = castD x3 := by
  unfold runDR
  dsimp only
  exact And.intro (runDR_a0 arg4 x1) (runDR_a1 arg6 x3)

set_option maxHeartbeats 2000000 in
/-- ONE POINT. -/
theorem step  (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S415.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32) (xa0 : Buf (Elt F) ((c : Thread nD τ).loc cc0_scratch0)) (xa1 : Buf (Elt F) ((c : Thread nD τ).loc cc0_scratch1)) (K : PUnit → sProp 𝕄) :
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tb0.view.loc (c : Thread nD τ) ↦{fullShare.right} T0)
          ∗ (tb1.view.loc (c : Thread nD τ) ↦{fullShare.right} T1)
          ∗ (∃ d, owns (c : Thread nD τ) arg8 fullShare d)
          ∗ (sc0.view.loc (c : Thread nD τ) ↦{fullShare} xa0)
          ∗ (sc1.view.loc (c : Thread nD τ) ↦{fullShare} xa1)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tb0.view.loc (c : Thread nD τ) ↦{fullShare.right} T0)
          ∗ (tb1.view.loc (c : Thread nD τ) ↦{fullShare.right} T1)
              ∗ owns (c : Thread nD τ) arg8 fullShare (outBlock i T1 (nextA0 i T0 x1 xa0) (nextA1 i T0 x3 xa1) x0 x2 x4)
              ∗ (sc0.view.loc (c : Thread nD τ) ↦{fullShare} (nextA0 i T0 x1 xa0 : Buf (Elt F) ((c : Thread nD τ).loc cc0_scratch0)))
              ∗ (sc1.view.loc (c : Thread nD τ) ↦{fullShare} (nextA1 i T0 x3 xa1 : Buf (Elt F) ((c : Thread nD τ).loc cc0_scratch1)))) -∗ K ⟨⟩))
          ⊢ wp frame (wpE (defs₀ (F := F)) Variants.none c none) Set.univ (cc0_moe_experts i tb0 (Memref.isWhole_whole _) tb1 (Memref.isWhole_whole _) arg3 harg3 arg4 harg4 arg5 harg5 arg6 harg6 arg7 harg7 arg8 harg8 sc0 (Memref.isWhole_whole _) sc1 (Memref.isWhole_whole _)) K := by
  unfold outBlock
  by_cases hc1 : recastWord (F := F) i T0 = 1#1 <;> by_cases k0_h3 : k0_cond3 i (nbWord (F := F) T1) = 1#1
  · have e0 : nextA0 i T0 x1 xa0 = castGu x1 := if_pos hc1
    have e1 : nextA1 i T0 x3 xa1 = castD x3 := if_pos hc1
    rw [e0, e1, if_pos k0_h3]
    refine BIBase.Entails.trans ?_ ((runLR c i arg3 harg3 arg4 harg4 arg5 harg5 arg6 harg6 arg7 harg7 arg8 harg8 T0 T1 x0 x1 x2 x3 x4 (fun h => (cond1_iff i _).1 h k0_h3) hc1 k0_h3).2.2.2 xa0 xa1 K)
    iintro ⟨H0, H1, H2, H3, H4, HT0, HT1, H5, HS0, HS1, Hk⟩
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [HS0]; · iexact HS0
    isplitl [HS1]; · iexact HS1
    iintro ⟨H0, H1, H2, H3, H4, HT0, HT1, ⟨%e5, H5⟩, HS0, HS1⟩
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]
    · unfold owns; iexists _; isplitr; swap
      · iexact H5
      · ipureintro; exact runLR_out c i arg3 harg3 arg4 harg4 arg5 harg5 arg6 harg6 arg7 harg7 arg8 harg8 T0 T1 x0 x1 x2 x3 x4 (fun h => (cond1_iff i _).1 h k0_h3) hc1 k0_h3 e5
    have hs := runLR_scratch c i arg3 harg3 arg4 harg4 arg5 harg5 arg6 harg6 arg7 harg7 arg8 harg8 T0 T1 x0 x1 x2 x3 x4 (fun h => (cond1_iff i _).1 h k0_h3) hc1 k0_h3
    rw [← hs.1, ← hs.2]
    isplitl [HS0]; · iexact HS0
    iexact HS1
  · have e0 : nextA0 i T0 x1 xa0 = castGu x1 := if_pos hc1
    have e1 : nextA1 i T0 x3 xa1 = castD x3 := if_pos hc1
    rw [e0, e1, if_neg k0_h3]
    refine BIBase.Entails.trans ?_ ((runDR c i arg3 harg3 arg4 harg4 arg5 harg5 arg6 harg6 arg7 harg7 arg8 harg8 T0 T1 x0 x1 x2 x3 x4 ((cond1_iff i _).2 k0_h3) hc1 k0_h3).2.2.2 xa0 xa1 K)
    iintro ⟨H0, H1, H2, H3, H4, HT0, HT1, H5, HS0, HS1, Hk⟩
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [HS0]; · iexact HS0
    isplitl [HS1]; · iexact HS1
    iintro ⟨H0, H1, H2, H3, H4, HT0, HT1, ⟨%e5, H5⟩, HS0, HS1⟩
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]
    · unfold owns; iexists _; isplitr; swap
      · iexact H5
      · ipureintro; exact runDR_out c i arg3 harg3 arg4 harg4 arg5 harg5 arg6 harg6 arg7 harg7 arg8 harg8 T0 T1 x0 x1 x2 x3 x4 ((cond1_iff i _).2 k0_h3) hc1 k0_h3 e5
    have hs := runDR_scratch c i arg3 harg3 arg4 harg4 arg5 harg5 arg6 harg6 arg7 harg7 arg8 harg8 T0 T1 x0 x1 x2 x3 x4 ((cond1_iff i _).2 k0_h3) hc1 k0_h3
    rw [← hs.1, ← hs.2]
    isplitl [HS0]; · iexact HS0
    iexact HS1
  · have e0 : nextA0 i T0 x1 xa0 = xa0 := if_neg hc1
    have e1 : nextA1 i T0 x3 xa1 = xa1 := if_neg hc1
    rw [e0, e1, if_pos k0_h3]
    refine BIBase.Entails.trans ?_ ((runLK c i arg3 harg3 arg4 harg4 arg5 harg5 arg6 harg6 arg7 harg7 arg8 harg8 T0 T1 x0 x1 x2 x3 x4 xa0 xa1 (fun h => (cond1_iff i _).1 h k0_h3) hc1 k0_h3).2 K)
    iintro ⟨H0, H1, H2, H3, H4, HT0, HT1, H5, HS0, HS1, Hk⟩
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [HS0]; · iexact HS0
    isplitl [HS1]; · iexact HS1
    iintro ⟨H0, H1, H2, H3, H4, HT0, HT1, ⟨%e5, H5⟩, HS0, HS1⟩
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]
    · unfold owns; iexists _; isplitr; swap
      · iexact H5
      · ipureintro; exact runLK_out c i arg3 harg3 arg4 harg4 arg5 harg5 arg6 harg6 arg7 harg7 arg8 harg8 T0 T1 x0 x1 x2 x3 x4 xa0 xa1 (fun h => (cond1_iff i _).1 h k0_h3) hc1 k0_h3 e5
    isplitl [HS0]; · iexact HS0
    iexact HS1
  · have e0 : nextA0 i T0 x1 xa0 = xa0 := if_neg hc1
    have e1 : nextA1 i T0 x3 xa1 = xa1 := if_neg hc1
    rw [e0, e1, if_neg k0_h3]
    refine BIBase.Entails.trans ?_ ((runDK c i arg3 harg3 arg4 harg4 arg5 harg5 arg6 harg6 arg7 harg7 arg8 harg8 T0 T1 x0 x1 x2 x3 x4 xa0 xa1 ((cond1_iff i _).2 k0_h3) hc1 k0_h3).2 K)
    iintro ⟨H0, H1, H2, H3, H4, HT0, HT1, H5, HS0, HS1, Hk⟩
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [HS0]; · iexact HS0
    isplitl [HS1]; · iexact HS1
    iintro ⟨H0, H1, H2, H3, H4, HT0, HT1, ⟨%e5, H5⟩, HS0, HS1⟩
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]
    · unfold owns; iexists _; isplitr; swap
      · iexact H5
      · ipureintro; exact runDK_out c i arg3 harg3 arg4 harg4 arg5 harg5 arg6 harg6 arg7 harg7 arg8 harg8 T0 T1 x0 x1 x2 x3 x4 xa0 xa1 ((cond1_iff i _).2 k0_h3) hc1 k0_h3 e5
    isplitl [HS0]; · iexact HS0
    iexact HS1

end Cert.KernelIdeal.Hand
-- ==== Proof.IdealTables.lean ====
module

public import proofs.«01_k».proof.Proof.IdealStep

/-! # The two tables the call reads before it runs

The block table names an expert for each of the 415 row blocks, and the count says how many blocks are in use.  `Tab` is
what is asked of them: experts below 32, and a count of at least one.  Under it every window the pipeline copies lies
inside its array (`ok_of_tab`). -/

@[expose] public section

set_option maxRecDepth 16384
set_option Elab.async false

noncomputable section

namespace Cert.KernelIdeal.Hand

open Cert.KernelIdeal Cert.KernelIdeal.Gen
open Idealize.ShloMosaic Idealize.ShloMosaic.ValueIdx
open Idealize.ShloMosaic.TcCoe Idealize.ShloMosaic.Tactic

variable {F : FTy → Type} [FloatOps F]

/-- The expert of block `n`. -/
def beAt (v : pre0.Contents (Elt F)) (n : Fin 415) : BitVec 32 := v 0 (ix1 n)

/-- The number of blocks in use. -/
def nbAt (v : pre0.Contents (Elt F)) : BitVec 32 := v 1 (ix1 (0 : Fin 1))

/-- What is asked of the tables. -/
structure Tab (v : pre0.Contents (Elt F)) : Prop where
  be : ∀ n, (beAt v n).toNat < 32
  nb : 1 ≤ (nbAt v).toInt

/-- The smaller of a block number and the last block in use, as a natural number. -/
theorem min_word (n : ℕ) (hn : n < 415) (w : BitVec 32) (hw : 1 ≤ w.toInt) :
    (Scalar.minsi (BitVec.ofNat 32 n) (Scalar.subi w 1#32)).toNat = min n (w.toNat - 1) := by
  have hpos : w.toInt = (w.toNat : ℤ) := by
    rw [BitVec.toInt_eq_toNat_cond] at hw ⊢
    have := w.isLt
    split at hw <;> split <;> omega
  have hlt : w.toNat < 2 ^ 31 := by
    rw [BitVec.toInt_eq_toNat_cond] at hw hpos
    have := w.isLt
    split at hw <;> omega
  have h1 : 1 ≤ w.toNat := by omega
  have hs : (w - 1#32).toNat = w.toNat - 1 := by
    rw [BitVec.toNat_sub]; simp only [BitVec.toNat_ofNat]; omega
  have hsi : (w - 1#32).toInt = (w.toNat : ℤ) - 1 := by
    rw [BitVec.toInt_eq_toNat_cond, hs]; split <;> omega
  have hni : (BitVec.ofNat 32 n).toNat = n := by simp only [BitVec.toNat_ofNat]; omega
  have hnz : (BitVec.ofNat 32 n).toInt = (n : ℤ) := by
    rw [BitVec.toInt_eq_toNat_cond, hni]; split <;> omega
  unfold Scalar.minsi Scalar.subi IntOp.minsi IntOp.subi
  by_cases h : (BitVec.ofNat 32 n).slt (w - 1#32) = true
  · rw [if_pos h, hni]
    rw [BitVec.slt_iff_toInt_lt, hsi, hnz] at h; omega
  · rw [if_neg h, hs]
    rw [BitVec.slt_iff_toInt_lt, hsi, hnz] at h; omega

/-- The block number as an index. -/
theorem cast_ofNat (i : grid0.Coords) : (Scalar.indexCast (BitVec.ofNat 32 (i 0).val)).toNat = (i 0).val := by
  have h : (i 0).val < 415 := (i 0).isLt
  unfold Scalar.indexCast; simp only [BitVec.toNat_ofNat]; omega

/-- The only index of a one-element rectangle of a vector: its offset. -/
theorem unit_idx {n : ℕ} (off : Fin 1 → ℕ) (inb : ∀ a, off a + S1.size a ≤ (⟨1, ![n]⟩ : Shape).size a) (k : Fin n) (hk : off 0 = k.val)
    (y : S1.Idx) : (Rect.unit (s := (⟨1, ![n]⟩ : Shape)) off S1.size inb).toLoadRect.idx y = ix1 k := by
  funext a
  obtain rfl : a = 0 := Subsingleton.elim _ _
  apply Fin.ext
  show off 0 + 1 * (y 0).val = k.val
  have h : (y 0).val < 1 := (y 0).isLt
  omega

/-- Entry `n` of the block table, as the index maps read it. -/
theorem at0 (v : pre0.Contents (Elt F)) (i : grid0.Coords) (h) :
    v.at 0 (Rect.unit (s := S415) ![(Scalar.indexCast (BitVec.ofNat 32 (i 0).val)).toNat] S1.size h) numel1_S1 = beAt v (i 0) := by
  unfold beAt
  exact congrArg (v 0) (unit_idx (n := 415) _ h (i 0) (cast_ofNat i) _)

/-- The count, as the index maps read it. -/
theorem at1 (v : pre0.Contents (Elt F)) (h) :
    v.at 1 (Rect.unit (s := S1) ![0] S1.size h) numel1_S1 = nbAt v := by
  unfold nbAt
  exact congrArg (v 1) (unit_idx (n := 1) _ h (0 : Fin 1) rfl _)

/-- The rows' window at a block: the block itself, or the last one in use. -/
theorem tr0 (v : pre0.Contents (Elt F)) (hv : Tab v) (i : grid0.Coords) :
    cc0_transform_0 inb_S1_S1_0 numel1_S1 v i = ![min (i 0).val ((nbAt v).toNat - 1), 0] := by
  unfold cc0_transform_0
  rw [at1 v]
  exact congrArg (fun z : ℕ => (![z, 0] : Fin 2 → ℕ)) (min_word _ (i 0).isLt _ hv.nb)

/-- The weights' and biases' windows at a block: the expert's. -/
theorem tr1 (v : pre0.Contents (Elt F)) (i : grid0.Coords) :
    cc0_transform_1 k0_off1_inb numel1_S1 v i = ![(beAt v (i 0)).toNat, 0, 0] :=
  congrArg (fun z : BitVec 32 => (![z.toNat, 0, 0] : Fin 3 → ℕ)) (at0 v i _)
theorem tr2 (v : pre0.Contents (Elt F)) (i : grid0.Coords) :
    cc0_transform_2 k0_off1_inb numel1_S1 v i = ![(beAt v (i 0)).toNat, 0, 0] :=
  congrArg (fun z : BitVec 32 => (![z.toNat, 0, 0] : Fin 3 → ℕ)) (at0 v i _)
theorem tr3 (v : pre0.Contents (Elt F)) (i : grid0.Coords) :
    cc0_transform_3 k0_off1_inb numel1_S1 v i = ![(beAt v (i 0)).toNat, 0, 0] :=
  congrArg (fun z : BitVec 32 => (![z.toNat, 0, 0] : Fin 3 → ℕ)) (at0 v i _)
theorem tr4 (v : pre0.Contents (Elt F)) (i : grid0.Coords) :
    cc0_transform_4 k0_off1_inb numel1_S1 v i = ![(beAt v (i 0)).toNat, 0, 0] :=
  congrArg (fun z : BitVec 32 => (![z.toNat, 0, 0] : Fin 3 → ℕ)) (at0 v i _)

/-- Under `Tab` every block the pipeline copies is inside its array. -/
theorem ok_of_tab (v : pre0.Contents (Elt F)) (hv : Tab v) : ok0 v := by
  unfold ok0
  refine ⟨fun i => ⟨?_, .inl rfl⟩, fun i => ⟨?_, .inl rfl⟩, fun i => ⟨?_, .inl rfl⟩, fun i => ⟨?_, .inl rfl⟩, fun i => ⟨?_, .inl rfl⟩⟩
  · have h : (i 0).val < 415 := (i 0).isLt
    rw [tr0 v hv i]; intro a; fin_cases a
    · show (min (i 0).val ((nbAt v).toNat - 1) + 1) * 4096 ≤ 1699840; omega
    · show (0 + 1) * 128 ≤ 128; omega
  · have h := hv.be (i 0)
    rw [tr1 v i]; intro a; fin_cases a
    · show ((beAt v (i 0)).toNat + 1) * 1 ≤ 32; omega
    · show (0 + 1) * 1024 ≤ 1024; omega
    · show (0 + 1) * 2048 ≤ 2048; omega
  · have h := hv.be (i 0)
    rw [tr2 v i]; intro a; fin_cases a
    · show ((beAt v (i 0)).toNat + 1) * 1 ≤ 32; omega
    · show (0 + 1) * 1 ≤ 1; omega
    · show (0 + 1) * 2048 ≤ 2048; omega
  · have h := hv.be (i 0)
    rw [tr3 v i]; intro a; fin_cases a
    · show ((beAt v (i 0)).toNat + 1) * 1 ≤ 32; omega
    · show (0 + 1) * 1024 ≤ 1024; omega
    · show (0 + 1) * 1024 ≤ 1024; omega
  · have h := hv.be (i 0)
    rw [tr4 v i]; intro a; fin_cases a
    · show ((beAt v (i 0)).toNat + 1) * 1 ≤ 32; omega
    · show (0 + 1) * 1 ≤ 1; omega
    · show (0 + 1) * 1024 ≤ 1024; omega

/-- The expert word the body reads at a point. -/
theorem beWord_eq (v : pre0.Contents (Elt F)) (i : grid0.Coords) : beWord (F := F) i (v 0) = beAt v (i 0) := by
  unfold beAt beWord
  exact congrArg (v 0) (unit_idx (n := 415) _ (k0_off2_inb i) (i 0) (cast_ofNat i) _)

/-- The count word the body reads. -/
theorem nbWord_eq (v : pre0.Contents (Elt F)) : nbWord (F := F) (v 1) = nbAt v := by
  unfold nbAt nbWord
  exact congrArg (v 1) (unit_idx (n := 1) _ inb_S1_S1_0 (0 : Fin 1) rfl _)

/-- The number before a block's. -/
theorem pred_word : ∀ k : Fin 414, (Scalar.indexCast (Scalar.maxsi (Scalar.subi (BitVec.ofNat 32 (k.val + 1)) 1#32) 0#32)).toNat = k.val := by
  decide +kernel

/-- The word for the point before, after the first point. -/
theorem bePrev_eq (v : pre0.Contents (Elt F)) (i j : grid0.Coords) (hij : (i 0).val = (j 0).val + 1) : bePrev (F := F) i (v 0) = beAt v (j 0) := by
  unfold beAt bePrev
  refine congrArg (v 0) (unit_idx (n := 415) _ (k0_off3_inb i) (j 0) ?_ _)
  have hj : (j 0).val < 414 := by have h : (i 0).val < 415 := (i 0).isLt; omega
  unfold k0_off3
  show (Scalar.indexCast (Scalar.maxsi (Scalar.subi (BitVec.ofNat 32 (i 0).val) 1#32) 0#32)).toNat = (j 0).val
  rw [hij]
  exact pred_word ⟨(j 0).val, hj⟩

/-- Where the body does not copy the weights, the point is not the first and its expert is the one of the point before. -/
theorem keep_same (v : pre0.Contents (Elt F)) (i : grid0.Coords) (h : ¬ recastWord (F := F) i (v 0) = 1#1) :
    (i 0).val ≠ 0 ∧ ∀ j : grid0.Coords, (i 0).val = (j 0).val + 1 → beAt v (i 0) = beAt v (j 0) := by
  have key : ∀ a b : BitVec 1, ¬ Scalar.cmpi .ne (Scalar.extui (Scalar.ori a b)) (0#32 : BitVec 32) = 1#1 → a = 0#1 ∧ b = 0#1 := by decide
  obtain ⟨h0, h1⟩ := key _ _ h
  refine ⟨fun hz => ?_, fun j hij => ?_⟩
  · rw [hz] at h0; exact absurd h0 (by decide)
  · rw [beWord_eq v i, bePrev_eq v i j hij] at h1
    by_contra hne
    unfold Scalar.cmpi IntOp.cmpi at h1
    simp only [bne_iff_ne.mpr hne] at h1
    exact absurd h1 (by decide)

end Cert.KernelIdeal.Hand
-- ==== Proof.IdealRun.lean ====
module

public import proofs.«01_k».proof.Proof.IdealTables
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Adequacy

/-! # The call from launch to end

The pipeline at tables `v` that are in range, what its buffers hold point by point, the proof that the body keeps to it, and
the run of the whole call: the arguments end unchanged and the result array is filled block by block. -/

@[expose] public section

set_option maxRecDepth 16384
set_option Elab.async false

noncomputable section

namespace Cert.KernelIdeal.Hand

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (UR sig nD τ) ℕ

/-- The proof's resource algebra: the rounds library's, for the pipeline's staging cells. -/
abbrev EP : Emb (UR sig nD τ) 𝕄 := emb₁

variable (v : pre0.Contents (Elt F)) (hv : Tab v)

/-- The tables with the proof that the windows fit, and the pipeline at them. -/
def adm : (pcfg0 (F := F)).Adm := ⟨v, ok_of_tab v hv⟩
abbrev cfgA : Pipeline.Cfg sig Λ₀ := cfg0 (F := F) (adm v hv)
abbrev pcs : Fin 1 → Pipeline.Cfg sig Λ₀ := Pipeline.pin (pcfgs (F := F)) fun _ => adm v hv

variable (m : (ℓ : Loc nD τ sig) → Buf (Elt F) ℓ) (ρ : Dev nD → PrngReg)

/-- Point `t`'s coordinates. -/
abbrev crd (t : Fin (cfgA v hv).N) : (cfgA v hv).grid.Coords := (cfgA v hv).grid.coords t

/-- Each window's staging memref at point `t`, and that it is whole. -/
abbrev ms0_0 (t : Fin (cfgA v hv).N) : Memref sig .tc .vmem S4096x128 .f32 := spec0_0.stage ((cfgA v hv).slots t (0 : Fin 6))
abbrev hs0_0 (t : Fin (cfgA v hv).N) : (ms0_0 v hv t).IsWhole := hstage0_0 (((cfgA v hv).slots t (0 : Fin 6)).cast nbuf0_0)
abbrev ms0_1 (t : Fin (cfgA v hv).N) : Memref sig .tc .vmem S1x1024x2048 .f32 := spec0_1.stage ((cfgA v hv).slots t (1 : Fin 6))
abbrev hs0_1 (t : Fin (cfgA v hv).N) : (ms0_1 v hv t).IsWhole := hstage0_1 (((cfgA v hv).slots t (1 : Fin 6)).cast nbuf0_1)
abbrev ms0_2 (t : Fin (cfgA v hv).N) : Memref sig .tc .vmem S1x1x2048 .f32 := spec0_2.stage ((cfgA v hv).slots t (2 : Fin 6))
abbrev hs0_2 (t : Fin (cfgA v hv).N) : (ms0_2 v hv t).IsWhole := hstage0_2 (((cfgA v hv).slots t (2 : Fin 6)).cast nbuf0_2)
abbrev ms0_3 (t : Fin (cfgA v hv).N) : Memref sig .tc .vmem S1x1024x1024 .f32 := spec0_3.stage ((cfgA v hv).slots t (3 : Fin 6))
abbrev hs0_3 (t : Fin (cfgA v hv).N) : (ms0_3 v hv t).IsWhole := hstage0_3 (((cfgA v hv).slots t (3 : Fin 6)).cast nbuf0_3)
abbrev ms0_4 (t : Fin (cfgA v hv).N) : Memref sig .tc .vmem S1x1x1024 .f32 := spec0_4.stage ((cfgA v hv).slots t (4 : Fin 6))
abbrev hs0_4 (t : Fin (cfgA v hv).N) : (ms0_4 v hv t).IsWhole := hstage0_4 (((cfgA v hv).slots t (4 : Fin 6)).cast nbuf0_4)
abbrev ms0_5 (t : Fin (cfgA v hv).N) : Memref sig .tc .vmem S4096x128 .f32 := spec0_5.stage ((cfgA v hv).slots t (5 : Fin 6))
abbrev hs0_5 (t : Fin (cfgA v hv).N) : (ms0_5 v hv t).IsWhole := hstage0_5 (((cfgA v hv).slots t (5 : Fin 6)).cast nbuf0_5)

/-- Window `w`'s block at point `t`, read off its array at launch. -/
def iblk (c : Dev nD) (w : Fin (cfgA v hv).W) (t : Fin (cfgA v hv).N) : (((cfgA v hv).win w).xblock (crd v hv t)).Idx → Elt F ((cfgA v hv).win w).elt :=
  (((cfgA v hv).win w).blk t).view.read (Elt F) ((s₀ m ρ).mem (((cfgA v hv).win w).arr.view.loc (c : Thread nD τ)))

/-- The point before position `t` (the first point, for the first). -/
def prior (t : Fin ((cfgA v hv).N + 1)) : Fin (cfgA v hv).N := ⟨t.val - 1, by have := t.isLt; have h : (cfgA v hv).N = 415 := N_0; omega⟩

/-- Before a point: the scratch buffers hold the rounded weights of the point before (anything before the first), and the
    body has its half of the tables. -/
def Phi (c : Dev nD) (t : Fin ((cfgA v hv).N + 1)) : sProp 𝕄 :=
  iprop((∃ a, ⌜t.val ≠ 0 → a = castGu (iblk v hv m ρ c (1 : Fin 6) (prior v hv t))⌝ ∗ (sc0.view.loc (c : Thread nD τ) ↦{fullShare} a))
    ∗ (∃ a, ⌜t.val ≠ 0 → a = castD (iblk v hv m ρ c (3 : Fin 6) (prior v hv t))⌝ ∗ (sc1.view.loc (c : Thread nD τ) ↦{fullShare} a))
    ∗ (tb0.view.loc (c : Thread nD τ) ↦{fullShare.right} v 0) ∗ (tb1.view.loc (c : Thread nD τ) ↦{fullShare.right} v 1))

/-- What the body leaves in the output's buffer at point `t`. -/
def outAt (c : Dev nD) (t : Fin (cfgA v hv).N) : S4096x128.Idx → Elt F .f32 :=
  outBlock (crd v hv t) (v 1) (castGu (iblk v hv m ρ c (1 : Fin 6) t)) (castD (iblk v hv m ρ c (3 : Fin 6) t))
    (iblk v hv m ρ c (0 : Fin 6) t) (iblk v hv m ρ c (2 : Fin 6) t) (iblk v hv m ρ c (4 : Fin 6) t)

/-- The proof data of the pipeline on core `c`. -/
def dats (_ : Fin 1) (c : Dev nD) : Dat τ (Elt F) Unit ℕ (UR sig nD τ) ℕ (cfgA v hv) c where
  A w := (s₀ m ρ).mem (((cfgA v hv).win w).arr.view.loc (c : Thread nD τ))
  after w t := match w with
    | ⟨0, _⟩ => iblk v hv m ρ c (0 : Fin 6) t
    | ⟨1, _⟩ => iblk v hv m ρ c (1 : Fin 6) t
    | ⟨2, _⟩ => iblk v hv m ρ c (2 : Fin 6) t
    | ⟨3, _⟩ => iblk v hv m ρ c (3 : Fin 6) t
    | ⟨4, _⟩ => iblk v hv m ρ c (4 : Fin 6) t
    | ⟨5, _⟩ => outAt v hv m ρ c t
  Φ t := Phi v hv m ρ c t
  q _ := fullShare
  owed _ := 0

theorem after0_0 (c : Dev nD) (t : Fin (cfgA v hv).N) : (dats v hv m ρ 0 c).after (0 : Fin 6) t = iblk v hv m ρ c (0 : Fin 6) t := rfl
theorem after0_1 (c : Dev nD) (t : Fin (cfgA v hv).N) : (dats v hv m ρ 0 c).after (1 : Fin 6) t = iblk v hv m ρ c (1 : Fin 6) t := rfl
theorem after0_2 (c : Dev nD) (t : Fin (cfgA v hv).N) : (dats v hv m ρ 0 c).after (2 : Fin 6) t = iblk v hv m ρ c (2 : Fin 6) t := rfl
theorem after0_3 (c : Dev nD) (t : Fin (cfgA v hv).N) : (dats v hv m ρ 0 c).after (3 : Fin 6) t = iblk v hv m ρ c (3 : Fin 6) t := rfl
theorem after0_4 (c : Dev nD) (t : Fin (cfgA v hv).N) : (dats v hv m ρ 0 c).after (4 : Fin 6) t = iblk v hv m ρ c (4 : Fin 6) t := rfl
theorem after0_5 (c : Dev nD) (t : Fin (cfgA v hv).N) : (dats v hv m ρ 0 c).after (5 : Fin 6) t = outAt v hv m ρ c t := rfl

/-- The input windows hold their blocks when the body runs, fetched there or not. -/
theorem before0_0 (c : Dev nD) (t : Fin (cfgA v hv).N) (d) : (dats v hv m ρ 0 c).before (0 : Fin 6) t d = iblk v hv m ρ c (0 : Fin 6) t :=
  ((dats v hv m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA v hv).N) (d) : (dats v hv m ρ 0 c).before (1 : Fin 6) t d = iblk v hv m ρ c (1 : Fin 6) t :=
  ((dats v hv m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA v hv).N) (d) : (dats v hv m ρ 0 c).before (2 : Fin 6) t d = iblk v hv m ρ c (2 : Fin 6) t :=
  ((dats v hv m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA v hv).N) (d) : (dats v hv m ρ 0 c).before (3 : Fin 6) t d = iblk v hv m ρ c (3 : Fin 6) t :=
  ((dats v hv m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA v hv).N) (d) : (dats v hv m ρ 0 c).before (4 : Fin 6) t d = iblk v hv m ρ c (4 : Fin 6) t :=
  ((dats v hv m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- On a one-axis grid a point's coordinate is its number. -/
theorem crd_val (t : Fin (cfgA v hv).N) : (crd v hv t 0).val = t.val := by
  have h : t.val < 415 := lt_of_lt_of_eq t.isLt N_0
  have e := Pipeline.Grid.coords_val (G := (cfgA v hv).grid) t 0 (S := 1) (B := 415) (by rfl) (by rfl)
  rw [e]; omega

/-- The arrays at launch. -/
abbrev arr0 (c : Dev nD) : S1699840x128.Idx → Elt F .f32 := m ((c : Thread nD τ).loc main_arg0)
abbrev arr1 (c : Dev nD) : S32x1024x2048.Idx → Elt F .f32 := m ((c : Thread nD τ).loc main_arg3)
abbrev arr2 (c : Dev nD) : S32x1x2048.Idx → Elt F .f32 := m ((c : Thread nD τ).loc main_arg4)
abbrev arr3 (c : Dev nD) : S32x1024x1024.Idx → Elt F .f32 := m ((c : Thread nD τ).loc main_arg5)
abbrev arr4 (c : Dev nD) : S32x1x1024.Idx → Elt F .f32 := m ((c : Thread nD τ).loc main_arg6)

/-- A point's expert as an index. -/
def ex (t : Fin (cfgA v hv).N) : Fin 32 := ⟨(beAt v (crd v hv t 0)).toNat, hv.be _⟩

/-- A row of the rows' block is that row of the array. -/
theorem row_lt (t : Fin (cfgA v hv).N) (y : Fin 4096) : 4096 * min t.val ((nbAt v).toNat - 1) + y.val < 1699840 := by
  have h : t.val < 415 := lt_of_lt_of_eq t.isLt N_0
  have := y.isLt
  omega
theorem iblk0_apply (c : Dev nD) (t : Fin (cfgA v hv).N) (p : Fin 4096) (q : Fin 128) :
    iblk v hv m ρ c (0 : Fin 6) t (ix2 p q) = arr0 m c (ix2 ⟨4096 * min t.val ((nbAt v).toNat - 1) + p.val, row_lt v hv t p⟩ q) := by
  have e := tr0 v hv (crd v hv t)
  rw [crd_val] at e
  unfold iblk
  refine congrArg (arr0 m c) (funext fun a => Fin.ext ?_)
  fin_cases a
  · show cc0_transform_0 inb_S1_S1_0 numel1_S1 v (crd v hv t) 0 * 4096 + 1 * p.val = 4096 * min t.val ((nbAt v).toNat - 1) + p.val
    rw [e]; show min _ _ * 4096 + _ = _; omega
  · show cc0_transform_0 inb_S1_S1_0 numel1_S1 v (crd v hv t) 1 * 128 + 1 * q.val = q.val
    rw [e]; show 0 * 128 + _ = _; omega
theorem iblk1_apply (c : Dev nD) (t : Fin (cfgA v hv).N) (o : Fin 1) (p : Fin 1024) (q : Fin 2048) :
    iblk v hv m ρ c (1 : Fin 6) t (ix3 o p q) = arr1 m c (ix3 (ex v hv t) p q) := by
  have e := tr1 v (crd v hv t)
  unfold iblk
  refine congrArg (arr1 m c) (funext fun a => Fin.ext ?_)
  fin_cases a
  · show cc0_transform_1 k0_off1_inb numel1_S1 v (crd v hv t) 0 * 1 + 1 * o.val = (beAt v (crd v hv t 0)).toNat
    rw [e]; show (beAt v (crd v hv t 0)).toNat * 1 + _ = _; omega
  · show cc0_transform_1 k0_off1_inb numel1_S1 v (crd v hv t) 1 * 1024 + 1 * p.val = p.val
    rw [e]; show 0 * 1024 + _ = _; omega
  · show cc0_transform_1 k0_off1_inb numel1_S1 v (crd v hv t) 2 * 2048 + 1 * q.val = q.val
    rw [e]; show 0 * 2048 + _ = _; omega
theorem iblk2_apply (c : Dev nD) (t : Fin (cfgA v hv).N) (o : Fin 1) (p : Fin 1) (q : Fin 2048) :
    iblk v hv m ρ c (2 : Fin 6) t (ix3 o p q) = arr2 m c (ix3 (ex v hv t) p q) := by
  have e := tr2 v (crd v hv t)
  unfold iblk
  refine congrArg (arr2 m c) (funext fun a => Fin.ext ?_)
  fin_cases a
  · show cc0_transform_2 k0_off1_inb numel1_S1 v (crd v hv t) 0 * 1 + 1 * o.val = (beAt v (crd v hv t 0)).toNat
    rw [e]; show (beAt v (crd v hv t 0)).toNat * 1 + _ = _; omega
  · show cc0_transform_2 k0_off1_inb numel1_S1 v (crd v hv t) 1 * 1 + 1 * p.val = p.val
    rw [e]; show 0 * 1 + _ = _; omega
  · show cc0_transform_2 k0_off1_inb numel1_S1 v (crd v hv t) 2 * 2048 + 1 * q.val = q.val
    rw [e]; show 0 * 2048 + _ = _; omega
theorem iblk3_apply (c : Dev nD) (t : Fin (cfgA v hv).N) (o : Fin 1) (p : Fin 1024) (q : Fin 1024) :
    iblk v hv m ρ c (3 : Fin 6) t (ix3 o p q) = arr3 m c (ix3 (ex v hv t) p q) := by
  have e := tr3 v (crd v hv t)
  unfold iblk
  refine congrArg (arr3 m c) (funext fun a => Fin.ext ?_)
  fin_cases a
  · show cc0_transform_3 k0_off1_inb numel1_S1 v (crd v hv t) 0 * 1 + 1 * o.val = (beAt v (crd v hv t 0)).toNat
    rw [e]; show (beAt v (crd v hv t 0)).toNat * 1 + _ = _; omega
  · show cc0_transform_3 k0_off1_inb numel1_S1 v (crd v hv t) 1 * 1024 + 1 * p.val = p.val
    rw [e]; show 0 * 1024 + _ = _; omega
  · show cc0_transform_3 k0_off1_inb numel1_S1 v (crd v hv t) 2 * 1024 + 1 * q.val = q.val
    rw [e]; show 0 * 1024 + _ = _; omega
theorem iblk4_apply (c : Dev nD) (t : Fin (cfgA v hv).N) (o : Fin 1) (p : Fin 1) (q : Fin 1024) :
    iblk v hv m ρ c (4 : Fin 6) t (ix3 o p q) = arr4 m c (ix3 (ex v hv t) p q) := by
  have e := tr4 v (crd v hv t)
  unfold iblk
  refine congrArg (arr4 m c) (funext fun a => Fin.ext ?_)
  fin_cases a
  · show cc0_transform_4 k0_off1_inb numel1_S1 v (crd v hv t) 0 * 1 + 1 * o.val = (beAt v (crd v hv t 0)).toNat
    rw [e]; show (beAt v (crd v hv t 0)).toNat * 1 + _ = _; omega
  · show cc0_transform_4 k0_off1_inb numel1_S1 v (crd v hv t) 1 * 1 + 1 * p.val = p.val
    rw [e]; show 0 * 1 + _ = _; omega
  · show cc0_transform_4 k0_off1_inb numel1_S1 v (crd v hv t) 2 * 1024 + 1 * q.val = q.val
    rw [e]; show 0 * 1024 + _ = _; omega

/-- The weights' blocks at a point depend only on its expert. -/
theorem iblk_w1 (c : Dev nD) (t u : Fin (cfgA v hv).N) (h : beAt v (crd v hv t 0) = beAt v (crd v hv u 0)) :
    iblk v hv m ρ c (1 : Fin 6) t = iblk v hv m ρ c (1 : Fin 6) u := by
  have hx : ex v hv t = ex v hv u := by unfold ex; simp only [h]
  funext y
  obtain ⟨o, p, q, rfl⟩ : ∃ (o : Fin 1) (p : Fin 1024) (q : Fin 2048), y = ix3 o p q := ⟨y 0, y 1, y 2, eq_ix3 y⟩
  exact (iblk1_apply v hv m ρ c t o p q).trans ((congrArg (fun z => arr1 m c (ix3 z p q)) hx).trans (iblk1_apply v hv m ρ c u o p q).symm)
theorem iblk_w3 (c : Dev nD) (t u : Fin (cfgA v hv).N) (h : beAt v (crd v hv t 0) = beAt v (crd v hv u 0)) :
    iblk v hv m ρ c (3 : Fin 6) t = iblk v hv m ρ c (3 : Fin 6) u := by
  have hx : ex v hv t = ex v hv u := by unfold ex; simp only [h]
  funext y
  obtain ⟨o, p, q, rfl⟩ : ∃ (o : Fin 1) (p : Fin 1024) (q : Fin 1024), y = ix3 o p q := ⟨y 0, y 1, y 2, eq_ix3 y⟩
  exact (iblk3_apply v hv m ρ c t o p q).trans ((congrArg (fun z => arr3 m c (ix3 z p q)) hx).trans (iblk3_apply v hv m ρ c u o p q).symm)

/-- After the body's copy, or without one, the first scratch buffer holds the point's own rounded weights; -/
theorem nextA0_eq (c : Dev nD) (t : Fin (cfgA v hv).N) (a : Buf (Elt F) ((c : Thread nD τ).loc cc0_scratch0))
    (ha : t.castSucc.val ≠ 0 → a = castGu (iblk v hv m ρ c (1 : Fin 6) (prior v hv t.castSucc))) :
    nextA0 (crd v hv t) (v 0) (iblk v hv m ρ c (1 : Fin 6) t) a = castGu (iblk v hv m ρ c (1 : Fin 6) t) := by
  unfold nextA0
  split
  · rfl
  · rename_i h
    obtain ⟨h0, hs⟩ := keep_same v _ h
    rw [crd_val] at h0
    rw [ha h0]
    refine congrArg castGu (iblk_w1 v hv m ρ c t (prior v hv t.castSucc) (hs (crd v hv (prior v hv t.castSucc)) ?_)).symm
    rw [crd_val, crd_val]
    show t.val = t.val - 1 + 1
    omega

/-- and so does the second. -/
theorem nextA1_eq (c : Dev nD) (t : Fin (cfgA v hv).N) (a : Buf (Elt F) ((c : Thread nD τ).loc cc0_scratch1))
    (ha : t.castSucc.val ≠ 0 → a = castD (iblk v hv m ρ c (3 : Fin 6) (prior v hv t.castSucc))) :
    nextA1 (crd v hv t) (v 0) (iblk v hv m ρ c (3 : Fin 6) t) a = castD (iblk v hv m ρ c (3 : Fin 6) t) := by
  unfold nextA1
  split
  · rfl
  · rename_i h
    obtain ⟨h0, hs⟩ := keep_same v _ h
    rw [crd_val] at h0
    rw [ha h0]
    refine congrArg castD (iblk_w3 v hv m ρ c t (prior v hv t.castSucc) (hs (crd v hv (prior v hv t.castSucc)) ?_)).symm
    rw [crd_val, crd_val]
    show t.val = t.val - 1 + 1
    omega

/-- The output is stored at every point. -/
theorem not_idle (t : Fin (cfgA v hv).N) : (cfgA v hv).idle (5 : Fin 6) ((cfgA v hv).grid.coords t) = false := by
  have key : ∀ w : BitVec 32, (!(k0_cond1 (crd v hv t) w == 1#1) && !(k0_cond3 (crd v hv t) w == 1#1)) = false := by
    intro w
    have h := cond1_iff (crd v hv t) w
    by_cases h3 : k0_cond3 (crd v hv t) w = 1#1
    · rw [h3]; simp
    · rw [h.mpr h3]; simp
  exact key _

/-- The body at point `t` on its staging memrefs. -/
abbrev bodyAt0 (t : Fin (cfgA v hv).N) : Prog (TpuEff nD τ sig (Elt F) Λ₀ .tc) PUnit :=
  cc0_moe_experts (crd v hv t) tb0 (Memref.isWhole_whole _) tb1 (Memref.isWhole_whole _) (ms0_0 v hv t) (hs0_0 v hv t) (ms0_1 v hv t) (hs0_1 v hv t) (ms0_2 v hv t) (hs0_2 v hv t) (ms0_3 v hv t) (hs0_3 v hv t) (ms0_4 v hv t) (hs0_4 v hv t) (ms0_5 v hv t) (hs0_5 v hv t) sc0 (Memref.isWhole_whole _) sc1 (Memref.isWhole_whole _)

set_option maxHeartbeats 4000000 in
/-- The body at point `t` takes the invariant and the windows' buffers to the next point's. -/
theorem sound_body (c : Dev nD) (t : Fin (cfgA v hv).N) :
    iprop((dats v hv m ρ 0 c).Φ t.castSucc ∗ (dats v hv m ρ 0 c).owesAt () t.castSucc
        ∗ (∃ d, owns (c : Thread nD τ) (ms0_0 v hv t) fullShare ((dats v hv m ρ 0 c).before (0 : Fin 6) t d))
        ∗ (∃ d, owns (c : Thread nD τ) (ms0_1 v hv t) fullShare ((dats v hv m ρ 0 c).before (1 : Fin 6) t d))
        ∗ (∃ d, owns (c : Thread nD τ) (ms0_2 v hv t) fullShare ((dats v hv m ρ 0 c).before (2 : Fin 6) t d))
        ∗ (∃ d, owns (c : Thread nD τ) (ms0_3 v hv t) fullShare ((dats v hv m ρ 0 c).before (3 : Fin 6) t d))
        ∗ (∃ d, owns (c : Thread nD τ) (ms0_4 v hv t) fullShare ((dats v hv m ρ 0 c).before (4 : Fin 6) t d))
        ∗ (∃ d, owns (c : Thread nD τ) (ms0_5 v hv t) fullShare ((dats v hv m ρ 0 c).before (5 : Fin 6) t d)))
      ⊢ wp frame (wpE (defs₀ (F := F)) Variants.none c none) Set.univ (bodyAt0 v hv t) fun _ =>
          iprop((dats v hv m ρ 0 c).Φ t.succ ∗ (dats v hv m ρ 0 c).owesAt () t.succ
            ∗ bigSep Finset.univ fun w : Fin (cfgA v hv).W =>
                match (cfgA v hv).idle w ((cfgA v hv).grid.coords t) with
                | true =>
                  match ((cfgA v hv).win w).flush t with
                  | false => iprop(∃ d, owns (c : Thread nD τ) (((cfgA v hv).win w).stage ((cfgA v hv).slots t w)) fullShare ((dats v hv m ρ 0 c).before w t d))
                  | true => owns (c : Thread nD τ) (((cfgA v hv).win w).stage ((cfgA v hv).slots t w)) fullShare ((dats v hv m ρ 0 c).after w t)
                | false => owns (c : Thread nD τ) (((cfgA v hv).win w).stage ((cfgA v hv).slots t w)) fullShare ((dats v hv m ρ 0 c).after w t)) := by
  rw [bigSep_W0]
  rewrite [not_idle]
  simp only [before0_0, before0_1, before0_2, before0_3, before0_4, after0_0, after0_1, after0_2, after0_3, after0_4, after0_5]
  rewrite [show (dats v hv m ρ 0 c).Φ t.succ = Phi v hv m ρ c t.succ from rfl, show (dats v hv m ρ 0 c).Φ t.castSucc = Phi v hv m ρ c t.castSucc from rfl,
    show (dats v hv m ρ 0 c).owesAt () t.succ = (dats v hv m ρ 0 c).owesAt () t.castSucc from rfl]
  unfold Phi
  rewrite [show prior v hv t.succ = t from Fin.ext (Nat.add_sub_cancel _ _)]
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
  iapply (step c (crd v hv t) (ms0_0 v hv t) (hs0_0 v hv t) (ms0_1 v hv t) (hs0_1 v hv t) (ms0_2 v hv t) (hs0_2 v hv t) (ms0_3 v hv t) (hs0_3 v hv t) (ms0_4 v hv t) (hs0_4 v hv t) (ms0_5 v hv t) (hs0_5 v hv t) (v 0) (v 1)
    (iblk v hv m ρ c (0 : Fin 6) t) (iblk v hv m ρ c (1 : Fin 6) t) (iblk v hv m ρ c (2 : Fin 6) t) (iblk v hv m ρ c (3 : Fin 6) t) (iblk v hv m ρ c (4 : Fin 6) t) a0 a1)
  rewrite [nextA0_eq v hv m ρ c t a0 ha0, nextA1_eq v hv m ρ c t a1 ha1]
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  isplitl [HS0]; · iexact HS0
  isplitl [HS1]; · iexact HS1
  iintro ⟨H0, H1, H2, H3, H4, HT0, HT1, H5, HS0, HS1⟩
  isplitl [HS0 HS1 HT0 HT1]
  · isplitl [HS0]
    · iexists _; isplitr; swap
      · iexact HS0
      · ipureintro; intro _; rfl
    isplitl [HS1]
    · iexists _; isplitr; swap
      · iexact HS1
      · ipureintro; intro _; rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  iexact H5

/-- The same at every point. -/
theorem body_obligation (c : Dev nD) : BodyObligation (dats v hv m ρ 0 c) (defs₀ (F := F)) Variants.none () Set.univ := fun t => by
  rw [bigSep_W0]
  exact sound_body v hv m ρ c t

/-! ## The launch -/

/-- The launch element of the rounds. -/
def u₀ : UR sig nD τ :=
  initOf (Pipeline.cells (pcs v hv) ((launch0 (F := F)).cellOf_inj fun _ => adm v hv))
    (Pipeline.launchToks (pcs v hv) ((launch0 (F := F)).cellOf_inj fun _ => adm v hv))

theorem share_eq (c : Dev nD) (w : Fin (cfgA v hv).W) : (dats v hv m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffers. -/
theorem phi0_intro (c : Dev nD) :
    iprop(BI.emp ∗ Pipeline.prefHeld pre0 c (fun _ => fullShare.right) (adm v hv).1 ∗ Pipeline.scopedRest spec0 c) ⊢ (dats v hv m ρ 0 c).Φ 0 := by
  rw [prefHeld_eq, scopedRest0_eq, show (dats v hv m ρ 0 c).Φ 0 = Phi v hv m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  iexact HT1

/-- At the last point it gives the scratch buffers back. -/
theorem phiN_exit (c : Dev nD) : (dats v hv m ρ 0 c).Φ (Fin.last (cfgA v hv).N) ⊢ iprop(BI.emp ∗ Pipeline.scopedRest spec0 c) := by
  rw [scopedRest0_eq, show (dats v hv m ρ 0 c).Φ (Fin.last (cfgA v hv).N) = Phi v hv m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The state at the end: every array at what the pipeline computes, every table as it was. -/
def QC : PUnit × MemSt nD τ sig (Elt F) → Prop := fun r =>
  ∀ c : Dev nD, (∀ w : Fin (cfgA v hv).W, r.2.mem (((cfgA v hv).win w).arr.view.loc (c : Thread nD τ)) = (dats v hv m ρ 0 c).arrAt w (cfgA v hv).N)
    ∧ ∀ j, r.2.mem ((c : Thread nD τ).loc (pre0.ref j)) = v j

/-- That the launch memory's tables are `v`. -/
def Pinned : Prop := ∀ (c : Dev nD) (j : Fin 2), m ((c : Thread nD τ).loc (pre0.ref j)) = v j

set_option backward.isDefEq.respectTransparency.types false in
set_option maxHeartbeats 4000000 in
/-- From any memory with zero counters whose tables are `v`, every weakly fair execution ends, in such a state, with zero
    counters. -/
theorem run_quiescent (hp : Pinned v m) : θ_run (defs (F := F)) (onTc (τ := τ) (main (F := F))) (s₀ m ρ) (fun r => QC v hv m ρ r ∧ r.2.sem = fun _ => 0) :=
  Pipeline.θ_run_region_noSem_pf_quiescent pcfgs (fun _ => adm v hv) (dats v hv m ρ) () ((launch0 (F := F)).cellOf_inj fun _ => adm v hv) (0 : Fin 1)
    (launch0 (F := F)).win.to₀ (launch0 (F := F)).pre EP defs₀ Variants.none m ρ main
    (hbody := fun c => (body_obligation v hv m ρ c).loose) (hne := (launch0 (F := F)).block_pos)
    (harr := (launch0 (F := F)).arr_whole) (hstage := (launch0 (F := F)).stage_whole) (howed := fun _ _ => rfl)
    (u₀ := u₀ v hv) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs v hv) (dats v hv m ρ) 0 (launch0 (F := F)).win.arr_inj c (launch0 (F := F)).arr_whole
      (share_eq v hv m ρ c) _ _ fun _ => rfl)
    (hpf := fun c j => hp c j)
    (X := fun _ => iprop(emp)) (Y := fun _ => iprop(emp)) (Z := fun _ => iprop(emp))
    (hX := fun c => by rw [unscopedRestP0_eq]; iintro -; isplitr <;> iempintro)
    (hin := phi0_intro v hv m ρ)
    (hout := phiN_exit v hv m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- At the end the argument arrays are as they were, the result array is what the pipeline computes, and every counter is
    zero. -/
theorem frame_value (hp : Pinned v m) :
    θ_run (defs (F := F)) (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v0) = (dats v hv m ρ 0 c).arrAt (5 : Fin 6) (cfgA v hv).N)
      ∧ r.2.sem = fun _ => 0) :=
  (θ_run defs _ _).mono (fun _ h => ⟨fun c => ⟨⟨((h.1 c).1 (0 : Fin 6)).trans ((dats v hv m ρ 0 c).arrAt_in (0 : Fin 6) rfl _),
    ((h.1 c).2 0).trans (hp c 0).symm, ((h.1 c).2 1).trans (hp c 1).symm,
    ((h.1 c).1 (1 : Fin 6)).trans ((dats v hv m ρ 0 c).arrAt_in (1 : Fin 6) rfl _),
    ((h.1 c).1 (2 : Fin 6)).trans ((dats v hv m ρ 0 c).arrAt_in (2 : Fin 6) rfl _),
    ((h.1 c).1 (3 : Fin 6)).trans ((dats v hv m ρ 0 c).arrAt_in (3 : Fin 6) rfl _),
    ((h.1 c).1 (4 : Fin 6)).trans ((dats v hv m ρ 0 c).arrAt_in (4 : Fin 6) rfl _)⟩, (h.1 c).1 (5 : Fin 6)⟩, h.2⟩) (run_quiescent v hv m ρ hp)

end Cert.KernelIdeal.Hand
-- ==== Proof.IdealValue.lean ====
module

public import proofs.«01_k».proof.Proof.IdealPay
public import proofs.«01_k».proof.Proof.IdealRun
public import Idealize.ShloMosaic.Lib.Pipeline.Value

/-! # The idealised call computes the reference's function

Each grid point leaves in its block of the result what the reference has there (`outAt_apply`), the blocks tile the result
(`cover`), so the result array ends as the reference's (`final`). -/

@[expose] public section

set_option maxRecDepth 16384
set_option Elab.async false

noncomputable section

namespace Cert.KernelIdeal.Hand

open Cert.KernelIdeal Cert.KernelIdeal.Gen Cert.RefValue
open Idealize.ShloMosaic Idealize.ShloMosaic.TcCoe
open Idealize.ShloMosaic.Pipeline

variable (v : pre0.Contents (Elt Ideal)) (hv : Tab v) (m : (ℓ : Loc nD τ sig) → Buf (Elt Ideal) ℓ) (ρ : Dev nD → PrngReg)

/-- The reference's result, of the launch's arrays and the tables. -/
def goal (c : Dev nD) : FVec Ideal S1699840x128 .f32 :=
  RefValue.out (arr0 m c) (v 0) (v 1) (arr1 m c) (arr2 m c) (arr3 m c) (arr4 m c)

/-- The block of a point. -/
def blkNo (t : Fin (cfgA v hv).N) : Fin 415 := ⟨t.val, lt_of_lt_of_eq t.isLt N_0⟩

/-- The expert of a point is the one its block names. -/
theorem ex_spec (t : Fin (cfgA v hv).N) : ((v 0) (ix1 (blkNo v hv t)) : BitVec 32).toNat = (ex v hv t).val := by
  have h : crd v hv t 0 = blkNo v hv t := Fin.ext (crd_val v hv t)
  show _ = (beAt v (crd v hv t 0)).toNat
  rw [h]
  rfl

/-- The computation's condition says that the block is in use. -/
theorem cond3_iff (t : Fin (cfgA v hv).N) :
    Iff (k0_cond3 (crd v hv t) (nbWord (F := Ideal) (v 1)) = 1#1) (IntOp.cmpi .slt (BitVec.ofNat 32 (blkNo v hv t).val) ((v 1) (ix1 (0 : Fin 1))) = 1#1) := by
  rw [nbWord_eq]
  unfold k0_cond3
  rw [show (crd v hv t 0).val = (blkNo v hv t).val from crd_val v hv t]
  exact (by decide : ∀ b : BitVec 1, Iff (Scalar.cmpi .ne (Scalar.extui b : BitVec 32) 0#32 = 1#1) (b = 1#1)) _

/-- A block in use is below the count. -/
theorem lt_of_used (n : ℕ) (hn : n < 415) (w : BitVec 32) (hw : 1 ≤ w.toInt) (h : IntOp.cmpi .slt (BitVec.ofNat 32 n) w = 1#1) : n < w.toNat := by
  have one (p : Bool) (h : BitVec.ofBool p = 1#1) : p = true := by revert h; cases p <;> decide
  have h := one _ h
  simp only [BitVec.slt_eq_decide, decide_eq_true_eq] at h
  have h1 : (BitVec.ofNat 32 n).toInt = (n : ℤ) := by
    rw [BitVec.toInt_eq_toNat_cond]; simp only [BitVec.toNat_ofNat]; omega
  rw [h1] at h
  rw [BitVec.toInt_eq_toNat_cond] at h hw
  have := w.isLt
  split at hw <;> omega

/-- The rows of a block in use, through the window. -/
theorem blk0_apply (c : Dev nD) (t : Fin (cfgA v hv).N) (ht : t.val < (nbAt v).toNat) (p : Fin 512) (k : Fin 1024) :
    iblk v hv m ρ c (0 : Fin 6) t (ix2 (subRow p k) (packLane k)) = arr0 m c (ix2 (packRow (blkNo v hv t) p k) (packLane k)) := by
  refine (iblk0_apply v hv m ρ c t (subRow p k) (packLane k)).trans (congrArg (fun r => arr0 m c (ix2 r (packLane k))) (Fin.ext ?_))
  show 4096 * min t.val ((nbAt v).toNat - 1) + (8 * p.val + k.val / 128) = 4096 * t.val + 8 * p.val + k.val / 128
  omega

theorem gu_blk (c : Dev nD) (t : Fin (cfgA v hv).N) (k : Fin 1024) (f : Fin 2048) :
    castGu (iblk v hv m ρ c (1 : Fin 6) t) (ix2 k f) = arr1 m c (ix3 (ex v hv t) k f) :=
  iblk1_apply v hv m ρ c t (0 : Fin 1) k f
theorem d_blk (c : Dev nD) (t : Fin (cfgA v hv).N) (f d : Fin 1024) :
    castD (iblk v hv m ρ c (3 : Fin 6) t) (ix2 f d) = arr3 m c (ix3 (ex v hv t) f d) :=
  iblk3_apply v hv m ρ c t (0 : Fin 1) f d

/-- Before the activation, a point's values are the reference's. -/
theorem preOf_eq (c : Dev nD) (t : Fin (cfgA v hv).N) (ht : t.val < (nbAt v).toNat) (p : Fin 512) (f : Fin 2048) :
    preOf (castGu (iblk v hv m ρ c (1 : Fin 6) t)) (iblk v hv m ρ c (0 : Fin 6) t) (iblk v hv m ρ c (2 : Fin 6) t) p f
      = guOf (arr0 m c) (arr1 m c) (arr2 m c) (blkNo v hv t) (ex v hv t) p f := by
  unfold preOf guOf
  exact congrArg₂ (· + ·) (Finset.sum_congr rfl fun k _ => congrArg₂ (· * ·) (blk0_apply v hv m ρ c t ht p k) (gu_blk v hv m ρ c t k f))
    (iblk2_apply v hv m ρ c t (0 : Fin 1) (0 : Fin 1) f)

/-- A live point's results are the reference's. -/
theorem block_eq (c : Dev nD) (t : Fin (cfgA v hv).N) (ht : t.val < (nbAt v).toNat) (p : Fin 512) (d : Fin 1024) :
    blockOf (castGu (iblk v hv m ρ c (1 : Fin 6) t)) (castD (iblk v hv m ρ c (3 : Fin 6) t)) (iblk v hv m ρ c (0 : Fin 6) t)
        (iblk v hv m ρ c (2 : Fin 6) t) (iblk v hv m ρ c (4 : Fin 6) t) (ix2 p d)
      = outOf (arr0 m c) (arr1 m c) (arr2 m c) (arr3 m c) (arr4 m c) (blkNo v hv t) (ex v hv t) p d := by
  refine (blockOf_apply _ _ _ _ _ p d).trans ?_
  unfold outOf
  exact congrArg₂ (· + ·) (Finset.sum_congr rfl fun f _ => congrArg₂ (· * ·)
      (congrArg₂ actOf (preOf_eq v hv m ρ c t ht p (gate f)) (preOf_eq v hv m ρ c t ht p (up f))) (d_blk v hv m ρ c t f d))
    (iblk4_apply v hv m ρ c t (0 : Fin 1) (0 : Fin 1) d)

/-- A row of a point's output block, by its row of results and its residue. -/
def outRow (p : Fin 512) (j : Fin 8) : Fin 4096 := ⟨8 * p.val + j.val, by omega⟩

/-- What a point leaves in its output block is what the reference has there. -/
theorem outAt_apply (c : Dev nD) (t : Fin (cfgA v hv).N) (p : Fin 512) (j : Fin 8) (q : Fin 128) :
    outAt v hv m ρ c t (ix2 (outRow p j) q) = goal v m c (ix2 (cell (blkNo v hv t) p j q).1 (cell (blkNo v hv t) p j q).2) := by
  unfold goal
  refine Eq.trans ?_ (out_apply (arr0 m c) (v 0) (v 1) (arr1 m c) (arr2 m c) (arr3 m c) (arr4 m c) (blkNo v hv t) (ex v hv t) (ex_spec v hv t) p j q).symm
  unfold outAt outBlock
  by_cases h : k0_cond3 (crd v hv t) (nbWord (F := Ideal) (v 1)) = 1#1
  · have hu := (cond3_iff v hv t).1 h
    have ht : t.val < (nbAt v).toNat := lt_of_used _ (blkNo v hv t).isLt _ hv.nb hu
    rw [if_pos h, if_pos hu]
    refine Eq.trans ?_ (block_eq v hv m ρ c t ht p (lane j q))
    unfold liveOut unfold8
    refine congrArg (blockOf _ _ _ _ _) (funext fun a => Fin.ext ?_)
    match a with
    | ⟨0, _⟩ => show (8 * p.val + j.val) / 8 = p.val; omega
    | ⟨1, _⟩ => show 128 * ((8 * p.val + j.val) % 8) + q.val = 128 * j.val + q.val; omega
  · rw [if_neg h, if_neg (fun hu => h ((cond3_iff v hv t).2 hu))]
    exact Ideal.ofBits_zero_f32

/-! ## The blocks of the result -/

theorem index5 (t : Fin (cfgA v hv).N) : cc0_transform_5 (crd v hv t) 0 = t.val := by
  have h : t.val < 415 := lt_of_lt_of_eq t.isLt N_0
  show (BitVec.ofNat 32 (crd v hv t 0).val).toNat = t.val
  rw [crd_val, BitVec.toNat_ofNat]
  omega

/-- Every point writes its block back. -/
theorem flush5 (t : Fin (cfgA v hv).N) : ((cfgA v hv).win (5 : Fin 6)).flush t = true := by
  rw [Window.flush_eq_flushOf]
  unfold Window.flushOf
  rw [Bool.and_eq_true]
  refine ⟨rfl, ?_⟩
  by_cases hl : t.val + 1 = (cfgA v hv).grid.N
  · simp [hl]
  · have hlt : t.val + 1 < (cfgA v hv).grid.N := lt_of_le_of_ne t.isLt hl
    rw [Bool.or_eq_true]
    refine Or.inr (decide_eq_true ⟨hlt, fun h => ?_⟩)
    have e : cc0_transform_5 (crd v hv ⟨t.val + 1, hlt⟩) 0 = cc0_transform_5 (crd v hv t) 0 := congrFun h 0
    rw [index5, index5] at e
    exact absurd e (Nat.succ_ne_self _)

/-- What a point writes back is its block of the reference's result. -/
theorem flushed5 (c : Dev nD) (t : Fin (cfgA v hv).N) :
    (dats v hv m ρ 0 c).flushed (5 : Fin 6) t = (((cfgA v hv).win (5 : Fin 6)).blk t).view.read (Elt Ideal) (goal v m c) := by
  show ((cfgA v hv).win (5 : Fin 6)).cut (crd v hv t) ((dats v hv m ρ 0 c).after (5 : Fin 6) t) = _
  rw [after0_5]
  funext y
  have hy0 : (y 0).val < 4096 := (y 0).isLt
  have hy1 : (y 1).val < 128 := (y 1).isLt
  let p : Fin 512 := ⟨(y 0).val / 8, by omega⟩
  let j : Fin 8 := ⟨(y 0).val % 8, by omega⟩
  let q : Fin 128 := ⟨(y 1).val, hy1⟩
  refine Eq.trans ?_ ((outAt_apply v hv m ρ c t p j q).trans ?_)
  · show outAt v hv m ρ c t _ = _
    refine congrArg (outAt v hv m ρ c t) (funext fun a => Fin.ext ?_)
    match a with
    | ⟨0, _⟩ => show (y 0).val = 8 * ((y 0).val / 8) + (y 0).val % 8; omega
    | ⟨1, _⟩ => rfl
  · refine congrArg (goal v m c) (funext fun a => Fin.ext ?_)
    match a with
    | ⟨0, _⟩ =>
      show 4096 * t.val + 8 * ((y 0).val / 8) + (y 0).val % 8 = cc0_transform_5 (crd v hv t) 0 * 4096 + 1 * (y 0).val
      rw [index5]; omega
    | ⟨1, _⟩ => show (y 1).val = 0 * 128 + 1 * (y 1).val; omega

/-- Every index of the result is in some point's block. -/
theorem cover (i : S1699840x128.Idx) :
    ∃ t : Fin (cfgA v hv).N, ((cfgA v hv).win (5 : Fin 6)).flush t = true ∧ i ∈ (((cfgA v hv).win (5 : Fin 6)).blk t).view.set := by
  have h0 : (i 0).val < 1699840 := (i 0).isLt
  have h1 : (i 1).val < 128 := (i 1).isLt
  have hN : (cfgA v hv).N = 415 := N_0
  let t : Fin (cfgA v hv).N := ⟨(i 0).val / 4096, by rw [hN]; omega⟩
  refine ⟨t, flush5 v hv t, ?_⟩
  have e := index5 v hv t
  let y : S4096x128.Idx := ix2 (⟨(i 0).val % 4096, by omega⟩ : Fin 4096) (⟨(i 1).val, h1⟩ : Fin 128)
  have hy : (((cfgA v hv).win (5 : Fin 6)).blk t).view.emb y = i := by
    funext a
    refine Fin.ext ?_
    match a with
    | ⟨0, _⟩ =>
      show cc0_transform_5 (crd v hv t) 0 * 4096 + 1 * ((i 0).val % 4096) = (i 0).val
      rw [e]; show (i 0).val / 4096 * 4096 + _ = _; omega
    | ⟨1, _⟩ => show 0 * 128 + 1 * (i 1).val = (i 1).val; omega
  rw [← hy]
  exact View.emb_mem_set _ y

/-- The result array ends as the reference's. -/
theorem final (c : Dev nD) : (dats v hv m ρ 0 c).arrAt (5 : Fin 6) (cfgA v hv).N = goal v m c :=
  (dats v hv m ρ 0 c).arrAt_eq_of_cover (5 : Fin 6) (goal v m c) (fun t _ => flushed5 v hv m ρ c t) (cover v hv)

end Cert.KernelIdeal.Hand

end
-- ==== Proof.Words.lean ====
module

public import proofs.«01_k».proof.Proof.Gen.Pre_tables_in_range
public import Idealize.ShloMosaic.Lib.ReduceAll
public import Idealize.ShloMosaic.Lib.Pointwise

/-! # What the precondition says of the two tables

The precondition is three conjunctions over table entries; a conjunction that holds holds of every entry. -/

@[expose] public section

noncomputable section

namespace Cert.Words

open Cert.Pre_tables_in_range Cert.Pre_tables_in_range.Gen
open Idealize.ShloMosaic

/-- A one-bit conjunction is one exactly when both sides are. -/
theorem and_one (p q : BitVec 1) (h : IntOp.andi p q = 1#1) : p = 1#1 ∧ q = 1#1 := by
  revert p q; decide

/-- A word from 0 up to 32, read signed, is below 32 read unsigned. -/
theorem lt_of_cmp (w : BitVec 32) (h0 : IntOp.cmpi .sge w 0#32 = 1#1) (h1 : IntOp.cmpi .slt w 32#32 = 1#1) : w.toNat < 32 := by
  have one (p : Bool) (h : BitVec.ofBool p = 1#1) : p = true := by revert h; cases p <;> decide
  have h0 := one _ h0
  have h1 := one _ h1
  simp only [BitVec.sle_eq_decide, BitVec.slt_eq_decide, decide_eq_true_eq, BitVec.toInt_eq_toNat_cond, BitVec.toNat_ofNat,
    Nat.reducePow, Nat.reduceMod] at h0 h1
  have := w.isLt
  omega

/-- A word that compares at least one is at least one. -/
theorem le_of_cmp (w : BitVec 32) (h : IntOp.cmpi .sge w 1#32 = 1#1) : 1 ≤ w.toInt := by
  have one (p : Bool) (h : BitVec.ofBool p = 1#1) : p = true := by revert h; cases p <;> decide
  have h := one _ h
  simp only [BitVec.sle_eq_decide, decide_eq_true_eq] at h
  exact h

instance : Subsingleton S_.Idx := ⟨fun a b => funext fun x => x.elim0⟩

/-- The precondition of the arguments: every entry of the block table is an expert below 32, and the count of blocks in
    use is at least one. -/
theorem words_of_pre {F : FTy → Type} [FloatOps F] (a0 : FVec F S1699840x128 .f32) (a1 : IVec S415 32) (a2 : IVec S1 32)
    (a3 : FVec F S32x1024x2048 .f32) (a4 : FVec F S32x1x2048 .f32) (a5 : FVec F S32x1024x1024 .f32) (a6 : FVec F S32x1x1024 .f32)
    (h : fn a0 a1 a2 a3 a4 a5 a6 = fun _ => 1#1) : (∀ n, (a1 n).toNat < 32) ∧ ∀ n, 1 ≤ (a2 n).toInt := by
  have e := congrFun h (fun x => x.elim0)
  unfold fn at e
  obtain ⟨e01, e2⟩ := and_one _ _ e
  obtain ⟨e0, e1⟩ := and_one _ _ e01
  exact ⟨fun n => lt_of_cmp _ (Host.reduce_andi_all _ _ _ _ _ e0 n) (Host.reduce_andi_all _ _ _ _ _ e1 n),
    fun n => le_of_cmp _ (Host.reduce_andi_all _ _ _ _ _ e2 n)⟩

end Cert.Words

end
-- ==== Proof.LayerNorm.lean ====
module

public import Idealize.ShloMosaic.Lib.IdealHost
public import Idealize.ShloMosaic.PureOps.Ideal

/-! # The layer norm of one row

A row of 1024 numbers less its mean, by the inverse root of its variance plus a small constant, by the gains, plus the
offsets. -/

@[expose] public section

noncomputable section

namespace Cert.LayerNorm

open Idealize.ShloMosaic

/-- The mean of a row. -/
def mean (x : Fin 1024 → EReal) : EReal := Ideal.div (∑ k, x k) (Ideal.ofBits .f32 0x44800000#32)

/-- The layer norm of a row, at a column. -/
def norm (x g b : Fin 1024 → EReal) (k : Fin 1024) : EReal :=
  (x k - mean x) * Ideal.rsqrt (mean (fun j => (x j - mean x) * (x j - mean x)) + Ideal.ofBits .f32 0x3727C5AC#32) * g k + b k

end Cert.LayerNorm

end
-- ==== Proof.InRef.lean ====
module

public import proofs.«01_k».proof.Proof.Gen.Reference2Ideal.Run
public import proofs.«01_k».proof.Proof.LayerNorm
public import Idealize.ShloMosaic.Lib.Pointwise

/-! # The input projection's reference, read at an index

The reference's arrays in the order it makes them: the layer norm of the rows, the product with the input weights, and the
gated linear unit.  Each is given by its entries. -/

@[expose] public section

set_option maxRecDepth 8192
set_option Elab.async false

noncomputable section

namespace Cert.InRef

open Cert.Reference2Ideal Cert.Reference2Ideal.Facts₀ Cert.Reference2Ideal.Facts
open Idealize.ShloMosaic Idealize.ShloMosaic.TcCoe

variable (x : FVec Ideal S8x2048x1024 .f32) (g b : FVec Ideal S1024 .f32)
variable (w : FVec Ideal S1x1024x3584 .f32) (e : FVec Ideal S1x3584 .f32)

/-- The mean of every row, as a column. -/
def mean (y : FVec Ideal S8x2048x1024 .f32) : FVec Ideal S8x2048x1 .f32 :=
  Host.divf (broadcastInDim S8x2048x1 ![0, 1] bcast_S8x2048_S8x2048x1_0_1 (Host.reduceAdd y (constant S_ .f32 0x00000000#32) reducesTo_S8x2048x1024_S8x2048_d2 h_S_)) (broadcastInDim S8x2048x1 ![] bcast_S_S8x2048x1 (constant S_ .f32 0x44800000#32))

/-- Every row less its mean. -/
def dev (y : FVec Ideal S8x2048x1024 .f32) : FVec Ideal S8x2048x1024 .f32 :=
  subf y (broadcastInDim S8x2048x1024 ![0, 1, 2] bcast_S8x2048x1_S8x2048x1024_0_1_2 (mean y))

/-- The layer norm of the rows. -/
def norm : FVec Ideal S8x2048x1024 .f32 :=
  addf (mulf (mulf (dev x) (broadcastInDim S8x2048x1024 ![0, 1, 2] bcast_S8x2048x1_S8x2048x1024_0_1_2 (Host.rsqrt (addf (mean (mulf (dev x) (dev x))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 g))) (broadcastInDim S8x2048x1024 ![0, 1, 2] bcast_S1x1x1024_S8x2048x1024_0_1_2 (broadcastInDim S1x1x1024 ![2] bcast_S1024_S1x1x1024_2 b))

/-- The product with the weights, and the bias. -/
def proj (h : FVec Ideal S8x2048x1024 .f32) : FVec Ideal S8x2048x3584 .f32 :=
  addf (Host.dotGeneral dot_S8x2048x1024_S1024x3584_S8x2048x3584_2_0_01_1_n_n none h (shapeCast _ w shapeCasts_S1x1024x3584_S1024x3584)) (broadcastInDim S8x2048x3584 ![0, 1, 2] bcast_S1x1x3584_S8x2048x3584_0_1_2 (broadcastInDim S1x1x3584 ![2] bcast_S3584_S1x1x3584_2 (shapeCast _ e shapeCasts_S1x3584_S3584)))

/-- The gated linear unit of a product. -/
def glu (z : FVec Ideal S8x2048x3584 .f32) : FVec Ideal S8x2048x512 .f32 :=
  mulf (extractStridedSlice S8x2048x512 ![0, 0, 0] z slices_S8x2048x3584_S8x2048x512_0_0_0) (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf (extractStridedSlice S8x2048x512 ![0, 0, 512] z slices_S8x2048x3584_S8x2048x512_0_0_512)))))

/-- The first result. -/
def out0 : FVec Ideal S16384x512 .bf16 :=
  truncf .bf16 (shapeCast S16384x512 (glu (proj w e (norm x g b))) shapeCasts_S8x2048x512_S16384x512) bitsLt_bf16_f32

/-- The second result. -/
def out1 : FVec Ideal S16384x512 .f32 :=
  shapeCast S16384x512 (extractStridedSlice S8x2048x512 ![0, 0, 1024] (proj w e (norm x g b)) slices_S8x2048x3584_S8x2048x512_0_0_1024) shapeCasts_S8x2048x512_S16384x512

/-- The reference ends, its results `out0` and `out1` of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v41) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v42) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun _ h c => ⟨⟨(h c).1.trans ?_, (h c).2.1.trans ?_⟩, (h c).2.2⟩) (Value.run m ρ)
  · unfold Value.res_main_v41 out0 glu proj norm mean dev
    rfl
  · unfold out1 proj norm mean dev
    rfl

/-! ## The entries -/

open Cert.LayerNorm

theorem mean_apply (y : FVec Ideal S8x2048x1024 .f32) (i : Fin 8) (t : Fin 2048) :
    mean y (ix3 i t (0 : Fin 1)) = LayerNorm.mean fun k => y (ix3 i t k) := by
  unfold mean
  pointwise
  rfl

theorem dev_apply (y : FVec Ideal S8x2048x1024 .f32) (i : Fin 8) (t : Fin 2048) (k : Fin 1024) :
    dev y (ix3 i t k) = y (ix3 i t k) - LayerNorm.mean fun k => y (ix3 i t k) := by
  have := mean_apply y i t
  unfold dev
  generalize mean y = u at *
  rw [← this]
  pointwise

theorem norm_apply (i : Fin 8) (t : Fin 2048) (k : Fin 1024) :
    norm x g b (ix3 i t k) = LayerNorm.norm (fun k => x (ix3 i t k)) (fun k => g (ix1 k)) (fun k => b (ix1 k)) k := by
  have h1 := mean_apply (mulf (dev x) (dev x)) i t
  have h2 := dev_apply x i t
  unfold norm
  have h3 : (fun k => (mulf (dev x) (dev x)) (ix3 i t k)) = fun k => dev x (ix3 i t k) * dev x (ix3 i t k) := rfl
  rw [h3] at h1
  generalize mean (mulf (dev x) (dev x)) = v at *
  generalize dev x = d at *
  simp only [h2] at h1
  unfold LayerNorm.norm
  rw [← h1, ← h2]
  pointwise

theorem proj_apply (h : FVec Ideal S8x2048x1024 .f32) (i : Fin 8) (t : Fin 2048) (f : Fin 3584) :
    proj w e h (ix3 i t f) = (∑ k : Fin 1024, h (ix3 i t k) * w (ix3 (0 : Fin 1) k f)) + e (ix2 (0 : Fin 1) f) := by
  unfold proj
  pointwise

theorem glu_apply (z : FVec Ideal S8x2048x3584 .f32) (i : Fin 8) (t : Fin 2048) (f : Fin 512) :
    glu z (ix3 i t f) = z (ix3 i t ⟨f.val, by omega⟩) * Ideal.logistic (z (ix3 i t ⟨512 + f.val, by omega⟩)) := by
  unfold glu
  pointwise
  unfold Ideal.logistic
  rfl

/-- The batch and the position of row `r` of the results. -/
def batch (r : Fin 16384) : Fin 8 := ⟨r.val / 2048, by omega⟩
def pos (r : Fin 16384) : Fin 2048 := ⟨r.val % 2048, by omega⟩

/-- The projection of row `r`, at column `f`. -/
def projOf (r : Fin 16384) (f : Fin 3584) : EReal :=
  (∑ k : Fin 1024, LayerNorm.norm (fun k => x (ix3 (batch r) (pos r) k)) (fun k => g (ix1 k)) (fun k => b (ix1 k)) k * w (ix3 (0 : Fin 1) k f)) + e (ix2 (0 : Fin 1) f)

theorem proj_norm_apply (r : Fin 16384) (f : Fin 3584) : proj w e (norm x g b) (ix3 (batch r) (pos r) f) = projOf x g b w e r f := by
  rw [proj_apply]
  simp only [norm_apply]
  rfl

/-- The rows of the two leading axes in one. -/
theorem flat_apply (y : FVec Ideal S8x2048x512 .f32) (r : Fin 16384) (f : Fin 512) :
    shapeCast S16384x512 y shapeCasts_S8x2048x512_S16384x512 (ix2 r f) = y (ix3 (batch r) (pos r) f) := by
  refine shapeCast_apply _ _ _ _ ?_
  rw [Shape.rowMajor_val_two, Shape.rowMajor_val_three]
  show (r.val / 2048 * 2048 + r.val % 2048) * 512 + f.val = r.val * 512 + f.val
  omega

theorem out0_apply (r : Fin 16384) (f : Fin 512) :
    out0 x g b w e (ix2 r f) = projOf x g b w e r ⟨f.val, by omega⟩ * Ideal.logistic (projOf x g b w e r ⟨512 + f.val, by omega⟩) := by
  refine (flat_apply (glu (proj w e (norm x g b))) r f).trans ?_
  rw [glu_apply, proj_norm_apply, proj_norm_apply]

theorem out1_apply (r : Fin 16384) (f : Fin 512) :
    out1 x g b w e (ix2 r f) = projOf x g b w e r ⟨1024 + f.val, by omega⟩ := by
  refine (flat_apply _ r f).trans ?_
  rw [← proj_norm_apply]
  generalize proj w e (norm x g b) = z
  pointwise

end Cert.InRef

end
-- ==== Proof.InValue.lean ====
module

public import proofs.«01_k».proof.Proof.Gen.Kernel2Ideal.Value
public import proofs.«01_k».proof.Proof.InRef
public import proofs.«01_k».proof.Proof.Sigmoid
public import Idealize.ShloMosaic.Lib.Pointwise

/-! # The idealised input projection computes the reference's functions

Each grid point takes 1024 rows: their layer norm, its product with the first 1536 columns of the input weights, the gated
linear unit of the first two parts of 512 columns, and the third part as it is.  The blocks tile the two results. -/

@[expose] public section

set_option maxRecDepth 16384
set_option Elab.async false

noncomputable section

namespace Cert.Kernel2Ideal.Hand

open Cert.Kernel2Ideal Cert.Kernel2Ideal.Gen
open Idealize.ShloMosaic Idealize.ShloMosaic.TcCoe
open Idealize.ShloMosaic.Pipeline

/-! ## The body's block, read at an index -/

/-- The mean of every row of a block, as a column. -/
def rowMean (v : FVec Ideal S1024x1024 .f32) : FVec Ideal S1024x1 .f32 :=
  divf (shapeCast S1024x1 (multiReduction .add [1] S1024 v 0x00000000#32 reduces_S1024x1024_S1024 (.inl rfl) rfl) shapeCasts_S1024_S1024x1) (broadcast S1024x1 (Scalar.ofBits .f32 0x44800000#32))

/-- Every row of a block less its mean. -/
def rowDev (v : FVec Ideal S1024x1024 .f32) : FVec Ideal S1024x1024 .f32 :=
  subf v (broadcastTo S1024x1024 (rowMean v) broadcasts_S1024x1_S1024x1024)

/-- The layer norm of the rows of a block. -/
def rowNorm (x : FVec Ideal S1024x1024 .f32) (g b : FVec Ideal S1x1024 .f32) : FVec Ideal S1024x1024 .f32 :=
  addf (mulf (mulf (rowDev x) (broadcastTo S1024x1024 (rsqrt (addf (rowMean (mulf (rowDev x) (rowDev x))) (broadcast S1024x1 (Scalar.ofBits .f32 0x3727C5AC#32)))) broadcasts_S1024x1_S1024x1024)) (broadcastTo S1024x1024 g broadcasts_S1x1024_S1024x1024)) (broadcastTo S1024x1024 b broadcasts_S1x1024_S1024x1024)

/-- The body's block before the gate: the product of the layer norm, and the bias. -/
theorem pay3_eq (x : Vec Ideal S1024x1024 .f32) (g b : Vec Ideal S1x1024 .f32) (w : Vec Ideal S1024x1536 .bf16) (e : Vec Ideal S1x1536 .f32) :
    k0_pay3 x g b w e = addf (matmul (φ₂ := .bf16) dot_S1024x1024_S1024x1536_S1024x1536_1_0_0_1_n_n none (truncf .bf16 (rowNorm x g b) bitsLt_bf16_f32) w (constant S1024x1536 .f32 0x00000000#32)) (broadcastTo S1024x1536 e broadcasts_S1x1536_S1024x1536) := by
  unfold k0_pay3
  simp only [shapeCast_self]
  unfold rowNorm rowDev rowMean
  rfl

theorem rowMean_apply (y : FVec Ideal S1024x1024 .f32) (p : Fin 1024) :
    rowMean y (ix2 p (0 : Fin 1)) = LayerNorm.mean fun k => y (ix2 p k) := by
  unfold rowMean
  pointwise
  rfl

theorem rowDev_apply (y : FVec Ideal S1024x1024 .f32) (p : Fin 1024) (k : Fin 1024) :
    rowDev y (ix2 p k) = y (ix2 p k) - LayerNorm.mean fun k => y (ix2 p k) := by
  have := rowMean_apply y p
  unfold rowDev
  generalize rowMean y = u at *
  rw [← this]
  pointwise

theorem rowNorm_apply (x : FVec Ideal S1024x1024 .f32) (g b : FVec Ideal S1x1024 .f32) (p : Fin 1024) (k : Fin 1024) :
    rowNorm x g b (ix2 p k) = LayerNorm.norm (fun k => x (ix2 p k)) (fun k => g (ix2 (0 : Fin 1) k)) (fun k => b (ix2 (0 : Fin 1) k)) k := by
  have h1 := rowMean_apply (mulf (rowDev x) (rowDev x)) p
  have h2 := rowDev_apply x p
  unfold rowNorm
  have h3 : (fun k => (mulf (rowDev x) (rowDev x)) (ix2 p k)) = fun k => rowDev x (ix2 p k) * rowDev x (ix2 p k) := rfl
  rw [h3] at h1
  generalize rowMean (mulf (rowDev x) (rowDev x)) = v at *
  generalize rowDev x = d at *
  simp only [h2] at h1
  unfold LayerNorm.norm
  rw [← h1, ← h2]
  pointwise

theorem pay3_apply (x : Vec Ideal S1024x1024 .f32) (g b : Vec Ideal S1x1024 .f32) (w : Vec Ideal S1024x1536 .bf16) (e : Vec Ideal S1x1536 .f32) (p : Fin 1024) (f : Fin 1536) :
    k0_pay3 x g b w e (ix2 p f)
      = (∑ k : Fin 1024, LayerNorm.norm (fun k => x (ix2 p k)) (fun k => g (ix2 (0 : Fin 1) k)) (fun k => b (ix2 (0 : Fin 1) k)) k * w (ix2 k f)) + e (ix2 (0 : Fin 1) f) := by
  rw [pay3_eq]
  simp only [← rowNorm_apply]
  generalize rowNorm x g b = h
  pointwise

/-! ## The arrays the region finds -/

variable (m : (ℓ : Loc nD τ sig) → Buf (Elt Ideal) ℓ) (c : Dev nD)

/-- The arrays at launch. -/
abbrev arg0 : FVec Ideal S8x2048x1024 .f32 := m ((c : Thread nD τ).loc main_arg0)
abbrev arg1 : FVec Ideal S1024 .f32 := m ((c : Thread nD τ).loc main_arg1)
abbrev arg2 : FVec Ideal S1024 .f32 := m ((c : Thread nD τ).loc main_arg2)
abbrev arg3 : FVec Ideal S1x1024x3584 .f32 := m ((c : Thread nD τ).loc main_arg3)
abbrev arg4 : FVec Ideal S1x3584 .f32 := m ((c : Thread nD τ).loc main_arg4)

theorem v6_eq : V m c main_v6 = shapeCast S16384x1024 (arg0 m c) shapeCasts_S8x2048x1024_S16384x1024 := by
  simp only [V, hostOps0, StableHlo.after]
  rfl
theorem v7_eq : V m c main_v7 = shapeCast S1x1024 (arg1 m c) shapeCasts_S1024_S1x1024 := by
  simp only [V, hostOps0, StableHlo.after]
  rfl
theorem v8_eq : V m c main_v8 = shapeCast S1x1024 (arg2 m c) shapeCasts_S1024_S1x1024 := by
  simp only [V, hostOps0, StableHlo.after]
  rfl
theorem v2_eq : V m c main_v2 = extractStridedSlice S1024x1536 ![0, 0] (truncf (F := Ideal) .bf16 (shapeCast S1024x3584 (arg3 m c) shapeCasts_S1x1024x3584_S1024x3584) bitsLt_bf16_f32) slices_S1024x3584_S1024x1536_0_0 := by
  simp only [V, hostOps0, StableHlo.after]
  rfl
theorem v5_eq : V m c main_v5 = shapeCast S1x1536 (shapeCast S1536 (extractStridedSlice S1x1536 ![0, 0] (arg4 m c) slices_S1x3584_S1x1536_0_0) shapeCasts_S1x1536_S1536) shapeCasts_S1536_S1x1536 := by
  simp only [V, hostOps0, StableHlo.after]
  rfl

theorem v6_apply (r : Fin 16384) (k : Fin 1024) : V m c main_v6 (ix2 r k) = arg0 m c (ix3 (InRef.batch r) (InRef.pos r) k) := by
  rw [v6_eq]
  refine shapeCast_apply _ _ _ _ ?_
  rw [Shape.rowMajor_val_two, Shape.rowMajor_val_three]
  show (r.val / 2048 * 2048 + r.val % 2048) * 1024 + k.val = r.val * 1024 + k.val
  omega
theorem v7_apply (k : Fin 1024) : V m c main_v7 (ix2 (0 : Fin 1) k) = arg1 m c (ix1 k) := by
  rw [v7_eq]
  pointwise
theorem v8_apply (k : Fin 1024) : V m c main_v8 (ix2 (0 : Fin 1) k) = arg2 m c (ix1 k) := by
  rw [v8_eq]
  pointwise
theorem v2_apply (k : Fin 1024) (f : Fin 1536) : V m c main_v2 (ix2 k f) = arg3 m c (ix3 (0 : Fin 1) k ⟨f.val, by omega⟩) := by
  rw [v2_eq]
  pointwise
theorem v5_apply (f : Fin 1536) : V m c main_v5 (ix2 (0 : Fin 1) f) = arg4 m c (ix2 (0 : Fin 1) ⟨f.val, by omega⟩) := by
  rw [v5_eq]
  pointwise

/-! ## The blocks of a point -/

theorem coord (t : Fin cfg0.N) : (grid0.coords t 0).val = t.val :=
  (by decide +kernel : ∀ t : Fin grid0.N, (grid0.coords t 0).val = t.val) t

/-- A row of the results, by its point and its row there. -/
def row (t : Fin cfg0.N) (p : Fin 1024) : Fin 16384 :=
  ⟨1024 * t.val + p.val, by have h : t.val < 16 := t.isLt; omega⟩

theorem index0 (t : Fin cfg0.N) : cc0_transform_0 (grid0.coords t) 0 = t.val := by
  have h : t.val < 16 := t.isLt
  show (BitVec.ofNat 32 (grid0.coords t 0).val).toNat = t.val
  rw [coord, BitVec.toNat_ofNat]
  omega

theorem iblk0_apply (t : Fin cfg0.N) (p k : Fin 1024) :
    iblk m c 0 t (ix2 p k) = arg0 m c (ix3 (InRef.batch (row t p)) (InRef.pos (row t p)) k) := by
  refine Eq.trans ?_ (v6_apply m c (row t p) k)
  unfold iblk
  refine congrArg (V m c main_v6) (funext fun a => Fin.ext ?_)
  match a with
  | ⟨0, _⟩ => show cc0_transform_0 (grid0.coords t) 0 * 1024 + 1 * p.val = 1024 * t.val + p.val; rw [index0]; omega
  | ⟨1, _⟩ => show 0 * 1024 + 1 * k.val = k.val; omega
theorem iblk1_apply (t : Fin cfg0.N) (k : Fin 1024) : iblk m c 1 t (ix2 (0 : Fin 1) k) = arg1 m c (ix1 k) := by
  refine Eq.trans ?_ (v7_apply m c k)
  unfold iblk
  refine congrArg (V m c main_v7) (funext fun a => Fin.ext ?_)
  match a with
  | ⟨0, _⟩ => rfl
  | ⟨1, _⟩ => show 0 * 1024 + 1 * k.val = k.val; omega
theorem iblk2_apply (t : Fin cfg0.N) (k : Fin 1024) : iblk m c 2 t (ix2 (0 : Fin 1) k) = arg2 m c (ix1 k) := by
  refine Eq.trans ?_ (v8_apply m c k)
  unfold iblk
  refine congrArg (V m c main_v8) (funext fun a => Fin.ext ?_)
  match a with
  | ⟨0, _⟩ => rfl
  | ⟨1, _⟩ => show 0 * 1024 + 1 * k.val = k.val; omega
theorem iblk3_apply (t : Fin cfg0.N) (k : Fin 1024) (f : Fin 1536) : iblk m c 3 t (ix2 k f) = arg3 m c (ix3 (0 : Fin 1) k ⟨f.val, by omega⟩) := by
  refine Eq.trans ?_ (v2_apply m c k f)
  unfold iblk
  refine congrArg (V m c main_v2) (funext fun a => Fin.ext ?_)
  match a with
  | ⟨0, _⟩ => show 0 * 1024 + 1 * k.val = k.val; omega
  | ⟨1, _⟩ => show 0 * 1536 + 1 * f.val = f.val; omega
theorem iblk4_apply (t : Fin cfg0.N) (f : Fin 1536) : iblk m c 4 t (ix2 (0 : Fin 1) f) = arg4 m c (ix2 (0 : Fin 1) ⟨f.val, by omega⟩) := by
  refine Eq.trans ?_ (v5_apply m c f)
  unfold iblk
  refine congrArg (V m c main_v5) (funext fun a => Fin.ext ?_)
  match a with
  | ⟨0, _⟩ => rfl
  | ⟨1, _⟩ => show 0 * 1536 + 1 * f.val = f.val; omega

/-- Loading a whole block gives the block. -/
theorem ld_whole {s : Shape} {η : EltTy} (x : s.Idx → Elt Ideal η) (off : Fin s.rank → ℕ) (h) (h0 : ∀ a, off a = 0) :
    View.ld (Val := Elt Ideal) x (Rect.unit (s := s) off s.size h) = x := by
  funext y
  refine congrArg x (funext fun a => Fin.ext ?_)
  show off a + 1 * (y a).val = (y a).val
  rw [h0]; omega

/-- A point's block before the gate is the reference's projection. -/
theorem block_eq (t : Fin cfg0.N) (p : Fin 1024) (f : Fin 1536) :
    k0_pay3 (F := Ideal) (View.ld (iblk m c 0 t) r0_0) (View.ld (iblk m c 1 t) r0_1) (View.ld (iblk m c 2 t) r0_1) (View.ld (iblk m c 3 t) r0_2) (View.ld (iblk m c 4 t) r0_3) (ix2 p f)
      = InRef.projOf (arg0 m c) (arg1 m c) (arg2 m c) (arg3 m c) (arg4 m c) (row t p) ⟨f.val, by omega⟩ := by
  have two (a : Fin 2) : (![0, 0] : Fin 2 → ℕ) a = 0 := by fin_cases a <;> rfl
  have e0 : View.ld (iblk m c 0 t) r0_0 = iblk m c 0 t := ld_whole (s := S1024x1024) (η := .f32) _ _ _ two
  have e1 : View.ld (iblk m c 1 t) r0_1 = iblk m c 1 t := ld_whole (s := S1x1024) (η := .f32) _ _ _ two
  have e2 : View.ld (iblk m c 2 t) r0_1 = iblk m c 2 t := ld_whole (s := S1x1024) (η := .f32) _ _ _ two
  have e3 : View.ld (iblk m c 3 t) r0_2 = iblk m c 3 t := ld_whole (s := S1024x1536) (η := .bf16) _ _ _ two
  have e4 : View.ld (iblk m c 4 t) r0_3 = iblk m c 4 t := ld_whole (s := S1x1536) (η := .f32) _ _ _ two
  rw [e0, e1, e2, e3, e4]
  refine (pay3_apply (iblk m c 0 t) (iblk m c 1 t) (iblk m c 2 t) (iblk m c 3 t) (iblk m c 4 t) p f).trans ?_
  unfold InRef.projOf
  refine congrArg₂ (· + ·) (Finset.sum_congr rfl fun k _ => congrArg₂ (· * ·) ?_ (iblk3_apply m c t k f)) (iblk4_apply m c t f)
  rw [show (fun k => iblk m c 0 t (ix2 p k)) = fun k => arg0 m c (ix3 (InRef.batch (row t p)) (InRef.pos (row t p)) k) from funext fun k => iblk0_apply m c t p k,
    show (fun k => iblk m c 1 t (ix2 (0 : Fin 1) k)) = fun k => arg1 m c (ix1 k) from funext fun k => iblk1_apply m c t k,
    show (fun k => iblk m c 2 t (ix2 (0 : Fin 1) k)) = fun k => arg2 m c (ix1 k) from funext fun k => iblk2_apply m c t k]

/-! ## The results -/

/-- The reference's results, of the launch's arrays. -/
def goal5 : FVec Ideal S16384x512 .bf16 := InRef.out0 (arg0 m c) (arg1 m c) (arg2 m c) (arg3 m c) (arg4 m c)
def goal6 : FVec Ideal S16384x512 .f32 := InRef.out1 (arg0 m c) (arg1 m c) (arg2 m c) (arg3 m c) (arg4 m c)

theorem out5_apply (t : Fin cfg0.N) (p : Fin 1024) (f : Fin 512) :
    out0_5 (iblk m c 0 t) (iblk m c 1 t) (iblk m c 2 t) (iblk m c 3 t) (iblk m c 4 t) (ix2 p f) = goal5 m c (ix2 (row t p) f) := by
  unfold out0_5 goal5
  rw [Value.canon5_eq, InRef.out0_apply]
  have e0 : Value.ix5_0 (ix2 p f) = ix2 p (⟨f.val, by omega⟩ : Fin 1536) := by
    funext a; refine Fin.ext ?_
    match a with
    | ⟨0, _⟩ => rfl
    | ⟨1, _⟩ => rfl
  have e1 : Value.ix5_1 (ix2 p f) = ix2 p (⟨512 + f.val, by omega⟩ : Fin 1536) := by
    funext a; refine Fin.ext ?_
    match a with
    | ⟨0, _⟩ => rfl
    | ⟨1, _⟩ => show f.val + 512 = 512 + f.val; omega
  have h0 := block_eq m c t p ⟨f.val, by omega⟩
  have h1 := block_eq m c t p ⟨512 + f.val, by omega⟩
  unfold Value.E5
  rw [e0, e1]
  have key (a b : EReal) : a * (Ideal.ofBits .f32 0x3F000000#32 * Ideal.tanh (Ideal.ofBits .f32 0x3F000000#32 * b) + Ideal.ofBits .f32 0x3F000000#32) = a * Ideal.logistic b :=
    congrArg (a * ·) (Sigmoid.half_tanh b)
  exact (key _ _).trans (congrArg₂ (fun a b => a * Ideal.logistic b) h0 h1)

theorem out6_apply (t : Fin cfg0.N) (p : Fin 1024) (f : Fin 512) :
    out0_6 (iblk m c 0 t) (iblk m c 1 t) (iblk m c 2 t) (iblk m c 3 t) (iblk m c 4 t) (ix2 p f) = goal6 m c (ix2 (row t p) f) := by
  unfold out0_6 goal6
  rw [Value.canon6_eq, InRef.out1_apply]
  have e0 : Value.ix6_0 (ix2 p f) = ix2 p (⟨1024 + f.val, by omega⟩ : Fin 1536) := by
    funext a; refine Fin.ext ?_
    match a with
    | ⟨0, _⟩ => rfl
    | ⟨1, _⟩ => show f.val + 1024 = 1024 + f.val; omega
  unfold Value.E6
  rw [e0]
  exact block_eq m c t p ⟨1024 + f.val, by omega⟩

theorem index5 (t : Fin cfg0.N) : cc0_transform_5 (grid0.coords t) 0 = t.val := index0 t
theorem index6 (t : Fin cfg0.N) : cc0_transform_6 (grid0.coords t) 0 = t.val := index0 t

theorem flush5 (t : Fin cfg0.N) : (cfg0.win 5).flush t = true :=
  (by decide +kernel : ∀ t : Fin grid0.N, win0_5.flush t = true) t
theorem flush6 (t : Fin cfg0.N) : (cfg0.win 6).flush t = true :=
  (by decide +kernel : ∀ t : Fin grid0.N, win0_6.flush t = true) t

/-- What a point writes back is its block of the reference's first result. -/
theorem flushed5 (t : Fin cfg0.N) : (dats m 0 c).flushed 5 t = ((cfg0.win 5).blk t).view.read (Elt Ideal) (goal5 m c) := by
  rw [Value.flushed5]
  funext y
  have hy0 : (y 0).val < 1024 := (y 0).isLt
  have hy1 : (y 1).val < 512 := (y 1).isLt
  refine Eq.trans ?_ ((out5_apply m c t ⟨(y 0).val, hy0⟩ ⟨(y 1).val, hy1⟩).trans ?_)
  · show out0_5 _ _ _ _ _ _ = _
    refine congrArg (out0_5 (iblk m c 0 t) (iblk m c 1 t) (iblk m c 2 t) (iblk m c 3 t) (iblk m c 4 t)) (funext fun a => Fin.ext ?_)
    match a with
    | ⟨0, _⟩ => rfl
    | ⟨1, _⟩ => rfl
  · refine congrArg (goal5 m c) (funext fun a => Fin.ext ?_)
    match a with
    | ⟨0, _⟩ => show 1024 * t.val + (y 0).val = cc0_transform_5 (grid0.coords t) 0 * 1024 + 1 * (y 0).val; rw [index5]; omega
    | ⟨1, _⟩ => show (y 1).val = 0 * 512 + 1 * (y 1).val; omega

/-- And of the second. -/
theorem flushed6 (t : Fin cfg0.N) : (dats m 0 c).flushed 6 t = ((cfg0.win 6).blk t).view.read (Elt Ideal) (goal6 m c) := by
  rw [Value.flushed6]
  funext y
  have hy0 : (y 0).val < 1024 := (y 0).isLt
  have hy1 : (y 1).val < 512 := (y 1).isLt
  refine Eq.trans ?_ ((out6_apply m c t ⟨(y 0).val, hy0⟩ ⟨(y 1).val, hy1⟩).trans ?_)
  · show out0_6 _ _ _ _ _ _ = _
    refine congrArg (out0_6 (iblk m c 0 t) (iblk m c 1 t) (iblk m c 2 t) (iblk m c 3 t) (iblk m c 4 t)) (funext fun a => Fin.ext ?_)
    match a with
    | ⟨0, _⟩ => rfl
    | ⟨1, _⟩ => rfl
  · refine congrArg (goal6 m c) (funext fun a => Fin.ext ?_)
    match a with
    | ⟨0, _⟩ => show 1024 * t.val + (y 0).val = cc0_transform_6 (grid0.coords t) 0 * 1024 + 1 * (y 0).val; rw [index6]; omega
    | ⟨1, _⟩ => show (y 1).val = 0 * 512 + 1 * (y 1).val; omega

/-- The point and the place in its block of an index of a result. -/
def pointOf (i : S16384x512.Idx) : Fin cfg0.N := ⟨(i 0).val / 1024, by have h : (i 0).val < 16384 := (i 0).isLt; show _ < 16; omega⟩
def placeOf (i : S16384x512.Idx) : S1024x512.Idx :=
  ix2 (⟨(i 0).val % 1024, by omega⟩ : Fin 1024) (⟨(i 1).val, (i 1).isLt⟩ : Fin 512)

theorem cover5 (i : S16384x512.Idx) : ∃ t : Fin cfg0.N, (cfg0.win 5).flush t = true ∧ i ∈ ((cfg0.win 5).blk t).view.set := by
  refine ⟨pointOf i, flush5 _, ?_⟩
  have hy : ((cfg0.win 5).blk (pointOf i)).view.emb (placeOf i) = i := by
    funext a
    refine Fin.ext ?_
    match a with
    | ⟨0, _⟩ =>
      show cc0_transform_5 (grid0.coords (pointOf i)) 0 * 1024 + 1 * ((i 0).val % 1024) = (i 0).val
      rw [index5]; show (i 0).val / 1024 * 1024 + _ = _; omega
    | ⟨1, _⟩ => show 0 * 512 + 1 * (i 1).val = (i 1).val; omega
  exact Set.mem_of_eq_of_mem hy.symm (View.emb_mem_set _ (placeOf i))

theorem cover6 (i : S16384x512.Idx) : ∃ t : Fin cfg0.N, (cfg0.win 6).flush t = true ∧ i ∈ ((cfg0.win 6).blk t).view.set := by
  refine ⟨pointOf i, flush6 _, ?_⟩
  have hy : ((cfg0.win 6).blk (pointOf i)).view.emb (placeOf i) = i := by
    funext a
    refine Fin.ext ?_
    match a with
    | ⟨0, _⟩ =>
      show cc0_transform_6 (grid0.coords (pointOf i)) 0 * 1024 + 1 * ((i 0).val % 1024) = (i 0).val
      rw [index6]; show (i 0).val / 1024 * 1024 + _ = _; omega
    | ⟨1, _⟩ => show 0 * 512 + 1 * (i 1).val = (i 1).val; omega
  exact Set.mem_of_eq_of_mem hy.symm (View.emb_mem_set _ (placeOf i))

/-- The result arrays end as the reference's. -/
theorem final5 : (dats m 0 c).arrAt 5 cfg0.N = goal5 m c :=
  (dats m 0 c).arrAt_eq_of_cover 5 (goal5 m c) (fun t _ => flushed5 m c t) cover5
theorem final6 : (dats m 0 c).arrAt 6 cfg0.N = goal6 m c :=
  (dats m 0 c).arrAt_eq_of_cover 6 (goal6 m c) (fun t _ => flushed6 m c t) cover6

end Cert.Kernel2Ideal.Hand

end
-- ==== Proof.IdealMixBody.lean ====
module

public import proofs.«01_k».proof.Proof.Gen.Kernel3Ideal.Skeleton
public import proofs.«01_k».proof.Proof.Gen.Kernel3Ideal.Frame
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

/-! # One grid point of the mixing and routing call, on each of its two control paths

The first point starts the running counts of the experts from the call's input (`runFirst`); every other point goes on from
the counts that the point before left in the scratch buffer (`runNext`).  Each definition packs what the path leaves — the
stores into the five output blocks, and the scratch buffer's contents — with the proof that the body, run on that path,
leaves it. -/

@[expose] public section

set_option maxRecDepth 16384
set_option Elab.async false

noncomputable section

namespace Cert.Kernel3Ideal.Hand

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The word by which the body decides whether the counts start here. -/
abbrev firstWord (i : grid0.Coords) : BitVec 1 :=
  Scalar.cmpi .ne (Scalar.extui (Scalar.cmpi .eq (BitVec.ofNat 32 (i 0).val) 0#32) : BitVec 32) 0#32

variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S32x128 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S32x1 .f32) (harg14 : arg14.IsWhole) (arg15 : Memref sig .tc .vmem S4096x128 .f32) (harg15 : arg15.IsWhole) (arg16 : Memref sig .tc .vmem S4x512 .i32) (harg16 : arg16.IsWhole) (arg17 : Memref sig .tc .vmem S4x512 .f32) (harg17 : arg17.IsWhole) (arg18 : Memref sig .tc .vmem S4x512 .i32) (harg18 : arg18.IsWhole) (arg19 : Memref sig .tc .vmem S32x128 .f32) (harg19 : arg19.IsWhole) (arg20 : Memref sig .tc .vmem S32x128 .f32) (harg20 : arg20.IsWhole)
  (x0 : Vec F S512x1024 .f32) (x1 : Vec F S512x1024 .bf16) (x2 : Vec F S512x1024 .f32) (x3 : Vec F S32x128 .f32) (x4 : Vec F S1x1024 .f32) (x5 : Vec F S1x1024 .f32) (x6 : Vec F S1024x2048 .bf16) (x7 : Vec F S1x2048 .f32) (x8 : Vec F S1024x1024 .bf16) (x9 : Vec F S1x1024 .f32) (x10 : Vec F S1x1024 .f32) (x11 : Vec F S1x1024 .f32) (x12 : Vec F S1024x256 .bf16) (x13 : Vec F S32x1 .f32)

/-- The staging buffers of the fourteen input windows at their blocks. -/
abbrev held : sProp 𝕄 :=
  iprop((arg1.view.loc (c : Thread nD τ) ↦[arg1.view.set]{fullShare} arg1.view.rep x0)
    ∗ (arg2.view.loc (c : Thread nD τ) ↦[arg2.view.set]{fullShare} arg2.view.rep x1)
    ∗ (arg3.view.loc (c : Thread nD τ) ↦[arg3.view.set]{fullShare} arg3.view.rep x2)
    ∗ (arg4.view.loc (c : Thread nD τ) ↦[arg4.view.set]{fullShare} arg4.view.rep x3)
    ∗ (arg5.view.loc (c : Thread nD τ) ↦[arg5.view.set]{fullShare} arg5.view.rep x4)
    ∗ (arg6.view.loc (c : Thread nD τ) ↦[arg6.view.set]{fullShare} arg6.view.rep x5)
    ∗ (arg7.view.loc (c : Thread nD τ) ↦[arg7.view.set]{fullShare} arg7.view.rep x6)
    ∗ (arg8.view.loc (c : Thread nD τ) ↦[arg8.view.set]{fullShare} arg8.view.rep x7)
    ∗ (arg9.view.loc (c : Thread nD τ) ↦[arg9.view.set]{fullShare} arg9.view.rep x8)
    ∗ (arg10.view.loc (c : Thread nD τ) ↦[arg10.view.set]{fullShare} arg10.view.rep x9)
    ∗ (arg11.view.loc (c : Thread nD τ) ↦[arg11.view.set]{fullShare} arg11.view.rep x10)
    ∗ (arg12.view.loc (c : Thread nD τ) ↦[arg12.view.set]{fullShare} arg12.view.rep x11)
    ∗ (arg13.view.loc (c : Thread nD τ) ↦[arg13.view.set]{fullShare} arg13.view.rep x12)
    ∗ (arg14.view.loc (c : Thread nD τ) ↦[arg14.view.set]{fullShare} arg14.view.rep x13))

set_option backward.proofsInPublic true in
set_option maxHeartbeats 16000000 in
/-- The first point: the counts start from the input block. -/
noncomputable def runFirst (hc : firstWord i = 1#1) :
    Σ' (o14 : List (View.Piece (Elt F) S4096x128 .f32)) (o15 : List (View.Piece (Elt F) S4x512 .i32)) (o16 : List (View.Piece (Elt F) S4x512 .f32)) (o17 : List (View.Piece (Elt F) S4x512 .i32)) (o18 : List (View.Piece (Elt F) S32x128 .f32)), { o19 : List (View.Piece (Elt F) S32x128 .f32) //
      ∀ K : PUnit → sProp 𝕄,
        iprop(held c arg1 arg2 arg3 arg4 arg5 arg6 arg7 arg8 arg9 arg10 arg11 arg12 arg13 arg14 x0 x1 x2 x3 x4 x5 x6 x7 x8 x9 x10 x11 x12 x13
          ∗ (∃ d, owns (c : Thread nD τ) arg15 fullShare d)
          ∗ (∃ d, owns (c : Thread nD τ) arg16 fullShare d)
          ∗ (∃ d, owns (c : Thread nD τ) arg17 fullShare d)
          ∗ (∃ d, owns (c : Thread nD τ) arg18 fullShare d)
          ∗ (∃ d, owns (c : Thread nD τ) arg19 fullShare d)
          ∗ (∃ d, owns (c : Thread nD τ) arg20 fullShare d)
          ∗ (iprop(held c arg1 arg2 arg3 arg4 arg5 arg6 arg7 arg8 arg9 arg10 arg11 arg12 arg13 arg14 x0 x1 x2 x3 x4 x5 x6 x7 x8 x9 x10 x11 x12 x13
              ∗ (∃ f, arg15.view.loc (c : Thread nD τ) ↦[arg15.view.set]{fullShare} arg15.view.writes (Elt F) f o14)
              ∗ (∃ f, arg16.view.loc (c : Thread nD τ) ↦[arg16.view.set]{fullShare} arg16.view.writes (Elt F) f o15)
              ∗ (∃ f, arg17.view.loc (c : Thread nD τ) ↦[arg17.view.set]{fullShare} arg17.view.writes (Elt F) f o16)
              ∗ (∃ f, arg18.view.loc (c : Thread nD τ) ↦[arg18.view.set]{fullShare} arg18.view.writes (Elt F) f o17)
              ∗ (∃ f, arg19.view.loc (c : Thread nD τ) ↦[arg19.view.set]{fullShare} arg19.view.writes (Elt F) f o18)
              ∗ (∃ f, arg20.view.loc (c : Thread nD τ) ↦[arg20.view.set]{fullShare} arg20.view.writes (Elt F) f o19)) -∗ K ⟨⟩))
          ⊢ wp frame (wpE (defs₀ (F := F)) Variants.none c none) Set.univ (cc0_mix_route i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } :=
  ⟨_, _, _, _, _, _, fun K => by
    unfold owns held
    rw [cc0_mix_route_eq_skeleton]; unfold cc0_mix_route_skel
    simp only [k0_part1_eq_skeleton, k0_part2_eq_skeleton, k0_part3_eq_skeleton, k0_part4_eq_skeleton, k0_part5_eq_skeleton, k0_part6_eq_skeleton]
    iintro ⟨⟨H0, H1, H2, H3, H4, H5, H6, H7, H8, H9, H10, H11, H12, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
    sl_exec (disch := first | sl_exact hc)
    sl_step
    iapply Hk
    isplitl [H0 H1 H2 H3 H4 H5 H6 H7 H8 H9 H10 H11 H12 H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19⟩

set_option backward.proofsInPublic true in
set_option maxHeartbeats 16000000 in
/-- Any other point: the counts go on from what the scratch buffer holds. -/
noncomputable def runNext (xa : Vec F S32x128 .f32) (hc : ¬ firstWord i = 1#1) :
    Σ' (o14 : List (View.Piece (Elt F) S4096x128 .f32)) (o15 : List (View.Piece (Elt F) S4x512 .i32)) (o16 : List (View.Piece (Elt F) S4x512 .f32)) (o17 : List (View.Piece (Elt F) S4x512 .i32)) (o18 : List (View.Piece (Elt F) S32x128 .f32)), { o19 : List (View.Piece (Elt F) S32x128 .f32) //
      ∀ K : PUnit → sProp 𝕄,
        iprop(held c arg1 arg2 arg3 arg4 arg5 arg6 arg7 arg8 arg9 arg10 arg11 arg12 arg13 arg14 x0 x1 x2 x3 x4 x5 x6 x7 x8 x9 x10 x11 x12 x13
          ∗ (∃ d, owns (c : Thread nD τ) arg15 fullShare d)
          ∗ (∃ d, owns (c : Thread nD τ) arg16 fullShare d)
          ∗ (∃ d, owns (c : Thread nD τ) arg17 fullShare d)
          ∗ (∃ d, owns (c : Thread nD τ) arg18 fullShare d)
          ∗ (∃ d, owns (c : Thread nD τ) arg19 fullShare d)
          ∗ (arg20.view.loc (c : Thread nD τ) ↦[arg20.view.set]{fullShare} arg20.view.rep xa)
          ∗ (iprop(held c arg1 arg2 arg3 arg4 arg5 arg6 arg7 arg8 arg9 arg10 arg11 arg12 arg13 arg14 x0 x1 x2 x3 x4 x5 x6 x7 x8 x9 x10 x11 x12 x13
              ∗ (∃ f, arg15.view.loc (c : Thread nD τ) ↦[arg15.view.set]{fullShare} arg15.view.writes (Elt F) f o14)
              ∗ (∃ f, arg16.view.loc (c : Thread nD τ) ↦[arg16.view.set]{fullShare} arg16.view.writes (Elt F) f o15)
              ∗ (∃ f, arg17.view.loc (c : Thread nD τ) ↦[arg17.view.set]{fullShare} arg17.view.writes (Elt F) f o16)
              ∗ (∃ f, arg18.view.loc (c : Thread nD τ) ↦[arg18.view.set]{fullShare} arg18.view.writes (Elt F) f o17)
              ∗ (∃ f, arg19.view.loc (c : Thread nD τ) ↦[arg19.view.set]{fullShare} arg19.view.writes (Elt F) f o18)
              ∗ (∃ f, arg20.view.loc (c : Thread nD τ) ↦[arg20.view.set]{fullShare} arg20.view.writes (Elt F) f o19)) -∗ K ⟨⟩))
          ⊢ wp frame (wpE (defs₀ (F := F)) Variants.none c none) Set.univ (cc0_mix_route i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } :=
  ⟨_, _, _, _, _, _, fun K => by
    unfold owns held
    rw [cc0_mix_route_eq_skeleton]; unfold cc0_mix_route_skel
    simp only [k0_part1_eq_skeleton, k0_part2_eq_skeleton, k0_part3_eq_skeleton, k0_part4_eq_skeleton, k0_part5_eq_skeleton, k0_part6_eq_skeleton]
    iintro ⟨⟨H0, H1, H2, H3, H4, H5, H6, H7, H8, H9, H10, H11, H12, H13⟩, ⟨%d14, %f14, -, H14⟩, ⟨%d15, %f15, -, H15⟩, ⟨%d16, %f16, -, H16⟩, ⟨%d17, %f17, -, H17⟩, ⟨%d18, %f18, -, H18⟩, H19, Hk⟩
    sl_exec (disch := first | sl_exact hc)
    sl_step
    iapply Hk
    isplitl [H0 H1 H2 H3 H4 H5 H6 H7 H8 H9 H10 H11 H12 H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19⟩

end Cert.Kernel3Ideal.Hand
-- ==== Proof.IdealMixStep.lean ====
module

public import proofs.«01_k».proof.Proof.IdealMixBody
public import Idealize.ShloMosaic.Lib.VecWindow
public import Idealize.ShloMosaic.Lib.ValueLayout
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

/-! # One grid point of the mixing and routing call, both paths as one statement

`mixBlock` is the point's 512 by 1024 result of the mixing, in closed form from the point's blocks; it is the same on both
paths and does not depend on the running counts.  The body stores it as 4096 rows of 128 (`unfold8`).  What the body leaves
in the other four output blocks and in the scratch buffer is named by `Res`; `step` says that some such contents are left,
which on the first point do not depend on what the scratch buffer held. -/

@[expose] public section

set_option maxRecDepth 16384
set_option Elab.async false

noncomputable section

namespace Cert.Kernel3Ideal.Hand

open Cert.Kernel3Ideal Cert.Kernel3Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A 512 by 1024 array laid out as 4096 rows of 128. -/
def unfold8 (V : S512x1024.Idx → Elt F .f32) : S4096x128.Idx → Elt F .f32 :=
  fun y => V (ix2 (⟨(y 0).val / 8, by have := idx2_lt0 y; omega⟩ : Fin 512)
    (⟨128 * ((y 0).val % 8) + (y 1).val, by have := idx2_lt1 y; omega⟩ : Fin 1024))

/-- The store of residue `j`. -/
abbrev colRect (j : ℕ) (inb : ∀ a, S512x128.size a = 0 ∨ (![j, 0] : Fin 2 → ℕ) a + (![8, 1] : Fin 2 → ℕ) a * (S512x128.size a - 1) < S4096x128.size a) : Rect S4096x128 := ⟨⟨![j, 0], S512x128.size, ![8, 1], inb⟩, spos_8_1⟩

/-- A column slice stored at residue `j` puts the result's elements where `unfold8` says. -/
theorem slice_agree (V : S512x1024.Idx → Elt F .f32) (j o : ℕ) (hj : j < 8) (ho : o = 128 * j) (inb)
    (hs : S512x1024.Slices ![0, o] S512x128) (x : S512x128.Idx) :
    extractStridedSlice S512x128 ![0, o] V hs x = unfold8 V ((colRect j inb).emb x) := by
  subst ho
  unfold unfold8
  refine extractStridedSlice_apply _ V hs x _ fun a => ?_
  have h0 : ((colRect j inb).emb x 0).val = j + 8 * (x 0).val := rfl
  have h1 : ((colRect j inb).emb x 1).val = 0 + 1 * (x 1).val := rfl
  match a with
  | ⟨0, _⟩ => show ((colRect j inb).emb x 0).val / 8 = 0 + (x 0).val; rw [h0]; omega
  | ⟨1, _⟩ => show 128 * (((colRect j inb).emb x 0).val % 8) + ((colRect j inb).emb x 1).val = 128 * j + (x 1).val; rw [h0, h1]; omega

/-- Rows of residue `j` lie in the store of residue `j`. -/
theorem mem_colRect (j : ℕ) (hj : j < 8) (inb) (y : S4096x128.Idx) (h : (y 0).val % 8 = j) : y ∈ (colRect j inb).set := by
  rw [LoadRect.mem_set]
  have h0 := idx2_lt0 y
  have h1 := idx2_lt1 y
  intro a
  match a with
  | ⟨0, _⟩ => exact ⟨(y 0).val / 8, by show _ < 512; omega, by show (y 0).val = j + 8 * _; omega⟩
  | ⟨1, _⟩ => exact ⟨(y 1).val, h1, by show (y 1).val = 0 + 1 * (y 1).val; omega⟩

/-- Eight column slices stored at the eight residues leave `unfold8` of the result, whatever was there. -/
theorem read_cols {sig' : RefSig} {κ : Kind} {sp : Space} (v : View sig' κ sp S4096x128 .f32) (f : v.ty.Contents (Elt F)) (V : S512x1024.Idx → Elt F .f32)
    (i0 i1 i2 i3 i4 i5 i6 i7 s0 s1 s2 s3 s4 s5 s6 s7) :
    v.read (Elt F) (v.writes (Elt F) f
      [⟨colRect 7 i7, extractStridedSlice S512x128 ![0, 896] V s7⟩, ⟨colRect 6 i6, extractStridedSlice S512x128 ![0, 768] V s6⟩,
       ⟨colRect 5 i5, extractStridedSlice S512x128 ![0, 640] V s5⟩, ⟨colRect 4 i4, extractStridedSlice S512x128 ![0, 512] V s4⟩,
       ⟨colRect 3 i3, extractStridedSlice S512x128 ![0, 384] V s3⟩, ⟨colRect 2 i2, extractStridedSlice S512x128 ![0, 256] V s2⟩,
       ⟨colRect 1 i1, extractStridedSlice S512x128 ![0, 128] V s1⟩, ⟨colRect 0 i0, extractStridedSlice S512x128 ![0, 0] V s0⟩]) = unfold8 V := by
  funext y
  refine View.read_writes_apply_of_pieces v f (unfold8 V) _ ?_ y ?_
  · simp only [List.forall_mem_cons]
    exact ⟨fun x => slice_agree V 7 896 (by omega) rfl i7 s7 x, fun x => slice_agree V 6 768 (by omega) rfl i6 s6 x, fun x => slice_agree V 5 640 (by omega) rfl i5 s5 x,
      fun x => slice_agree V 4 512 (by omega) rfl i4 s4 x, fun x => slice_agree V 3 384 (by omega) rfl i3 s3 x, fun x => slice_agree V 2 256 (by omega) rfl i2 s2 x,
      fun x => slice_agree V 1 128 (by omega) rfl i1 s1 x, fun x => slice_agree V 0 0 (by omega) rfl i0 s0 x, fun _ h => absurd h List.not_mem_nil⟩
  · simp only [List.exists_mem_cons_iff]
    rcases (by omega : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0)
      with h | h | h | h | h | h | h | h
    · exact .inl (mem_colRect 7 (by omega) i7 y h)
    · exact .inr (.inl (mem_colRect 6 (by omega) i6 y h))
    · exact .inr (.inr (.inl (mem_colRect 5 (by omega) i5 y h)))
    · exact .inr (.inr (.inr (.inl (mem_colRect 4 (by omega) i4 y h))))
    · exact .inr (.inr (.inr (.inr (.inl (mem_colRect 3 (by omega) i3 y h)))))
    · exact .inr (.inr (.inr (.inr (.inr (.inl (mem_colRect 2 (by omega) i2 y h))))))
    · exact .inr (.inr (.inr (.inr (.inr (.inr (.inl (mem_colRect 1 (by omega) i1 y h)))))))
    · exact .inr (.inr (.inr (.inr (.inr (.inr (.inr (.inl (mem_colRect 0 (by omega) i0 y h))))))))

/-- The mixing's 512 by 1024 result: the mixed and normalised rows of a point, from its blocks. -/
def mixBlock (x0 : Vec F S512x1024 .f32) (x1 : Vec F S512x1024 .bf16) (x2 : Vec F S512x1024 .f32) (x4 : Vec F S1x1024 .f32) (x5 : Vec F S1x1024 .f32) (x6 : Vec F S1024x2048 .bf16) (x7 : Vec F S1x2048 .f32) (x8 : Vec F S1024x1024 .bf16) (x9 : Vec F S1x1024 .f32) (x10 : Vec F S1x1024 .f32) (x11 : Vec F S1x1024 .f32) : FVec F S512x1024 .f32 :=
  k0_pay11 (k0_pay9 (k0_pay6 x0 x4 x5) (k0_pay7 x0 x4 x5) (k0_pay8 x6) (constant S512x2048 .f32 0x00000000#32) x7 x1 x2 x8 x9) (k0_pay10 x10) x11

/-- What a point leaves besides the mixed rows: the blocks of expert numbers, gates, ranks and counts, and the running
    counts in the scratch buffer. -/
structure Res (F : FTy → Type) where
  idx : Vec F S4x512 .i32
  gates : Vec F S4x512 .f32
  rank : Vec F S4x512 .i32
  cnt : Vec F S32x128 .f32
  carry : Vec F S32x128 .f32

/-- Contents written over anything, as a held buffer. -/
theorem owns_of_writes {sp : Space} {s : Shape} {e : EltTy} (c : Dev nD) (a : Memref sig .tc sp s e) (G : s.Idx → Elt F e)
    (L : List (View.Piece (Elt F) s e)) (h : ∀ f, a.view.read (Elt F) (a.view.writes (Elt F) f L) = G) :
    iprop(∃ f, a.view.loc (c : Thread nD τ) ↦[a.view.set]{fullShare} a.view.writes (Elt F) f L) ⊢ (owns (c : Thread nD τ) a fullShare G : sProp 𝕄) := by
  unfold owns
  iintro ⟨%f, H⟩
  iexists _; isplitr
  · ipureintro; exact h f
  iexact H

/-! A load of a whole block reads the block. -/

theorem whole_S512x1024 {e : EltTy} (a : Memref sig .tc .vmem S512x1024 e) (x : Vec F S512x1024 e) :
    View.readAt (Elt F) a.view (Rect.unit ![0, 0] ![512, 1024] inb_S512x1024_S512x1024_0_0).toLoadRect (a.view.rep x) = x :=
  View.readAt_rep_full a.view x _

theorem whole_S1x1024 {e : EltTy} (a : Memref sig .tc .vmem S1x1024 e) (x : Vec F S1x1024 e) :
    View.readAt (Elt F) a.view (Rect.unit ![0, 0] ![1, 1024] inb_S1x1024_S1x1024_0_0).toLoadRect (a.view.rep x) = x :=
  View.readAt_rep_full a.view x _

theorem whole_S1024x2048 {e : EltTy} (a : Memref sig .tc .vmem S1024x2048 e) (x : Vec F S1024x2048 e) :
    View.readAt (Elt F) a.view (Rect.unit ![0, 0] ![1024, 2048] inb_S1024x2048_S1024x2048_0_0).toLoadRect (a.view.rep x) = x :=
  View.readAt_rep_full a.view x _

theorem whole_S1x2048 {e : EltTy} (a : Memref sig .tc .vmem S1x2048 e) (x : Vec F S1x2048 e) :
    View.readAt (Elt F) a.view (Rect.unit ![0, 0] ![1, 2048] inb_S1x2048_S1x2048_0_0).toLoadRect (a.view.rep x) = x :=
  View.readAt_rep_full a.view x _

theorem whole_S1024x1024 {e : EltTy} (a : Memref sig .tc .vmem S1024x1024 e) (x : Vec F S1024x1024 e) :
    View.readAt (Elt F) a.view (Rect.unit ![0, 0] ![1024, 1024] inb_S1024x1024_S1024x1024_0_0).toLoadRect (a.view.rep x) = x :=
  View.readAt_rep_full a.view x _

section
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S32x128 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S32x1 .f32) (harg14 : arg14.IsWhole) (arg15 : Memref sig .tc .vmem S4096x128 .f32) (harg15 : arg15.IsWhole) (arg16 : Memref sig .tc .vmem S4x512 .i32) (harg16 : arg16.IsWhole) (arg17 : Memref sig .tc .vmem S4x512 .f32) (harg17 : arg17.IsWhole) (arg18 : Memref sig .tc .vmem S4x512 .i32) (harg18 : arg18.IsWhole) (arg19 : Memref sig .tc .vmem S32x128 .f32) (harg19 : arg19.IsWhole) (arg20 : Memref sig .tc .vmem S32x128 .f32) (harg20 : arg20.IsWhole)
  (x0 : Vec F S512x1024 .f32) (x1 : Vec F S512x1024 .bf16) (x2 : Vec F S512x1024 .f32) (x3 : Vec F S32x128 .f32) (x4 : Vec F S1x1024 .f32) (x5 : Vec F S1x1024 .f32) (x6 : Vec F S1024x2048 .bf16) (x7 : Vec F S1x2048 .f32) (x8 : Vec F S1024x1024 .bf16) (x9 : Vec F S1x1024 .f32) (x10 : Vec F S1x1024 .f32) (x11 : Vec F S1x1024 .f32) (x12 : Vec F S1024x256 .bf16) (x13 : Vec F S32x1 .f32)

/-- The mixing's result on the first point. -/
theorem runFirst_mix : runFirst.sl.r_5 arg1 arg2 arg3 arg5 arg6 arg7 arg8 arg9 arg10 arg11 arg12 x0 x1 x2 x4 x5 x6 x7 x8 x9 x10 x11 = mixBlock x0 x1 x2 x4 x5 x6 x7 x8 x9 x10 x11 := by
  unfold mixBlock
  simp only [runFirst.sl.r_6, runFirst.sl.r_5, runFirst.sl.r_4, runFirst.sl.r_3, runFirst.sl.r_2, runFirst.sl.r_1, runFirst.sl.r, runFirst.sl.cst_14, whole_S512x1024, whole_S1x1024, whole_S1024x2048, whole_S1x2048, whole_S1024x1024]

/-- The mixed rows' block on the first point. -/
theorem runFirst_h1 (hc : firstWord i = 1#1) (f : arg15.view.ty.Contents (Elt F)) :
    arg15.view.read (Elt F) (arg15.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).1) = unfold8 (mixBlock x0 x1 x2 x4 x5 x6 x7 x8 x9 x10 x11) := by
  rw [← runFirst_mix arg1 arg2 arg3 arg5 arg6 arg7 arg8 arg9 arg10 arg11 arg12 x0 x1 x2 x4 x5 x6 x7 x8 x9 x10 x11]
  unfold runFirst
  exact read_cols arg15.view f (runFirst.sl.r_5 arg1 arg2 arg3 arg5 arg6 arg7 arg8 arg9 arg10 arg11 arg12 x0 x1 x2 x4 x5 x6 x7 x8 x9 x10 x11) inb_S4096x128_S512x128_0_0_s_8_1 inb_S4096x128_S512x128_1_0_s_8_1 inb_S4096x128_S512x128_2_0_s_8_1 inb_S4096x128_S512x128_3_0_s_8_1 inb_S4096x128_S512x128_4_0_s_8_1 inb_S4096x128_S512x128_5_0_s_8_1 inb_S4096x128_S512x128_6_0_s_8_1 inb_S4096x128_S512x128_7_0_s_8_1 slices_S512x1024_o0_0_S512x128 slices_S512x1024_o0_128_S512x128 slices_S512x1024_o0_256_S512x128 slices_S512x1024_o0_384_S512x128 slices_S512x1024_o0_512_S512x128 slices_S512x1024_o0_640_S512x128 slices_S512x1024_o0_768_S512x128 slices_S512x1024_o0_896_S512x128

theorem runFirst_out16 (hc : firstWord i = 1#1) (f g : arg16.view.ty.Contents (Elt F)) :
    arg16.view.read (Elt F) (arg16.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.1) = arg16.view.read (Elt F) (arg16.view.writes (Elt F) g (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.1) := by
  unfold runFirst
  exact (View.read_writes_full (s := S4x512) (off := ![0, 0]) arg16.view f inb_S4x512_S4x512_0_0 _ _).trans (View.read_writes_full (s := S4x512) (off := ![0, 0]) arg16.view g inb_S4x512_S4x512_0_0 _ _).symm

theorem runFirst_out17 (hc : firstWord i = 1#1) (f g : arg17.view.ty.Contents (Elt F)) :
    arg17.view.read (Elt F) (arg17.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.2.1) = arg17.view.read (Elt F) (arg17.view.writes (Elt F) g (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.2.1) := by
  unfold runFirst
  exact (View.read_writes_full (s := S4x512) (off := ![0, 0]) arg17.view f inb_S4x512_S4x512_0_0 _ _).trans (View.read_writes_full (s := S4x512) (off := ![0, 0]) arg17.view g inb_S4x512_S4x512_0_0 _ _).symm

theorem runFirst_out18 (hc : firstWord i = 1#1) (f g : arg18.view.ty.Contents (Elt F)) :
    arg18.view.read (Elt F) (arg18.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.2.2.1) = arg18.view.read (Elt F) (arg18.view.writes (Elt F) g (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.2.2.1) := by
  unfold runFirst
  exact (View.read_writes_full (s := S4x512) (off := ![0, 0]) arg18.view f inb_S4x512_S4x512_0_0 _ _).trans (View.read_writes_full (s := S4x512) (off := ![0, 0]) arg18.view g inb_S4x512_S4x512_0_0 _ _).symm

theorem runFirst_out19 (hc : firstWord i = 1#1) (f g : arg19.view.ty.Contents (Elt F)) :
    arg19.view.read (Elt F) (arg19.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.2.2.2.1) = arg19.view.read (Elt F) (arg19.view.writes (Elt F) g (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.2.2.2.1) := by
  unfold runFirst
  exact (View.read_writes_full (s := S32x128) (off := ![0, 0]) arg19.view f inb_S32x128_S32x128_0_0 _ _).trans (View.read_writes_full (s := S32x128) (off := ![0, 0]) arg19.view g inb_S32x128_S32x128_0_0 _ _).symm

theorem runFirst_out20 (hc : firstWord i = 1#1) (f g : arg20.view.ty.Contents (Elt F)) :
    arg20.view.read (Elt F) (arg20.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.2.2.2.2.1) = arg20.view.read (Elt F) (arg20.view.writes (Elt F) g (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.2.2.2.2.1) := by
  unfold runFirst
  exact (View.read_writes_full (s := S32x128) (off := ![0, 0]) arg20.view f inb_S32x128_S32x128_0_0 _ _).trans (View.read_writes_full (s := S32x128) (off := ![0, 0]) arg20.view g inb_S32x128_S32x128_0_0 _ _).symm

/-- What the first point leaves besides the mixed rows. -/
def runFirst_res (hc : firstWord i = 1#1) : Res F where
  idx := arg16.view.read (Elt F) (arg16.view.writes (Elt F) arg16.view.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.1)
  gates := arg17.view.read (Elt F) (arg17.view.writes (Elt F) arg17.view.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.2.1)
  rank := arg18.view.read (Elt F) (arg18.view.writes (Elt F) arg18.view.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.2.2.1)
  cnt := arg19.view.read (Elt F) (arg19.view.writes (Elt F) arg19.view.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.2.2.2.1)
  carry := arg20.view.read (Elt F) (arg20.view.writes (Elt F) arg20.view.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.2.2.2.2.1)

/-- The mixing's result on any other point. -/
theorem runNext_mix : runNext.sl.r_6 arg1 arg2 arg3 arg5 arg6 arg7 arg8 arg9 arg10 arg11 arg12 x0 x1 x2 x4 x5 x6 x7 x8 x9 x10 x11 = mixBlock x0 x1 x2 x4 x5 x6 x7 x8 x9 x10 x11 := by
  unfold mixBlock
  simp only [runNext.sl.r_6, runNext.sl.r_5, runNext.sl.r_4, runNext.sl.r_3, runNext.sl.r_2, runNext.sl.r_1, runNext.sl.r, runNext.sl.cst_14, whole_S512x1024, whole_S1x1024, whole_S1024x2048, whole_S1x2048, whole_S1024x1024]

/-- The mixed rows' block on any other point. -/
theorem runNext_h1 (xa : Vec F S32x128 .f32) (hc : ¬ firstWord i = 1#1) (f : arg15.view.ty.Contents (Elt F)) :
    arg15.view.read (Elt F) (arg15.view.writes (Elt F) f (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).1) = unfold8 (mixBlock x0 x1 x2 x4 x5 x6 x7 x8 x9 x10 x11) := by
  rw [← runNext_mix arg1 arg2 arg3 arg5 arg6 arg7 arg8 arg9 arg10 arg11 arg12 x0 x1 x2 x4 x5 x6 x7 x8 x9 x10 x11]
  unfold runNext
  exact read_cols arg15.view f (runNext.sl.r_6 arg1 arg2 arg3 arg5 arg6 arg7 arg8 arg9 arg10 arg11 arg12 x0 x1 x2 x4 x5 x6 x7 x8 x9 x10 x11) inb_S4096x128_S512x128_0_0_s_8_1 inb_S4096x128_S512x128_1_0_s_8_1 inb_S4096x128_S512x128_2_0_s_8_1 inb_S4096x128_S512x128_3_0_s_8_1 inb_S4096x128_S512x128_4_0_s_8_1 inb_S4096x128_S512x128_5_0_s_8_1 inb_S4096x128_S512x128_6_0_s_8_1 inb_S4096x128_S512x128_7_0_s_8_1 slices_S512x1024_o0_0_S512x128 slices_S512x1024_o0_128_S512x128 slices_S512x1024_o0_256_S512x128 slices_S512x1024_o0_384_S512x128 slices_S512x1024_o0_512_S512x128 slices_S512x1024_o0_640_S512x128 slices_S512x1024_o0_768_S512x128 slices_S512x1024_o0_896_S512x128

theorem runNext_out16 (xa : Vec F S32x128 .f32) (hc : ¬ firstWord i = 1#1) (f g : arg16.view.ty.Contents (Elt F)) :
    arg16.view.read (Elt F) (arg16.view.writes (Elt F) f (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.1) = arg16.view.read (Elt F) (arg16.view.writes (Elt F) g (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.1) := by
  unfold runNext
  exact (View.read_writes_full (s := S4x512) (off := ![0, 0]) arg16.view f inb_S4x512_S4x512_0_0 _ _).trans (View.read_writes_full (s := S4x512) (off := ![0, 0]) arg16.view g inb_S4x512_S4x512_0_0 _ _).symm

theorem runNext_out17 (xa : Vec F S32x128 .f32) (hc : ¬ firstWord i = 1#1) (f g : arg17.view.ty.Contents (Elt F)) :
    arg17.view.read (Elt F) (arg17.view.writes (Elt F) f (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.2.1) = arg17.view.read (Elt F) (arg17.view.writes (Elt F) g (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.2.1) := by
  unfold runNext
  exact (View.read_writes_full (s := S4x512) (off := ![0, 0]) arg17.view f inb_S4x512_S4x512_0_0 _ _).trans (View.read_writes_full (s := S4x512) (off := ![0, 0]) arg17.view g inb_S4x512_S4x512_0_0 _ _).symm

theorem runNext_out18 (xa : Vec F S32x128 .f32) (hc : ¬ firstWord i = 1#1) (f g : arg18.view.ty.Contents (Elt F)) :
    arg18.view.read (Elt F) (arg18.view.writes (Elt F) f (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.2.2.1) = arg18.view.read (Elt F) (arg18.view.writes (Elt F) g (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.2.2.1) := by
  unfold runNext
  exact (View.read_writes_full (s := S4x512) (off := ![0, 0]) arg18.view f inb_S4x512_S4x512_0_0 _ _).trans (View.read_writes_full (s := S4x512) (off := ![0, 0]) arg18.view g inb_S4x512_S4x512_0_0 _ _).symm

theorem runNext_out19 (xa : Vec F S32x128 .f32) (hc : ¬ firstWord i = 1#1) (f g : arg19.view.ty.Contents (Elt F)) :
    arg19.view.read (Elt F) (arg19.view.writes (Elt F) f (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.2.2.2.1) = arg19.view.read (Elt F) (arg19.view.writes (Elt F) g (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.2.2.2.1) := by
  unfold runNext
  exact (View.read_writes_full (s := S32x128) (off := ![0, 0]) arg19.view f inb_S32x128_S32x128_0_0 _ _).trans (View.read_writes_full (s := S32x128) (off := ![0, 0]) arg19.view g inb_S32x128_S32x128_0_0 _ _).symm

theorem runNext_out20 (xa : Vec F S32x128 .f32) (hc : ¬ firstWord i = 1#1) (f g : arg20.view.ty.Contents (Elt F)) :
    arg20.view.read (Elt F) (arg20.view.writes (Elt F) f (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.2.2.2.2.1) = arg20.view.read (Elt F) (arg20.view.writes (Elt F) g (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.2.2.2.2.1) := by
  unfold runNext
  exact (View.read_writes_full (s := S32x128) (off := ![0, 0]) arg20.view f inb_S32x128_S32x128_0_0 _ _).trans (View.read_writes_full (s := S32x128) (off := ![0, 0]) arg20.view g inb_S32x128_S32x128_0_0 _ _).symm

/-- What any other point leaves besides the mixed rows. -/
def runNext_res (xa : Vec F S32x128 .f32) (hc : ¬ firstWord i = 1#1) : Res F where
  idx := arg16.view.read (Elt F) (arg16.view.writes (Elt F) arg16.view.junk (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.1)
  gates := arg17.view.read (Elt F) (arg17.view.writes (Elt F) arg17.view.junk (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.2.1)
  rank := arg18.view.read (Elt F) (arg18.view.writes (Elt F) arg18.view.junk (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.2.2.1)
  cnt := arg19.view.read (Elt F) (arg19.view.writes (Elt F) arg19.view.junk (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.2.2.2.1)
  carry := arg20.view.read (Elt F) (arg20.view.writes (Elt F) arg20.view.junk (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc).2.2.2.2.2.1)

set_option maxHeartbeats 4000000 in
/-- ONE POINT.  From the blocks of the inputs, anything in the output blocks, and — past the first point — the running
    counts `xa` in the scratch buffer, the body runs and leaves the mixed rows, and contents that `xa` and the blocks determine
    elsewhere. -/
theorem step (xa : Vec F S32x128 .f32) : ∃ r : Res F, ∀ K : PUnit → sProp 𝕄,
    iprop(held c arg1 arg2 arg3 arg4 arg5 arg6 arg7 arg8 arg9 arg10 arg11 arg12 arg13 arg14 x0 x1 x2 x3 x4 x5 x6 x7 x8 x9 x10 x11 x12 x13
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, ⌜¬ firstWord i = 1#1 → d = xa⌝ ∗ owns (c : Thread nD τ) arg20 fullShare d)
        ∗ (iprop(held c arg1 arg2 arg3 arg4 arg5 arg6 arg7 arg8 arg9 arg10 arg11 arg12 arg13 arg14 x0 x1 x2 x3 x4 x5 x6 x7 x8 x9 x10 x11 x12 x13
            ∗ owns (c : Thread nD τ) arg15 fullShare (unfold8 (mixBlock x0 x1 x2 x4 x5 x6 x7 x8 x9 x10 x11))
            ∗ owns (c : Thread nD τ) arg16 fullShare r.idx
            ∗ owns (c : Thread nD τ) arg17 fullShare r.gates
            ∗ owns (c : Thread nD τ) arg18 fullShare r.rank
            ∗ owns (c : Thread nD τ) arg19 fullShare r.cnt
            ∗ owns (c : Thread nD τ) arg20 fullShare r.carry) -∗ K ⟨⟩))
      ⊢ wp frame (wpE (defs₀ (F := F)) Variants.none c none) Set.univ (cc0_mix_route i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases hc : firstWord i = 1#1
  · refine ⟨runFirst_res c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc, fun K => ?_⟩
    iintro ⟨HI, HO14, HO15, HO16, HO17, HO18, ⟨%d, -, HO19⟩, Hk⟩
    iapply ((runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc).2.2.2.2.2.2 K)
    isplitl [HI]; · iexact HI
    isplitl [HO14]; · iexact HO14
    isplitl [HO15]; · iexact HO15
    isplitl [HO16]; · iexact HO16
    isplitl [HO17]; · iexact HO17
    isplitl [HO18]; · iexact HO18
    isplitl [HO19]; · iexists _; iexact HO19
    iintro ⟨HI, HO14, HO15, HO16, HO17, HO18, HO19⟩
    iapply Hk
    isplitl [HI]; · iexact HI
    isplitl [HO14]; · iapply (owns_of_writes c arg15 _ _ (runFirst_h1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc)); iexact HO14
    isplitl [HO15]; · iapply (owns_of_writes c arg16 _ _ (fun f => runFirst_out16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc f arg16.view.junk)); iexact HO15
    isplitl [HO16]; · iapply (owns_of_writes c arg17 _ _ (fun f => runFirst_out17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc f arg17.view.junk)); iexact HO16
    isplitl [HO17]; · iapply (owns_of_writes c arg18 _ _ (fun f => runFirst_out18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc f arg18.view.junk)); iexact HO17
    isplitl [HO18]; · iapply (owns_of_writes c arg19 _ _ (fun f => runFirst_out19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc f arg19.view.junk)); iexact HO18
    iapply (owns_of_writes c arg20 _ _ (fun f => runFirst_out20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 hc f arg20.view.junk)); iexact HO19

  · refine ⟨runNext_res c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 xa hc, fun K => ?_⟩
    iintro ⟨HI, HO14, HO15, HO16, HO17, HO18, ⟨%d, %hd, HO19⟩, Hk⟩
    obtain rfl := hd hc
    iapply ((runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 d hc).2.2.2.2.2.2 K)
    isplitl [HI]; · iexact HI
    isplitl [HO14]; · iexact HO14
    isplitl [HO15]; · iexact HO15
    isplitl [HO16]; · iexact HO16
    isplitl [HO17]; · iexact HO17
    isplitl [HO18]; · iexact HO18
    isplitl [HO19]; · iapply rep_of_owns; iexact HO19
    iintro ⟨HI, HO14, HO15, HO16, HO17, HO18, HO19⟩
    iapply Hk
    isplitl [HI]; · iexact HI
    isplitl [HO14]; · iapply (owns_of_writes c arg15 _ _ (runNext_h1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 d hc)); iexact HO14
    isplitl [HO15]; · iapply (owns_of_writes c arg16 _ _ (fun f => runNext_out16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 d hc f arg16.view.junk)); iexact HO15
    isplitl [HO16]; · iapply (owns_of_writes c arg17 _ _ (fun f => runNext_out17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 d hc f arg17.view.junk)); iexact HO16
    isplitl [HO17]; · iapply (owns_of_writes c arg18 _ _ (fun f => runNext_out18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 d hc f arg18.view.junk)); iexact HO17
    isplitl [HO18]; · iapply (owns_of_writes c arg19 _ _ (fun f => runNext_out19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 d hc f arg19.view.junk)); iexact HO18
    iapply (owns_of_writes c arg20 _ _ (fun f => runNext_out20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 d hc f arg20.view.junk)); iexact HO19

end

end Cert.Kernel3Ideal.Hand
-- ==== Proof.IdealMixRun.lean ====
module

public import proofs.«01_k».proof.Proof.IdealMixStep
public import Idealize.ShloMosaic.Lib.Pipeline.Kit
public import Idealize.ShloMosaic.Lib.Claim
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

/-! # The mixing and routing call from launch to end

The running counts travel from point to point in the scratch buffer (`carryAt`); every point leaves the mixed rows' block in
closed form and the routing's blocks at what `step` names (`resOf`).  The run of the whole call leaves every argument
unchanged and the mixed rows' array filled block by block. -/

@[expose] public section

set_option maxRecDepth 16384
set_option Elab.async false

noncomputable section

namespace Cert.Kernel3Ideal.Hand

open Cert.Kernel3Ideal Cert.Kernel3Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffer of the running counts. -/
abbrev sc : Memref sig .tc .vmem S32x128 .f32 := Memref.whole cc0_scratch0

/-- Point `t`'s coordinates. -/
abbrev crd (t : Fin cfg0.N) : grid0.Coords := cfg0.grid.coords t

/-! Each window's staging buffer at point `t`, and that it is whole. -/

abbrev ms0 (t : Fin cfg0.N) : Memref sig .tc .vmem S512x1024 .f32 := win0_0.stage (cfg0.slots t (0 : Fin 19))
abbrev hs0 (t : Fin cfg0.N) : (ms0 t).IsWhole := hstage0_0 ((cfg0.slots t (0 : Fin 19)).cast nbuf0_0)
abbrev ms1 (t : Fin cfg0.N) : Memref sig .tc .vmem S512x1024 .bf16 := win0_1.stage (cfg0.slots t (1 : Fin 19))
abbrev hs1 (t : Fin cfg0.N) : (ms1 t).IsWhole := hstage0_1 ((cfg0.slots t (1 : Fin 19)).cast nbuf0_1)
abbrev ms2 (t : Fin cfg0.N) : Memref sig .tc .vmem S512x1024 .f32 := win0_2.stage (cfg0.slots t (2 : Fin 19))
abbrev hs2 (t : Fin cfg0.N) : (ms2 t).IsWhole := hstage0_2 ((cfg0.slots t (2 : Fin 19)).cast nbuf0_2)
abbrev ms3 (t : Fin cfg0.N) : Memref sig .tc .vmem S32x128 .f32 := win0_3.stage (cfg0.slots t (3 : Fin 19))
abbrev hs3 (t : Fin cfg0.N) : (ms3 t).IsWhole := hstage0_3 ((cfg0.slots t (3 : Fin 19)).cast nbuf0_3)
abbrev ms4 (t : Fin cfg0.N) : Memref sig .tc .vmem S1x1024 .f32 := win0_4.stage (cfg0.slots t (4 : Fin 19))
abbrev hs4 (t : Fin cfg0.N) : (ms4 t).IsWhole := hstage0_4 ((cfg0.slots t (4 : Fin 19)).cast nbuf0_4)
abbrev ms5 (t : Fin cfg0.N) : Memref sig .tc .vmem S1x1024 .f32 := win0_5.stage (cfg0.slots t (5 : Fin 19))
abbrev hs5 (t : Fin cfg0.N) : (ms5 t).IsWhole := hstage0_5 ((cfg0.slots t (5 : Fin 19)).cast nbuf0_5)
abbrev ms6 (t : Fin cfg0.N) : Memref sig .tc .vmem S1024x2048 .bf16 := win0_6.stage (cfg0.slots t (6 : Fin 19))
abbrev hs6 (t : Fin cfg0.N) : (ms6 t).IsWhole := hstage0_6 ((cfg0.slots t (6 : Fin 19)).cast nbuf0_6)
abbrev ms7 (t : Fin cfg0.N) : Memref sig .tc .vmem S1x2048 .f32 := win0_7.stage (cfg0.slots t (7 : Fin 19))
abbrev hs7 (t : Fin cfg0.N) : (ms7 t).IsWhole := hstage0_7 ((cfg0.slots t (7 : Fin 19)).cast nbuf0_7)
abbrev ms8 (t : Fin cfg0.N) : Memref sig .tc .vmem S1024x1024 .bf16 := win0_8.stage (cfg0.slots t (8 : Fin 19))
abbrev hs8 (t : Fin cfg0.N) : (ms8 t).IsWhole := hstage0_8 ((cfg0.slots t (8 : Fin 19)).cast nbuf0_8)
abbrev ms9 (t : Fin cfg0.N) : Memref sig .tc .vmem S1x1024 .f32 := win0_9.stage (cfg0.slots t (9 : Fin 19))
abbrev hs9 (t : Fin cfg0.N) : (ms9 t).IsWhole := hstage0_9 ((cfg0.slots t (9 : Fin 19)).cast nbuf0_9)
abbrev ms10 (t : Fin cfg0.N) : Memref sig .tc .vmem S1x1024 .f32 := win0_10.stage (cfg0.slots t (10 : Fin 19))
abbrev hs10 (t : Fin cfg0.N) : (ms10 t).IsWhole := hstage0_10 ((cfg0.slots t (10 : Fin 19)).cast nbuf0_10)
abbrev ms11 (t : Fin cfg0.N) : Memref sig .tc .vmem S1x1024 .f32 := win0_11.stage (cfg0.slots t (11 : Fin 19))
abbrev hs11 (t : Fin cfg0.N) : (ms11 t).IsWhole := hstage0_11 ((cfg0.slots t (11 : Fin 19)).cast nbuf0_11)
abbrev ms12 (t : Fin cfg0.N) : Memref sig .tc .vmem S1024x256 .bf16 := win0_12.stage (cfg0.slots t (12 : Fin 19))
abbrev hs12 (t : Fin cfg0.N) : (ms12 t).IsWhole := hstage0_12 ((cfg0.slots t (12 : Fin 19)).cast nbuf0_12)
abbrev ms13 (t : Fin cfg0.N) : Memref sig .tc .vmem S32x1 .f32 := win0_13.stage (cfg0.slots t (13 : Fin 19))
abbrev hs13 (t : Fin cfg0.N) : (ms13 t).IsWhole := hstage0_13 ((cfg0.slots t (13 : Fin 19)).cast nbuf0_13)
abbrev ms14 (t : Fin cfg0.N) : Memref sig .tc .vmem S4096x128 .f32 := win0_14.stage (cfg0.slots t (14 : Fin 19))
abbrev hs14 (t : Fin cfg0.N) : (ms14 t).IsWhole := hstage0_14 ((cfg0.slots t (14 : Fin 19)).cast nbuf0_14)
abbrev ms15 (t : Fin cfg0.N) : Memref sig .tc .vmem S4x512 .i32 := win0_15.stage (cfg0.slots t (15 : Fin 19))
abbrev hs15 (t : Fin cfg0.N) : (ms15 t).IsWhole := hstage0_15 ((cfg0.slots t (15 : Fin 19)).cast nbuf0_15)
abbrev ms16 (t : Fin cfg0.N) : Memref sig .tc .vmem S4x512 .f32 := win0_16.stage (cfg0.slots t (16 : Fin 19))
abbrev hs16 (t : Fin cfg0.N) : (ms16 t).IsWhole := hstage0_16 ((cfg0.slots t (16 : Fin 19)).cast nbuf0_16)
abbrev ms17 (t : Fin cfg0.N) : Memref sig .tc .vmem S4x512 .i32 := win0_17.stage (cfg0.slots t (17 : Fin 19))
abbrev hs17 (t : Fin cfg0.N) : (ms17 t).IsWhole := hstage0_17 ((cfg0.slots t (17 : Fin 19)).cast nbuf0_17)
abbrev ms18 (t : Fin cfg0.N) : Memref sig .tc .vmem S32x128 .f32 := win0_18.stage (cfg0.slots t (18 : Fin 19))
abbrev hs18 (t : Fin cfg0.N) : (ms18 t).IsWhole := hstage0_18 ((cfg0.slots t (18 : Fin 19)).cast nbuf0_18)

/-- What point `t` leaves besides the mixed rows, when the running counts before it are `xa`. -/
def resOf (c : Dev nD) (t : Fin cfg0.N) (xa : Vec F S32x128 .f32) : Res F :=
  Classical.choose (step c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) sc (Memref.isWhole_whole _) (iblk m c (0 : Fin 19) t) (iblk m c (1 : Fin 19) t) (iblk m c (2 : Fin 19) t) (iblk m c (3 : Fin 19) t) (iblk m c (4 : Fin 19) t) (iblk m c (5 : Fin 19) t) (iblk m c (6 : Fin 19) t) (iblk m c (7 : Fin 19) t) (iblk m c (8 : Fin 19) t) (iblk m c (9 : Fin 19) t) (iblk m c (10 : Fin 19) t) (iblk m c (11 : Fin 19) t) (iblk m c (12 : Fin 19) t) (iblk m c (13 : Fin 19) t) xa)

/-- The running counts before point `n`: the call's input before the first, then what the point before left. -/
def carryAt (c : Dev nD) : ℕ → Vec F S32x128 .f32
  | 0 => iblk m c (3 : Fin 19) ⟨0, by show 0 < grid0.N; rw [N_0]; omega⟩
  | n + 1 => if h : n < cfg0.N then (resOf m c ⟨n, h⟩ (carryAt c n)).carry else carryAt c n

theorem carryAt_succ (c : Dev nD) (t : Fin cfg0.N) : carryAt m c (t.val + 1) = (resOf m c t (carryAt m c t.val)).carry := by
  rw [carryAt, dif_pos t.isLt]

/-- The mixed rows' block at point `t`. -/
def mixAt (c : Dev nD) (t : Fin cfg0.N) : S4096x128.Idx → Elt F .f32 :=
  unfold8 (mixBlock (iblk m c (0 : Fin 19) t) (iblk m c (1 : Fin 19) t) (iblk m c (2 : Fin 19) t) (iblk m c (4 : Fin 19) t) (iblk m c (5 : Fin 19) t) (iblk m c (6 : Fin 19) t) (iblk m c (7 : Fin 19) t) (iblk m c (8 : Fin 19) t) (iblk m c (9 : Fin 19) t) (iblk m c (10 : Fin 19) t) (iblk m c (11 : Fin 19) t))

/-- Before a point the scratch buffer holds the running counts (before the first, anything), and the generator register is
    in some state. -/
def Phi (c : Dev nD) (t : Fin (cfg0.N + 1)) : sProp 𝕄 :=
  iprop((∃ a, ⌜t.val ≠ 0 → a = carryAt m c t.val⌝ ∗ owns (c : Thread nD τ) sc fullShare a) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c (0 : Fin 19) t
    | ⟨1, _⟩ => iblk m c (1 : Fin 19) t
    | ⟨2, _⟩ => iblk m c (2 : Fin 19) t
    | ⟨3, _⟩ => iblk m c (3 : Fin 19) t
    | ⟨4, _⟩ => iblk m c (4 : Fin 19) t
    | ⟨5, _⟩ => iblk m c (5 : Fin 19) t
    | ⟨6, _⟩ => iblk m c (6 : Fin 19) t
    | ⟨7, _⟩ => iblk m c (7 : Fin 19) t
    | ⟨8, _⟩ => iblk m c (8 : Fin 19) t
    | ⟨9, _⟩ => iblk m c (9 : Fin 19) t
    | ⟨10, _⟩ => iblk m c (10 : Fin 19) t
    | ⟨11, _⟩ => iblk m c (11 : Fin 19) t
    | ⟨12, _⟩ => iblk m c (12 : Fin 19) t
    | ⟨13, _⟩ => iblk m c (13 : Fin 19) t
    | ⟨14, _⟩ => mixAt m c t
    | ⟨15, _⟩ => (resOf m c t (carryAt m c t.val)).idx
    | ⟨16, _⟩ => (resOf m c t (carryAt m c t.val)).gates
    | ⟨17, _⟩ => (resOf m c t (carryAt m c t.val)).rank
    | ⟨18, _⟩ => (resOf m c t (carryAt m c t.val)).cnt
    | ⟨_ + 19, h⟩ => absurd h (Nat.not_lt.2 (Nat.le_add_left _ _))
  Φ t := Phi m c t
  q _ := fullShare
  owed _ := 0

theorem A_dats (c : Dev nD) (w : Fin cfg0.W) : (dats m 0 c).A w = V m c (Pipeline.arrRef spec0 w) := rfl
theorem after0 (c : Dev nD) (t : Fin cfg0.N) : (dats m 0 c).after (0 : Fin 19) t = iblk m c (0 : Fin 19) t := rfl
theorem after1 (c : Dev nD) (t : Fin cfg0.N) : (dats m 0 c).after (1 : Fin 19) t = iblk m c (1 : Fin 19) t := rfl
theorem after2 (c : Dev nD) (t : Fin cfg0.N) : (dats m 0 c).after (2 : Fin 19) t = iblk m c (2 : Fin 19) t := rfl
theorem after3 (c : Dev nD) (t : Fin cfg0.N) : (dats m 0 c).after (3 : Fin 19) t = iblk m c (3 : Fin 19) t := rfl
theorem after4 (c : Dev nD) (t : Fin cfg0.N) : (dats m 0 c).after (4 : Fin 19) t = iblk m c (4 : Fin 19) t := rfl
theorem after5 (c : Dev nD) (t : Fin cfg0.N) : (dats m 0 c).after (5 : Fin 19) t = iblk m c (5 : Fin 19) t := rfl
theorem after6 (c : Dev nD) (t : Fin cfg0.N) : (dats m 0 c).after (6 : Fin 19) t = iblk m c (6 : Fin 19) t := rfl
theorem after7 (c : Dev nD) (t : Fin cfg0.N) : (dats m 0 c).after (7 : Fin 19) t = iblk m c (7 : Fin 19) t := rfl
theorem after8 (c : Dev nD) (t : Fin cfg0.N) : (dats m 0 c).after (8 : Fin 19) t = iblk m c (8 : Fin 19) t := rfl
theorem after9 (c : Dev nD) (t : Fin cfg0.N) : (dats m 0 c).after (9 : Fin 19) t = iblk m c (9 : Fin 19) t := rfl
theorem after10 (c : Dev nD) (t : Fin cfg0.N) : (dats m 0 c).after (10 : Fin 19) t = iblk m c (10 : Fin 19) t := rfl
theorem after11 (c : Dev nD) (t : Fin cfg0.N) : (dats m 0 c).after (11 : Fin 19) t = iblk m c (11 : Fin 19) t := rfl
theorem after12 (c : Dev nD) (t : Fin cfg0.N) : (dats m 0 c).after (12 : Fin 19) t = iblk m c (12 : Fin 19) t := rfl
theorem after13 (c : Dev nD) (t : Fin cfg0.N) : (dats m 0 c).after (13 : Fin 19) t = iblk m c (13 : Fin 19) t := rfl
theorem after14 (c : Dev nD) (t : Fin cfg0.N) : (dats m 0 c).after (14 : Fin 19) t = mixAt m c t := rfl
theorem after15 (c : Dev nD) (t : Fin cfg0.N) : (dats m 0 c).after (15 : Fin 19) t = (resOf m c t (carryAt m c t.val)).idx := rfl
theorem after16 (c : Dev nD) (t : Fin cfg0.N) : (dats m 0 c).after (16 : Fin 19) t = (resOf m c t (carryAt m c t.val)).gates := rfl
theorem after17 (c : Dev nD) (t : Fin cfg0.N) : (dats m 0 c).after (17 : Fin 19) t = (resOf m c t (carryAt m c t.val)).rank := rfl
theorem after18 (c : Dev nD) (t : Fin cfg0.N) : (dats m 0 c).after (18 : Fin 19) t = (resOf m c t (carryAt m c t.val)).cnt := rfl
theorem before0 (c : Dev nD) (t : Fin cfg0.N) (d) : (dats m 0 c).before (0 : Fin 19) t d = iblk m c (0 : Fin 19) t :=
  before0_0_of m (dats m 0 c) (A_dats m c 0) (after0 m c) t d
theorem before1 (c : Dev nD) (t : Fin cfg0.N) (d) : (dats m 0 c).before (1 : Fin 19) t d = iblk m c (1 : Fin 19) t :=
  before0_1_of m (dats m 0 c) (A_dats m c 1) (after1 m c) t d
theorem before2 (c : Dev nD) (t : Fin cfg0.N) (d) : (dats m 0 c).before (2 : Fin 19) t d = iblk m c (2 : Fin 19) t :=
  before0_2_of m (dats m 0 c) (A_dats m c 2) (after2 m c) t d
theorem before3 (c : Dev nD) (t : Fin cfg0.N) (d) : (dats m 0 c).before (3 : Fin 19) t d = iblk m c (3 : Fin 19) t :=
  before0_3_of m (dats m 0 c) (A_dats m c 3) (after3 m c) t d
theorem before4 (c : Dev nD) (t : Fin cfg0.N) (d) : (dats m 0 c).before (4 : Fin 19) t d = iblk m c (4 : Fin 19) t :=
  before0_4_of m (dats m 0 c) (A_dats m c 4) (after4 m c) t d
theorem before5 (c : Dev nD) (t : Fin cfg0.N) (d) : (dats m 0 c).before (5 : Fin 19) t d = iblk m c (5 : Fin 19) t :=
  before0_5_of m (dats m 0 c) (A_dats m c 5) (after5 m c) t d
theorem before6 (c : Dev nD) (t : Fin cfg0.N) (d) : (dats m 0 c).before (6 : Fin 19) t d = iblk m c (6 : Fin 19) t :=
  before0_6_of m (dats m 0 c) (A_dats m c 6) (after6 m c) t d
theorem before7 (c : Dev nD) (t : Fin cfg0.N) (d) : (dats m 0 c).before (7 : Fin 19) t d = iblk m c (7 : Fin 19) t :=
  before0_7_of m (dats m 0 c) (A_dats m c 7) (after7 m c) t d
theorem before8 (c : Dev nD) (t : Fin cfg0.N) (d) : (dats m 0 c).before (8 : Fin 19) t d = iblk m c (8 : Fin 19) t :=
  before0_8_of m (dats m 0 c) (A_dats m c 8) (after8 m c) t d
theorem before9 (c : Dev nD) (t : Fin cfg0.N) (d) : (dats m 0 c).before (9 : Fin 19) t d = iblk m c (9 : Fin 19) t :=
  before0_9_of m (dats m 0 c) (A_dats m c 9) (after9 m c) t d
theorem before10 (c : Dev nD) (t : Fin cfg0.N) (d) : (dats m 0 c).before (10 : Fin 19) t d = iblk m c (10 : Fin 19) t :=
  before0_10_of m (dats m 0 c) (A_dats m c 10) (after10 m c) t d
theorem before11 (c : Dev nD) (t : Fin cfg0.N) (d) : (dats m 0 c).before (11 : Fin 19) t d = iblk m c (11 : Fin 19) t :=
  before0_11_of m (dats m 0 c) (A_dats m c 11) (after11 m c) t d
theorem before12 (c : Dev nD) (t : Fin cfg0.N) (d) : (dats m 0 c).before (12 : Fin 19) t d = iblk m c (12 : Fin 19) t :=
  before0_12_of m (dats m 0 c) (A_dats m c 12) (after12 m c) t d
theorem before13 (c : Dev nD) (t : Fin cfg0.N) (d) : (dats m 0 c).before (13 : Fin 19) t d = iblk m c (13 : Fin 19) t :=
  before0_13_of m (dats m 0 c) (A_dats m c 13) (after13 m c) t d

/-- On a one-axis grid a point's coordinate is its number. -/
theorem crd_val (t : Fin cfg0.N) : (crd t 0).val = t.val := by
  have h : t.val < 32 := lt_of_lt_of_eq t.isLt N_0
  have e := Pipeline.Grid.coords_val (G := cfg0.grid) t 0 (S := 1) (B := 32) (by rfl) (by rfl)
  rw [e]; omega

/-- The counts start at the first point. -/
theorem first_of_zero (t : Fin cfg0.N) (h : t.val = 0) : firstWord (crd t) = 1#1 := by
  have e : (crd t 0).val = 0 := (crd_val t).trans h
  unfold firstWord
  rw [e]
  decide

/-- The body at point `t` on its staging buffers. -/
abbrev bodyAt (t : Fin cfg0.N) : Prog (TpuEff nD τ sig (Elt F) Λ₀ .tc) PUnit :=
  cc0_mix_route (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) sc (Memref.isWhole_whole _)

set_option maxHeartbeats 8000000 in
/-- The body at point `t` takes the invariant and the windows' buffers to the next point's. -/
theorem sound_body (c : Dev nD) (t : Fin cfg0.N) :
    iprop((dats m 0 c).Φ t.castSucc ∗ (dats m 0 c).owesAt () t.castSucc
        ∗ (∃ d, owns (c : Thread nD τ) (ms0 t) fullShare ((dats m 0 c).before (0 : Fin 19) t d))
        ∗ (∃ d, owns (c : Thread nD τ) (ms1 t) fullShare ((dats m 0 c).before (1 : Fin 19) t d))
        ∗ (∃ d, owns (c : Thread nD τ) (ms2 t) fullShare ((dats m 0 c).before (2 : Fin 19) t d))
        ∗ (∃ d, owns (c : Thread nD τ) (ms3 t) fullShare ((dats m 0 c).before (3 : Fin 19) t d))
        ∗ (∃ d, owns (c : Thread nD τ) (ms4 t) fullShare ((dats m 0 c).before (4 : Fin 19) t d))
        ∗ (∃ d, owns (c : Thread nD τ) (ms5 t) fullShare ((dats m 0 c).before (5 : Fin 19) t d))
        ∗ (∃ d, owns (c : Thread nD τ) (ms6 t) fullShare ((dats m 0 c).before (6 : Fin 19) t d))
        ∗ (∃ d, owns (c : Thread nD τ) (ms7 t) fullShare ((dats m 0 c).before (7 : Fin 19) t d))
        ∗ (∃ d, owns (c : Thread nD τ) (ms8 t) fullShare ((dats m 0 c).before (8 : Fin 19) t d))
        ∗ (∃ d, owns (c : Thread nD τ) (ms9 t) fullShare ((dats m 0 c).before (9 : Fin 19) t d))
        ∗ (∃ d, owns (c : Thread nD τ) (ms10 t) fullShare ((dats m 0 c).before (10 : Fin 19) t d))
        ∗ (∃ d, owns (c : Thread nD τ) (ms11 t) fullShare ((dats m 0 c).before (11 : Fin 19) t d))
        ∗ (∃ d, owns (c : Thread nD τ) (ms12 t) fullShare ((dats m 0 c).before (12 : Fin 19) t d))
        ∗ (∃ d, owns (c : Thread nD τ) (ms13 t) fullShare ((dats m 0 c).before (13 : Fin 19) t d))
        ∗ (∃ d, owns (c : Thread nD τ) (ms14 t) fullShare ((dats m 0 c).before (14 : Fin 19) t d))
        ∗ (∃ d, owns (c : Thread nD τ) (ms15 t) fullShare ((dats m 0 c).before (15 : Fin 19) t d))
        ∗ (∃ d, owns (c : Thread nD τ) (ms16 t) fullShare ((dats m 0 c).before (16 : Fin 19) t d))
        ∗ (∃ d, owns (c : Thread nD τ) (ms17 t) fullShare ((dats m 0 c).before (17 : Fin 19) t d))
        ∗ (∃ d, owns (c : Thread nD τ) (ms18 t) fullShare ((dats m 0 c).before (18 : Fin 19) t d)))
      ⊢ wp frame (wpE (defs₀ (F := F)) Variants.none c none) Set.univ (bodyAt t) fun _ =>
          iprop((dats m 0 c).Φ t.succ ∗ (dats m 0 c).owesAt () t.succ
            ∗ owns (c : Thread nD τ) (ms0 t) fullShare ((dats m 0 c).after (0 : Fin 19) t)
            ∗ owns (c : Thread nD τ) (ms1 t) fullShare ((dats m 0 c).after (1 : Fin 19) t)
            ∗ owns (c : Thread nD τ) (ms2 t) fullShare ((dats m 0 c).after (2 : Fin 19) t)
            ∗ owns (c : Thread nD τ) (ms3 t) fullShare ((dats m 0 c).after (3 : Fin 19) t)
            ∗ owns (c : Thread nD τ) (ms4 t) fullShare ((dats m 0 c).after (4 : Fin 19) t)
            ∗ owns (c : Thread nD τ) (ms5 t) fullShare ((dats m 0 c).after (5 : Fin 19) t)
            ∗ owns (c : Thread nD τ) (ms6 t) fullShare ((dats m 0 c).after (6 : Fin 19) t)
            ∗ owns (c : Thread nD τ) (ms7 t) fullShare ((dats m 0 c).after (7 : Fin 19) t)
            ∗ owns (c : Thread nD τ) (ms8 t) fullShare ((dats m 0 c).after (8 : Fin 19) t)
            ∗ owns (c : Thread nD τ) (ms9 t) fullShare ((dats m 0 c).after (9 : Fin 19) t)
            ∗ owns (c : Thread nD τ) (ms10 t) fullShare ((dats m 0 c).after (10 : Fin 19) t)
            ∗ owns (c : Thread nD τ) (ms11 t) fullShare ((dats m 0 c).after (11 : Fin 19) t)
            ∗ owns (c : Thread nD τ) (ms12 t) fullShare ((dats m 0 c).after (12 : Fin 19) t)
            ∗ owns (c : Thread nD τ) (ms13 t) fullShare ((dats m 0 c).after (13 : Fin 19) t)
            ∗ owns (c : Thread nD τ) (ms14 t) fullShare ((dats m 0 c).after (14 : Fin 19) t)
            ∗ owns (c : Thread nD τ) (ms15 t) fullShare ((dats m 0 c).after (15 : Fin 19) t)
            ∗ owns (c : Thread nD τ) (ms16 t) fullShare ((dats m 0 c).after (16 : Fin 19) t)
            ∗ owns (c : Thread nD τ) (ms17 t) fullShare ((dats m 0 c).after (17 : Fin 19) t)
            ∗ owns (c : Thread nD τ) (ms18 t) fullShare ((dats m 0 c).after (18 : Fin 19) t)) := by
  simp only [before0, before1, before2, before3, before4, before5, before6, before7, before8, before9, before10, before11, before12, before13, after0, after1, after2, after3, after4, after5, after6, after7, after8, after9, after10, after11, after12, after13, after14, after15, after16, after17, after18]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi
  rewrite [show carryAt m c t.succ.val = (resOf m c t (carryAt m c t.val)).carry from carryAt_succ m c t]
  iintro ⟨⟨⟨%a, %ha, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (Classical.choose_spec (step c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) sc (Memref.isWhole_whole _) (iblk m c (0 : Fin 19) t) (iblk m c (1 : Fin 19) t) (iblk m c (2 : Fin 19) t) (iblk m c (3 : Fin 19) t) (iblk m c (4 : Fin 19) t) (iblk m c (5 : Fin 19) t) (iblk m c (6 : Fin 19) t) (iblk m c (7 : Fin 19) t) (iblk m c (8 : Fin 19) t) (iblk m c (9 : Fin 19) t) (iblk m c (10 : Fin 19) t) (iblk m c (11 : Fin 19) t) (iblk m c (12 : Fin 19) t) (iblk m c (13 : Fin 19) t) (carryAt m c t.val)))
  isplitl [H0 H1 H2 H3 H4 H5 H6 H7 H8 H9 H10 H11 H12 H13]
  · unfold held
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iapply rep_of_owns; iexact H9
    isplitl [H10]; · iapply rep_of_owns; iexact H10
    isplitl [H11]; · iapply rep_of_owns; iexact H11
    isplitl [H12]; · iapply rep_of_owns; iexact H12
    iapply rep_of_owns; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS]
  · iexists a; isplitr; swap
    · iexact HS
    · ipureintro; intro hf; exact ha fun h0 => hf (first_of_zero t h0)
  unfold held
  iintro ⟨⟨H0, H1, H2, H3, H4, H5, H6, H7, H8, H9, H10, H11, H12, H13⟩, H14, H15, H16, H17, H18, HS⟩
  isplitl [HS Hg]
  · isplitl [HS]
    · iexists _; isplitr; swap
      · iexact HS
      · ipureintro; intro _; rfl
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]; · iexact H14
  isplitl [H15]; · iexact H15
  isplitl [H16]; · iexact H16
  isplitl [H17]; · iexact H17
  iexact H18

/-- The table of bodies at point `t` is the body on its staging buffers. -/
theorem body_row (t : Fin cfg0.N) : defs₀ (F := F) .tc cfg0.body (cfg0.bodyArgs t (cfg0.slots t)) = bodyAt t := by
  unfold defs₀; rw [Defs.onTc_tc]

/-- The same at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the region is handed gives the invariant before the first point; -/
theorem phi_in (c : Dev nD) : Pipeline.ΦA spec0 c ⊢ (dats m 0 c).Φ 0 := by
  rw [show (dats m 0 c).Φ 0 = Phi m c 0 from rfl]
  unfold Pipeline.ΦA Phi
  rw [scopedRest0_eq]
  simp only [sc, owns_whole]
  iintro ⟨⟨%a, HS⟩, Hg⟩
  isplitl [HS]
  · iexists a; isplitr; swap
    · iexact HS
    · ipureintro; intro h; exact absurd rfl h
  iexact Hg

/-- and the invariant after the last point gives it back. -/
theorem phi_out (c : Dev nD) : (dats m 0 c).Φ (Fin.last cfg0.N) ⊢ Pipeline.ΦA spec0 c := by
  rw [show (dats m 0 c).Φ (Fin.last cfg0.N) = Phi m c (Fin.last _) from rfl]
  unfold Pipeline.ΦA Phi
  rw [scopedRest0_eq]
  simp only [sc, owns_whole]
  iintro ⟨⟨%a, -, HS⟩, Hg⟩
  isplitl [HS]
  · iexists a; iexact HS
  iexact Hg

set_option backward.isDefEq.respectTransparency.types false in
/-- From any memory with zero counters, every weakly fair execution ends with every array at what the pipeline computes, every
    other buffer as the region found it, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_dats m) (hin := phi_in m) (hout := phi_out m)

/-- At the end the argument arrays are as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_dats m) ((θ_run defs _ _).mono (fun _ h => h.1) (run_quiescent m ρ)))
    ((θ_run defs _ _).mono (fun _ h => h.2) (run_quiescent m ρ))

end Cert.Kernel3Ideal.Hand
-- ==== Proof.MixRow.lean ====
module

public import proofs.«01_k».proof.Proof.LayerNorm

/-! # The mixing of one row

A row's layer norm `h` goes through the two gate projections; their logistic functions weigh the row of each of the two
branches; the weighted sum goes through the output projection; and `α · h` and the outcome together are normed again.  All
of it for one row, each weight a function of its indices. -/

@[expose] public section

noncomputable section

namespace Cert.MixRow

open Idealize.ShloMosaic

variable (h ya yb : Fin 1024 → EReal) (wc wf wo : Fin 1024 → Fin 1024 → EReal) (ec ef eo : Fin 1024 → EReal)

/-- The product of a row with a weight, and a bias, at a column. -/
def proj (y : Fin 1024 → EReal) (w : Fin 1024 → Fin 1024 → EReal) (e : Fin 1024 → EReal) (f : Fin 1024) : EReal :=
  (∑ k, y k * w k f) + e f

/-- The two branches, each weighed by its gate. -/
def merged (f : Fin 1024) : EReal :=
  Ideal.logistic (proj h wc ec f) * ya f + Ideal.logistic (proj h wf ef f) * yb f

/-- The row that is normed last. -/
def total (f : Fin 1024) : EReal :=
  Ideal.ofBits .f32 0x3F9837F0#32 * h f + proj (merged h ya yb wc wf ec ef) wo eo f

/-- The result's row. -/
def out (x g b g' b' : Fin 1024 → EReal) (f : Fin 1024) : EReal :=
  LayerNorm.norm (total (LayerNorm.norm x g b) ya yb wc wf wo ec ef eo) g' b' f

end Cert.MixRow

end
-- ==== Proof.MixRef.lean ====
module

public import proofs.«01_k».proof.Proof.Gen.Reference3Ideal.Run
public import proofs.«01_k».proof.Proof.InRef
public import proofs.«01_k».proof.Proof.MixRow
public import Idealize.ShloMosaic.Lib.Pointwise

/-! # The mixing's reference, read at an index

The layer norm of the rows and its product with the input weights are those of the input projection's reference
(`Cert.InRef`).  The gated sum of the two branches, the output projection and the last layer norm follow, each given by its
entries. -/

@[expose] public section

set_option maxRecDepth 8192
set_option Elab.async false

noncomputable section

namespace Cert.MixRef

open Cert.Reference3Ideal Cert.Reference3Ideal.Facts₀ Cert.Reference3Ideal.Facts
open Idealize.ShloMosaic Idealize.ShloMosaic.TcCoe

variable (x : FVec Ideal S8x2048x1024 .f32) (ya : FVec Ideal S16384x1024 .bf16) (yb : FVec Ideal S16384x1024 .f32)
variable (g b : FVec Ideal S1024 .f32) (w : FVec Ideal S1x1024x3584 .f32) (e : FVec Ideal S1x3584 .f32)
variable (wo : FVec Ideal S1x1024x1024 .f32) (eo g' b' : FVec Ideal S1x1024 .f32)

/-- The logistic function of a gate's 1024 columns of the projection. -/
def sigma (z : FVec Ideal S8x2048x1024 .f32) : FVec Ideal S8x2048x1024 .f32 :=
  Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf z)))

/-- The two branches, each weighed by its gate. -/
def merged (z : FVec Ideal S8x2048x3584 .f32) : FVec Ideal S8x2048x1024 .f32 :=
  addf (mulf (sigma (extractStridedSlice S8x2048x1024 ![0, 0, 1536] z slices_S8x2048x3584_S8x2048x1024_0_0_1536)) (shapeCast S8x2048x1024 (extf .f32 ya bitsLt_bf16_f32) shapeCasts_S16384x1024_S8x2048x1024))
    (mulf (sigma (extractStridedSlice S8x2048x1024 ![0, 0, 2560] z slices_S8x2048x3584_S8x2048x1024_0_0_2560)) (shapeCast S8x2048x1024 yb shapeCasts_S16384x1024_S8x2048x1024))

/-- The output projection. -/
def proj (y : FVec Ideal S8x2048x1024 .f32) : FVec Ideal S8x2048x1024 .f32 :=
  addf (Host.dotGeneral dot_S8x2048x1024_S1024x1024_S8x2048x1024_2_0_01_1_n_n none y (shapeCast _ wo shapeCasts_S1x1024x1024_S1024x1024)) (broadcastInDim S8x2048x1024 ![0, 1, 2] bcast_S1x1x1024_S8x2048x1024_0_1_2 (broadcastInDim S1x1x1024 ![2] bcast_S1024_S1x1x1024_2 (shapeCast _ eo shapeCasts_S1x1024_S1024)))

/-- A multiple of the first layer norm, and the outcome of the mixing. -/
def total (h y : FVec Ideal S8x2048x1024 .f32) : FVec Ideal S8x2048x1024 .f32 :=
  addf (mulf (broadcastInDim S8x2048x1024 ![] bcast_S_S8x2048x1024 (constant S_ .f32 0x3F9837F0#32)) h) y

/-- The row that is normed last, of the arguments. -/
def sum : FVec Ideal S8x2048x1024 .f32 :=
  total (InRef.norm x g b) (proj wo eo (merged ya yb (InRef.proj w e (InRef.norm x g b))))

/-- The result. -/
def out : FVec Ideal S131072x128 .f32 :=
  shapeCast S131072x128 (InRef.norm (sum x ya yb g b w e wo eo) (shapeCast _ g' shapeCasts_S1x1024_S1024) (shapeCast _ b' shapeCasts_S1x1024_S1024)) shapeCasts_S8x2048x1024_S131072x128

/-- What the run gives is `out`. -/
theorem res_eq (m : (ℓ : Loc nD τ sig) → Buf (Elt Ideal) ℓ) (c : Dev nD) :
    Value.res_main_v85 m c = out (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Value.res_main_v85 out sum total proj merged sigma InRef.proj InRef.norm InRef.mean InRef.dev
  rfl

/-! ## The entries -/

open Cert.InRef (batch pos)

theorem sigma_apply (z : FVec Ideal S8x2048x1024 .f32) (i : Fin 8) (t : Fin 2048) (f : Fin 1024) :
    sigma z (ix3 i t f) = Ideal.logistic (z (ix3 i t f)) := by
  unfold sigma
  pointwise
  unfold Ideal.logistic
  rfl

/-- A branch's rows in the shape of the input's. -/
theorem fold_apply (y : FVec Ideal S16384x1024 .f32) (r : Fin 16384) (f : Fin 1024) :
    shapeCast S8x2048x1024 y shapeCasts_S16384x1024_S8x2048x1024 (ix3 (batch r) (pos r) f) = y (ix2 r f) := by
  refine shapeCast_apply _ _ _ _ ?_
  rw [Shape.rowMajor_val_two, Shape.rowMajor_val_three]
  show r.val * 1024 + f.val = (r.val / 2048 * 2048 + r.val % 2048) * 1024 + f.val
  omega

theorem merged_apply (z : FVec Ideal S8x2048x3584 .f32) (r : Fin 16384) (f : Fin 1024) :
    merged ya yb z (ix3 (batch r) (pos r) f)
      = Ideal.logistic (z (ix3 (batch r) (pos r) ⟨1536 + f.val, by omega⟩)) * ya (ix2 r f)
        + Ideal.logistic (z (ix3 (batch r) (pos r) ⟨2560 + f.val, by omega⟩)) * yb (ix2 r f) := by
  have h1 := fold_apply (extf .f32 ya bitsLt_bf16_f32) r f
  have h2 := fold_apply yb r f
  have h3 := sigma_apply (extractStridedSlice S8x2048x1024 ![0, 0, 1536] z slices_S8x2048x3584_S8x2048x1024_0_0_1536) (batch r) (pos r) f
  have h4 := sigma_apply (extractStridedSlice S8x2048x1024 ![0, 0, 2560] z slices_S8x2048x3584_S8x2048x1024_0_0_2560) (batch r) (pos r) f
  have h5 : extractStridedSlice S8x2048x1024 ![0, 0, 1536] z slices_S8x2048x3584_S8x2048x1024_0_0_1536 (ix3 (batch r) (pos r) f) = z (ix3 (batch r) (pos r) ⟨1536 + f.val, by omega⟩) := by pointwise
  have h6 : extractStridedSlice S8x2048x1024 ![0, 0, 2560] z slices_S8x2048x3584_S8x2048x1024_0_0_2560 (ix3 (batch r) (pos r) f) = z (ix3 (batch r) (pos r) ⟨2560 + f.val, by omega⟩) := by pointwise
  rw [h5] at h3
  rw [h6] at h4
  unfold merged
  exact congrArg₂ (· + ·) (congrArg₂ (· * ·) h3 h1) (congrArg₂ (· * ·) h4 h2)

theorem proj_apply (y : FVec Ideal S8x2048x1024 .f32) (i : Fin 8) (t : Fin 2048) (f : Fin 1024) :
    proj wo eo y (ix3 i t f) = (∑ k : Fin 1024, y (ix3 i t k) * wo (ix3 (0 : Fin 1) k f)) + eo (ix2 (0 : Fin 1) f) := by
  unfold proj
  pointwise

theorem total_apply (h y : FVec Ideal S8x2048x1024 .f32) (i : Fin 8) (t : Fin 2048) (f : Fin 1024) :
    total h y (ix3 i t f) = Ideal.ofBits .f32 0x3F9837F0#32 * h (ix3 i t f) + y (ix3 i t f) := by
  unfold total
  pointwise

/-- The mixing of row `r` of the arguments. -/
def rowOf (r : Fin 16384) : Fin 1024 → EReal :=
  MixRow.out (fun f => ya (ix2 r f)) (fun f => yb (ix2 r f)) (fun k f => w (ix3 (0 : Fin 1) k ⟨1536 + f.val, by omega⟩))
    (fun k f => w (ix3 (0 : Fin 1) k ⟨2560 + f.val, by omega⟩)) (fun k f => wo (ix3 (0 : Fin 1) k f))
    (fun f => e (ix2 (0 : Fin 1) ⟨1536 + f.val, by omega⟩)) (fun f => e (ix2 (0 : Fin 1) ⟨2560 + f.val, by omega⟩))
    (fun f => eo (ix2 (0 : Fin 1) f)) (fun k => x (ix3 (batch r) (pos r) k)) (fun k => g (ix1 k)) (fun k => b (ix1 k))
    (fun k => g' (ix2 (0 : Fin 1) k)) (fun k => b' (ix2 (0 : Fin 1) k))

theorem sum_apply (r : Fin 16384) (f : Fin 1024) :
    sum x ya yb g b w e wo eo (ix3 (batch r) (pos r) f)
      = MixRow.total (LayerNorm.norm (fun k => x (ix3 (batch r) (pos r) k)) (fun k => g (ix1 k)) (fun k => b (ix1 k)))
          (fun f => ya (ix2 r f)) (fun f => yb (ix2 r f)) (fun k f => w (ix3 (0 : Fin 1) k ⟨1536 + f.val, by omega⟩))
          (fun k f => w (ix3 (0 : Fin 1) k ⟨2560 + f.val, by omega⟩)) (fun k f => wo (ix3 (0 : Fin 1) k f))
          (fun f => e (ix2 (0 : Fin 1) ⟨1536 + f.val, by omega⟩)) (fun f => e (ix2 (0 : Fin 1) ⟨2560 + f.val, by omega⟩))
          (fun f => eo (ix2 (0 : Fin 1) f)) f := by
  unfold sum MixRow.total MixRow.proj MixRow.merged MixRow.proj
  rw [total_apply, proj_apply]
  simp only [merged_apply, InRef.proj_apply, InRef.norm_apply]

/-- The row and the column of a place of the result. -/
def row (q : Fin 131072) : Fin 16384 := ⟨q.val / 8, by omega⟩
def col (q : Fin 131072) (l : Fin 128) : Fin 1024 := ⟨128 * (q.val % 8) + l.val, by omega⟩

theorem out_apply (q : Fin 131072) (l : Fin 128) :
    out x ya yb g b w e wo eo g' b' (ix2 q l) = rowOf x ya yb g b w e wo eo g' b' (row q) (col q l) := by
  unfold out
  refine Eq.trans (shapeCast_apply _ _ _ (ix3 (batch (row q)) (pos (row q)) (col q l)) ?_) ?_
  · rw [Shape.rowMajor_val_two, Shape.rowMajor_val_three]
    show (q.val / 8 / 2048 * 2048 + q.val / 8 % 2048) * 1024 + (128 * (q.val % 8) + l.val) = q.val * 128 + l.val
    omega
  refine (InRef.norm_apply _ _ _ _ _ _).trans ?_
  unfold rowOf MixRow.out
  have h1 (k : Fin 1024) : shapeCast S1024 g' shapeCasts_S1x1024_S1024 (ix1 k) = g' (ix2 (0 : Fin 1) k) := by pointwise
  have h2 (k : Fin 1024) : shapeCast S1024 b' shapeCasts_S1x1024_S1024 (ix1 k) = b' (ix2 (0 : Fin 1) k) := by pointwise
  simp only [sum_apply, h1, h2]

end Cert.MixRef

end
-- ==== Proof.MixValue.lean ====
module

public import proofs.«01_k».proof.Proof.IdealMixRun
public import proofs.«01_k».proof.Proof.MixRef
public import proofs.«01_k».proof.Proof.Sigmoid
public import Idealize.ShloMosaic.Lib.Pointwise

/-! # The idealised mixing computes the reference's function

Each grid point takes 512 rows through the whole of the mixing.  Its block read at an index is the mixing of one row
(`Cert.MixRow`); the blocks tile the result, each row laid out as eight rows of 128. -/

@[expose] public section

set_option maxRecDepth 16384
set_option Elab.async false

noncomputable section

namespace Cert.Kernel3Ideal.Hand

open Cert.Kernel3Ideal Cert.Kernel3Ideal.Gen
open Idealize.ShloMosaic Idealize.ShloMosaic.TcCoe
open Idealize.ShloMosaic.Pipeline

/-! ## The body's block, read at an index -/

/-- The mean of every row of a block, as a column. -/
def rowMean (v : FVec Ideal S512x1024 .f32) : FVec Ideal S512x1 .f32 :=
  divf (shapeCast S512x1 (multiReduction .add [1] S512 v 0x00000000#32 reduces_S512x1024_S512 (.inl rfl) rfl) shapeCasts_S512_S512x1) (broadcast S512x1 (Scalar.ofBits .f32 0x44800000#32))

/-- Every row of a block less its mean. -/
def rowDev (v : FVec Ideal S512x1024 .f32) : FVec Ideal S512x1024 .f32 :=
  subf v (broadcastTo S512x1024 (rowMean v) broadcasts_S512x1_S512x1024)

/-- The layer norm of the rows of a block. -/
def rowNorm (x : FVec Ideal S512x1024 .f32) (g b : FVec Ideal S1x1024 .f32) : FVec Ideal S512x1024 .f32 :=
  addf (mulf (mulf (rowDev x) (broadcastTo S512x1024 (rsqrt (addf (rowMean (mulf (rowDev x) (rowDev x))) (broadcast S512x1 (Scalar.ofBits .f32 0x3727C5AC#32)))) broadcasts_S512x1_S512x1024)) (broadcastTo S512x1024 g broadcasts_S1x1024_S512x1024)) (broadcastTo S512x1024 b broadcasts_S1x1024_S512x1024)

/-- The two gates' projections of a block. -/
def gates (h : FVec Ideal S512x1024 .f32) (w : FVec Ideal S1024x2048 .bf16) (e : FVec Ideal S1x2048 .f32) : FVec Ideal S512x2048 .f32 :=
  addf (matmul (φ₂ := .bf16) dot_S512x1024_S1024x2048_S512x2048_1_0_0_1_n_n none (truncf .bf16 h bitsLt_bf16_f32) w (constant S512x2048 .f32 0x00000000#32)) (broadcastTo S512x2048 e broadcasts_S1x2048_S512x2048)

/-- The logistic function, as the body computes it. -/
def half (z : FVec Ideal S512x1024 .f32) : FVec Ideal S512x1024 .f32 :=
  addf (mulf (broadcast S512x1024 (Scalar.ofBits .f32 0x3F000000#32)) (tanh (mulf (broadcast S512x1024 (Scalar.ofBits .f32 0x3F000000#32)) z))) (broadcast S512x1024 (Scalar.ofBits .f32 0x3F000000#32))

/-- The two branches of a block, each weighed by its gate. -/
def weighed (z : FVec Ideal S512x2048 .f32) (ya : FVec Ideal S512x1024 .bf16) (yb : FVec Ideal S512x1024 .f32) : FVec Ideal S512x1024 .f32 :=
  addf (mulf (half (extractStridedSlice S512x1024 ![0, 0] z slices_S512x2048_o0_0_S512x1024)) (extf .f32 ya bitsLt_bf16_f32))
    (mulf (half (extractStridedSlice S512x1024 ![0, 1024] z slices_S512x2048_o0_1024_S512x1024)) yb)

/-- A multiple of the first layer norm, and the output projection. -/
def summed (h y : FVec Ideal S512x1024 .f32) (w : FVec Ideal S1024x1024 .bf16) (e : FVec Ideal S1x1024 .f32) : FVec Ideal S512x1024 .f32 :=
  addf (mulf (broadcast S512x1024 (Scalar.ofBits .f32 0x3F9837F0#32)) h) (addf (matmul (φ₂ := .bf16) dot_S512x1024_S1024x1024_S512x1024_1_0_0_1_n_n none (truncf .bf16 y bitsLt_bf16_f32) w (constant S512x1024 .f32 0x00000000#32)) (broadcastTo S512x1024 e broadcasts_S1x1024_S512x1024))

/-- The point's block, in these terms. -/
theorem mixBlock_eq (x0 : Vec Ideal S512x1024 .f32) (x1 : Vec Ideal S512x1024 .bf16) (x2 : Vec Ideal S512x1024 .f32) (x4 : Vec Ideal S1x1024 .f32) (x5 : Vec Ideal S1x1024 .f32) (x6 : Vec Ideal S1024x2048 .bf16) (x7 : Vec Ideal S1x2048 .f32) (x8 : Vec Ideal S1024x1024 .bf16) (x9 : Vec Ideal S1x1024 .f32) (x10 : Vec Ideal S1x1024 .f32) (x11 : Vec Ideal S1x1024 .f32) :
    mixBlock (F := Ideal) x0 x1 x2 x4 x5 x6 x7 x8 x9 x10 x11
      = rowNorm (summed (rowNorm x0 x4 x5) (weighed (gates (rowNorm x0 x4 x5) x6 x7) x1 x2) x8 x9) x10 x11 := by
  have e6 : k0_pay6 (F := Ideal) x0 x4 x5 = rowNorm x0 x4 x5 := by
    unfold k0_pay6
    simp only [shapeCast_self]
    unfold rowNorm rowDev rowMean
    rfl
  have e9 (h : FVec Ideal S512x1024 .f32) : k0_pay9 (F := Ideal) h (truncf .bf16 h bitsLt_bf16_f32) x6 (constant S512x2048 .f32 0x00000000#32) x7 x1 x2 x8 x9 = summed h (weighed (gates h x6 x7) x1 x2) x8 x9 := by
    unfold k0_pay9
    simp only [shapeCast_self]
    unfold summed weighed half gates
    rfl
  have e11 (v : FVec Ideal S512x1024 .f32) : k0_pay11 (F := Ideal) v x10 x11 = rowNorm v x10 x11 := by
    unfold k0_pay11
    simp only [shapeCast_self]
    unfold rowNorm rowDev rowMean
    rfl
  unfold mixBlock k0_pay7 k0_pay8 k0_pay10
  simp only [shapeCast_self]
  rw [e6, e9, e11]

theorem rowMean_apply (y : FVec Ideal S512x1024 .f32) (p : Fin 512) :
    rowMean y (ix2 p (0 : Fin 1)) = LayerNorm.mean fun k => y (ix2 p k) := by
  unfold rowMean
  pointwise
  rfl

theorem rowDev_apply (y : FVec Ideal S512x1024 .f32) (p : Fin 512) (k : Fin 1024) :
    rowDev y (ix2 p k) = y (ix2 p k) - LayerNorm.mean fun k => y (ix2 p k) := by
  have := rowMean_apply y p
  unfold rowDev
  generalize rowMean y = u at *
  rw [← this]
  pointwise

theorem rowNorm_apply (x : FVec Ideal S512x1024 .f32) (g b : FVec Ideal S1x1024 .f32) (p : Fin 512) (k : Fin 1024) :
    rowNorm x g b (ix2 p k) = LayerNorm.norm (fun k => x (ix2 p k)) (fun k => g (ix2 (0 : Fin 1) k)) (fun k => b (ix2 (0 : Fin 1) k)) k := by
  have h1 := rowMean_apply (mulf (rowDev x) (rowDev x)) p
  have h2 := rowDev_apply x p
  unfold rowNorm
  have h3 : (fun k => (mulf (rowDev x) (rowDev x)) (ix2 p k)) = fun k => rowDev x (ix2 p k) * rowDev x (ix2 p k) := rfl
  rw [h3] at h1
  generalize rowMean (mulf (rowDev x) (rowDev x)) = v at *
  generalize rowDev x = d at *
  simp only [h2] at h1
  unfold LayerNorm.norm
  rw [← h1, ← h2]
  pointwise

theorem gates_apply (h : FVec Ideal S512x1024 .f32) (w : FVec Ideal S1024x2048 .bf16) (e : FVec Ideal S1x2048 .f32) (p : Fin 512) (f : Fin 2048) :
    gates h w e (ix2 p f) = (∑ k : Fin 1024, h (ix2 p k) * w (ix2 k f)) + e (ix2 (0 : Fin 1) f) := by
  unfold gates
  pointwise

theorem half_apply (z : FVec Ideal S512x1024 .f32) (p : Fin 512) (f : Fin 1024) : half z (ix2 p f) = Ideal.logistic (z (ix2 p f)) := by
  refine Eq.trans ?_ (Sigmoid.half_tanh (z (ix2 p f)))
  unfold half
  pointwise

theorem weighed_apply (z : FVec Ideal S512x2048 .f32) (ya : FVec Ideal S512x1024 .bf16) (yb : FVec Ideal S512x1024 .f32) (p : Fin 512) (f : Fin 1024) :
    weighed z ya yb (ix2 p f) = Ideal.logistic (z (ix2 p ⟨f.val, by omega⟩)) * ya (ix2 p f) + Ideal.logistic (z (ix2 p ⟨1024 + f.val, by omega⟩)) * yb (ix2 p f) := by
  have h1 := half_apply (extractStridedSlice S512x1024 ![0, 0] z slices_S512x2048_o0_0_S512x1024) p f
  have h2 := half_apply (extractStridedSlice S512x1024 ![0, 1024] z slices_S512x2048_o0_1024_S512x1024) p f
  have h3 : extractStridedSlice S512x1024 ![0, 0] z slices_S512x2048_o0_0_S512x1024 (ix2 p f) = z (ix2 p ⟨f.val, by omega⟩) := by pointwise
  have h4 : extractStridedSlice S512x1024 ![0, 1024] z slices_S512x2048_o0_1024_S512x1024 (ix2 p f) = z (ix2 p ⟨1024 + f.val, by omega⟩) := by pointwise
  rw [h3] at h1
  rw [h4] at h2
  unfold weighed
  exact congrArg₂ (· + ·) (congrArg (· * ya (ix2 p f)) h1) (congrArg (· * yb (ix2 p f)) h2)

theorem summed_apply (h y : FVec Ideal S512x1024 .f32) (w : FVec Ideal S1024x1024 .bf16) (e : FVec Ideal S1x1024 .f32) (p : Fin 512) (f : Fin 1024) :
    summed h y w e (ix2 p f) = Ideal.ofBits .f32 0x3F9837F0#32 * h (ix2 p f) + ((∑ k : Fin 1024, y (ix2 p k) * w (ix2 k f)) + e (ix2 (0 : Fin 1) f)) := by
  unfold summed
  pointwise

/-- The point's block at an index: the mixing of one of its rows. -/
theorem mixBlock_apply (x0 : Vec Ideal S512x1024 .f32) (x1 : Vec Ideal S512x1024 .bf16) (x2 : Vec Ideal S512x1024 .f32) (x4 : Vec Ideal S1x1024 .f32) (x5 : Vec Ideal S1x1024 .f32) (x6 : Vec Ideal S1024x2048 .bf16) (x7 : Vec Ideal S1x2048 .f32) (x8 : Vec Ideal S1024x1024 .bf16) (x9 : Vec Ideal S1x1024 .f32) (x10 : Vec Ideal S1x1024 .f32) (x11 : Vec Ideal S1x1024 .f32) (p : Fin 512) (f : Fin 1024) :
    mixBlock (F := Ideal) x0 x1 x2 x4 x5 x6 x7 x8 x9 x10 x11 (ix2 p f)
      = MixRow.out (fun f => x1 (ix2 p f)) (fun f => x2 (ix2 p f)) (fun k f => x6 (ix2 k ⟨f.val, by omega⟩)) (fun k f => x6 (ix2 k ⟨1024 + f.val, by omega⟩))
          (fun k f => x8 (ix2 k f)) (fun f => x7 (ix2 (0 : Fin 1) ⟨f.val, by omega⟩)) (fun f => x7 (ix2 (0 : Fin 1) ⟨1024 + f.val, by omega⟩)) (fun f => x9 (ix2 (0 : Fin 1) f))
          (fun k => x0 (ix2 p k)) (fun k => x4 (ix2 (0 : Fin 1) k)) (fun k => x5 (ix2 (0 : Fin 1) k)) (fun k => x10 (ix2 (0 : Fin 1) k)) (fun k => x11 (ix2 (0 : Fin 1) k)) f := by
  rw [mixBlock_eq, rowNorm_apply]
  unfold MixRow.out MixRow.total MixRow.proj MixRow.merged MixRow.proj
  simp only [summed_apply, weighed_apply, gates_apply, rowNorm_apply]

/-! ## The arrays the region finds -/

variable (m : (ℓ : Loc nD τ sig) → Buf (Elt Ideal) ℓ) (c : Dev nD)

/-- The arrays at launch. -/
abbrev arg0 : FVec Ideal S8x2048x1024 .f32 := m ((c : Thread nD τ).loc main_arg0)
abbrev arg1 : FVec Ideal S16384x1024 .bf16 := m ((c : Thread nD τ).loc main_arg1)
abbrev arg2 : FVec Ideal S16384x1024 .f32 := m ((c : Thread nD τ).loc main_arg2)
abbrev arg4 : FVec Ideal S1024 .f32 := m ((c : Thread nD τ).loc main_arg4)
abbrev arg5 : FVec Ideal S1024 .f32 := m ((c : Thread nD τ).loc main_arg5)
abbrev arg6 : FVec Ideal S1x1024x3584 .f32 := m ((c : Thread nD τ).loc main_arg6)
abbrev arg7 : FVec Ideal S1x3584 .f32 := m ((c : Thread nD τ).loc main_arg7)
abbrev arg8 : FVec Ideal S1x1024x1024 .f32 := m ((c : Thread nD τ).loc main_arg8)
abbrev arg9 : FVec Ideal S1x1024 .f32 := m ((c : Thread nD τ).loc main_arg9)
abbrev arg10 : FVec Ideal S1x1024 .f32 := m ((c : Thread nD τ).loc main_arg10)
abbrev arg11 : FVec Ideal S1x1024 .f32 := m ((c : Thread nD τ).loc main_arg11)

theorem v17_eq : V m c main_v17 = shapeCast S16384x1024 (arg0 m c) shapeCasts_S8x2048x1024_S16384x1024 := by
  simp only [V, hostOps0, hostOps0_1, hostOps0_2, List.flatten_cons, List.flatten_nil, List.append_nil, List.cons_append, List.nil_append, StableHlo.after]
  rfl
theorem v18_eq : V m c main_v18 = shapeCast S1x1024 (arg4 m c) shapeCasts_S1024_S1x1024 := by
  simp only [V, hostOps0, hostOps0_1, hostOps0_2, List.flatten_cons, List.flatten_nil, List.append_nil, List.cons_append, List.nil_append, StableHlo.after]
  rfl
theorem v19_eq : V m c main_v19 = shapeCast S1x1024 (arg5 m c) shapeCasts_S1024_S1x1024 := by
  simp only [V, hostOps0, hostOps0_1, hostOps0_2, List.flatten_cons, List.flatten_nil, List.append_nil, List.cons_append, List.nil_append, StableHlo.after]
  rfl
theorem v2_eq : V m c main_v2 = extractStridedSlice S1024x2048 ![0, 1536] (truncf (F := Ideal) .bf16 (shapeCast S1024x3584 (arg6 m c) shapeCasts_S1x1024x3584_S1024x3584) bitsLt_bf16_f32) slices_S1024x3584_S1024x2048_0_1536 := by
  simp only [V, hostOps0, hostOps0_1, hostOps0_2, List.flatten_cons, List.flatten_nil, List.append_nil, List.cons_append, List.nil_append, StableHlo.after]
  rfl
theorem v5_eq : V m c main_v5 = shapeCast S1x2048 (shapeCast S2048 (extractStridedSlice S1x2048 ![0, 1536] (arg7 m c) slices_S1x3584_S1x2048_0_1536) shapeCasts_S1x2048_S2048) shapeCasts_S2048_S1x2048 := by
  simp only [V, hostOps0, hostOps0_1, hostOps0_2, List.flatten_cons, List.flatten_nil, List.append_nil, List.cons_append, List.nil_append, StableHlo.after]
  rfl
theorem v7_eq : V m c main_v7 = truncf (F := Ideal) .bf16 (shapeCast S1024x1024 (arg8 m c) shapeCasts_S1x1024x1024_S1024x1024) bitsLt_bf16_f32 := by
  simp only [V, hostOps0, hostOps0_1, hostOps0_2, List.flatten_cons, List.flatten_nil, List.append_nil, List.cons_append, List.nil_append, StableHlo.after]
  rfl
theorem v21_eq : V m c main_v21 = shapeCast S1x1024 (shapeCast S1024 (arg9 m c) shapeCasts_S1x1024_S1024) shapeCasts_S1024_S1x1024 := by
  simp only [V, hostOps0, hostOps0_1, hostOps0_2, List.flatten_cons, List.flatten_nil, List.append_nil, List.cons_append, List.nil_append, StableHlo.after]
  rfl
theorem v23_eq : V m c main_v23 = shapeCast S1x1024 (shapeCast S1024 (arg10 m c) shapeCasts_S1x1024_S1024) shapeCasts_S1024_S1x1024 := by
  simp only [V, hostOps0, hostOps0_1, hostOps0_2, List.flatten_cons, List.flatten_nil, List.append_nil, List.cons_append, List.nil_append, StableHlo.after]
  rfl
theorem v25_eq : V m c main_v25 = shapeCast S1x1024 (shapeCast S1024 (arg11 m c) shapeCasts_S1x1024_S1024) shapeCasts_S1024_S1x1024 := by
  simp only [V, hostOps0, hostOps0_1, hostOps0_2, List.flatten_cons, List.flatten_nil, List.append_nil, List.cons_append, List.nil_append, StableHlo.after]
  rfl

theorem v17_apply (r : Fin 16384) (k : Fin 1024) : V m c main_v17 (ix2 r k) = arg0 m c (ix3 (InRef.batch r) (InRef.pos r) k) := by
  rw [v17_eq]
  refine shapeCast_apply _ _ _ _ ?_
  rw [Shape.rowMajor_val_two, Shape.rowMajor_val_three]
  show (r.val / 2048 * 2048 + r.val % 2048) * 1024 + k.val = r.val * 1024 + k.val
  omega
theorem v18_apply (k : Fin 1024) : V m c main_v18 (ix2 (0 : Fin 1) k) = arg4 m c (ix1 k) := by
  rw [v18_eq]
  pointwise
theorem v19_apply (k : Fin 1024) : V m c main_v19 (ix2 (0 : Fin 1) k) = arg5 m c (ix1 k) := by
  rw [v19_eq]
  pointwise
theorem v2_apply (k : Fin 1024) (f : Fin 2048) : V m c main_v2 (ix2 k f) = arg6 m c (ix3 (0 : Fin 1) k ⟨1536 + f.val, by omega⟩) := by
  rw [v2_eq]
  pointwise
theorem v5_apply (f : Fin 2048) : V m c main_v5 (ix2 (0 : Fin 1) f) = arg7 m c (ix2 (0 : Fin 1) ⟨1536 + f.val, by omega⟩) := by
  rw [v5_eq]
  pointwise
theorem v7_apply (k f : Fin 1024) : V m c main_v7 (ix2 k f) = arg8 m c (ix3 (0 : Fin 1) k f) := by
  rw [v7_eq]
  pointwise
theorem v21_apply (k : Fin 1024) : V m c main_v21 (ix2 (0 : Fin 1) k) = arg9 m c (ix2 (0 : Fin 1) k) := by
  rw [v21_eq]
  pointwise
theorem v23_apply (k : Fin 1024) : V m c main_v23 (ix2 (0 : Fin 1) k) = arg10 m c (ix2 (0 : Fin 1) k) := by
  rw [v23_eq]
  pointwise
theorem v25_apply (k : Fin 1024) : V m c main_v25 (ix2 (0 : Fin 1) k) = arg11 m c (ix2 (0 : Fin 1) k) := by
  rw [v25_eq]
  pointwise

/-! ## The blocks of a point -/

/-- A row of the input, by its point and its row there. -/
def row (t : Fin cfg0.N) (p : Fin 512) : Fin 16384 :=
  ⟨512 * t.val + p.val, by have h : t.val < 32 := t.isLt; omega⟩

theorem index0 (t : Fin cfg0.N) : cc0_transform_0 (grid0.coords t) 0 = t.val := by
  have h : t.val < 32 := t.isLt
  show (BitVec.ofNat 32 (grid0.coords t 0).val).toNat = t.val
  rw [show (grid0.coords t 0).val = t.val from crd_val t, BitVec.toNat_ofNat]
  omega
theorem index1 (t : Fin cfg0.N) : cc0_transform_1 (grid0.coords t) 0 = t.val := index0 t
theorem index2 (t : Fin cfg0.N) : cc0_transform_2 (grid0.coords t) 0 = t.val := index0 t
theorem index14 (t : Fin cfg0.N) : cc0_transform_14 (grid0.coords t) 0 = t.val := index0 t

theorem iblk0_apply (t : Fin cfg0.N) (p : Fin 512) (k : Fin 1024) :
    iblk m c ((0 : Fin 19) : Fin cfg0.W) t (ix2 p k) = arg0 m c (ix3 (InRef.batch (row t p)) (InRef.pos (row t p)) k) := by
  refine Eq.trans ?_ (v17_apply m c (row t p) k)
  unfold iblk
  refine congrArg (V m c main_v17) (funext fun a => Fin.ext ?_)
  match a with
  | ⟨0, _⟩ => show cc0_transform_0 (grid0.coords t) 0 * 512 + 1 * p.val = 512 * t.val + p.val; rw [index0]; omega
  | ⟨1, _⟩ => show 0 * 1024 + 1 * k.val = k.val; omega
theorem iblk1_apply (t : Fin cfg0.N) (p : Fin 512) (k : Fin 1024) :
    iblk m c ((1 : Fin 19) : Fin cfg0.W) t (ix2 p k) = arg1 m c (ix2 (row t p) k) := by
  refine Eq.trans ?_ (congrFun (V_main_arg1 m c) (ix2 (row t p) k))
  unfold iblk
  refine congrArg (V m c main_arg1) (funext fun a => Fin.ext ?_)
  match a with
  | ⟨0, _⟩ => show cc0_transform_1 (grid0.coords t) 0 * 512 + 1 * p.val = 512 * t.val + p.val; rw [index1]; omega
  | ⟨1, _⟩ => show 0 * 1024 + 1 * k.val = k.val; omega
theorem iblk2_apply (t : Fin cfg0.N) (p : Fin 512) (k : Fin 1024) :
    iblk m c ((2 : Fin 19) : Fin cfg0.W) t (ix2 p k) = arg2 m c (ix2 (row t p) k) := by
  refine Eq.trans ?_ (congrFun (V_main_arg2 m c) (ix2 (row t p) k))
  unfold iblk
  refine congrArg (V m c main_arg2) (funext fun a => Fin.ext ?_)
  match a with
  | ⟨0, _⟩ => show cc0_transform_2 (grid0.coords t) 0 * 512 + 1 * p.val = 512 * t.val + p.val; rw [index2]; omega
  | ⟨1, _⟩ => show 0 * 1024 + 1 * k.val = k.val; omega
theorem iblk4_apply (t : Fin cfg0.N) (k : Fin 1024) : iblk m c ((4 : Fin 19) : Fin cfg0.W) t (ix2 (0 : Fin 1) k) = arg4 m c (ix1 k) := by
  refine Eq.trans ?_ (v18_apply m c k)
  unfold iblk
  refine congrArg (V m c main_v18) (funext fun a => Fin.ext ?_)
  match a with
  | ⟨0, _⟩ => rfl
  | ⟨1, _⟩ => show 0 * 1024 + 1 * k.val = k.val; omega
theorem iblk5_apply (t : Fin cfg0.N) (k : Fin 1024) : iblk m c ((5 : Fin 19) : Fin cfg0.W) t (ix2 (0 : Fin 1) k) = arg5 m c (ix1 k) := by
  refine Eq.trans ?_ (v19_apply m c k)
  unfold iblk
  refine congrArg (V m c main_v19) (funext fun a => Fin.ext ?_)
  match a with
  | ⟨0, _⟩ => rfl
  | ⟨1, _⟩ => show 0 * 1024 + 1 * k.val = k.val; omega
theorem iblk9_apply (t : Fin cfg0.N) (k : Fin 1024) : iblk m c ((9 : Fin 19) : Fin cfg0.W) t (ix2 (0 : Fin 1) k) = arg9 m c (ix2 (0 : Fin 1) k) := by
  refine Eq.trans ?_ (v21_apply m c k)
  unfold iblk
  refine congrArg (V m c main_v21) (funext fun a => Fin.ext ?_)
  match a with
  | ⟨0, _⟩ => rfl
  | ⟨1, _⟩ => show 0 * 1024 + 1 * k.val = k.val; omega
theorem iblk10_apply (t : Fin cfg0.N) (k : Fin 1024) : iblk m c ((10 : Fin 19) : Fin cfg0.W) t (ix2 (0 : Fin 1) k) = arg10 m c (ix2 (0 : Fin 1) k) := by
  refine Eq.trans ?_ (v23_apply m c k)
  unfold iblk
  refine congrArg (V m c main_v23) (funext fun a => Fin.ext ?_)
  match a with
  | ⟨0, _⟩ => rfl
  | ⟨1, _⟩ => show 0 * 1024 + 1 * k.val = k.val; omega
theorem iblk11_apply (t : Fin cfg0.N) (k : Fin 1024) : iblk m c ((11 : Fin 19) : Fin cfg0.W) t (ix2 (0 : Fin 1) k) = arg11 m c (ix2 (0 : Fin 1) k) := by
  refine Eq.trans ?_ (v25_apply m c k)
  unfold iblk
  refine congrArg (V m c main_v25) (funext fun a => Fin.ext ?_)
  match a with
  | ⟨0, _⟩ => rfl
  | ⟨1, _⟩ => show 0 * 1024 + 1 * k.val = k.val; omega
theorem iblk6_apply (t : Fin cfg0.N) (k : Fin 1024) (f : Fin 2048) : iblk m c ((6 : Fin 19) : Fin cfg0.W) t (ix2 k f) = arg6 m c (ix3 (0 : Fin 1) k ⟨1536 + f.val, by omega⟩) := by
  refine Eq.trans ?_ (v2_apply m c k f)
  unfold iblk
  refine congrArg (V m c main_v2) (funext fun a => Fin.ext ?_)
  match a with
  | ⟨0, _⟩ => show 0 * 1024 + 1 * k.val = k.val; omega
  | ⟨1, _⟩ => show 0 * 2048 + 1 * f.val = f.val; omega
theorem iblk7_apply (t : Fin cfg0.N) (f : Fin 2048) : iblk m c ((7 : Fin 19) : Fin cfg0.W) t (ix2 (0 : Fin 1) f) = arg7 m c (ix2 (0 : Fin 1) ⟨1536 + f.val, by omega⟩) := by
  refine Eq.trans ?_ (v5_apply m c f)
  unfold iblk
  refine congrArg (V m c main_v5) (funext fun a => Fin.ext ?_)
  match a with
  | ⟨0, _⟩ => rfl
  | ⟨1, _⟩ => show 0 * 2048 + 1 * f.val = f.val; omega
theorem iblk8_apply (t : Fin cfg0.N) (k f : Fin 1024) : iblk m c ((8 : Fin 19) : Fin cfg0.W) t (ix2 k f) = arg8 m c (ix3 (0 : Fin 1) k f) := by
  refine Eq.trans ?_ (v7_apply m c k f)
  unfold iblk
  refine congrArg (V m c main_v7) (funext fun a => Fin.ext ?_)
  match a with
  | ⟨0, _⟩ => show 0 * 1024 + 1 * k.val = k.val; omega
  | ⟨1, _⟩ => show 0 * 1024 + 1 * f.val = f.val; omega

/-! ## The result -/

/-- The reference's result, of the launch's arrays. -/
def goal : FVec Ideal S131072x128 .f32 :=
  MixRef.out (arg0 m c) (arg1 m c) (arg2 m c) (arg4 m c) (arg5 m c) (arg6 m c) (arg7 m c) (arg8 m c) (arg9 m c) (arg10 m c) (arg11 m c)

/-- A point's block is the mixing of the arguments' rows. -/
theorem block_eq (t : Fin cfg0.N) (p : Fin 512) (f : Fin 1024) :
    mixBlock (F := Ideal) (iblk m c (0 : Fin 19) t) (iblk m c (1 : Fin 19) t) (iblk m c (2 : Fin 19) t) (iblk m c (4 : Fin 19) t) (iblk m c (5 : Fin 19) t) (iblk m c (6 : Fin 19) t) (iblk m c (7 : Fin 19) t) (iblk m c (8 : Fin 19) t) (iblk m c (9 : Fin 19) t) (iblk m c (10 : Fin 19) t) (iblk m c (11 : Fin 19) t) (ix2 p f)
      = MixRef.rowOf (arg0 m c) (arg1 m c) (arg2 m c) (arg4 m c) (arg5 m c) (arg6 m c) (arg7 m c) (arg8 m c) (arg9 m c) (arg10 m c) (arg11 m c) (row t p) f := by
  refine (mixBlock_apply _ _ _ _ _ _ _ _ _ _ _ p f).trans ?_
  unfold MixRef.rowOf
  have h0 := funext fun k => iblk0_apply m c t p k
  have h1 := funext fun k => iblk1_apply m c t p k
  have h2 := funext fun k => iblk2_apply m c t p k
  have h4 := funext fun k => iblk4_apply m c t k
  have h5 := funext fun k => iblk5_apply m c t k
  have h6 := fun k f => iblk6_apply m c t k f
  have h7 := fun f => iblk7_apply m c t f
  have h8 := funext fun k => funext fun f => iblk8_apply m c t k f
  have h9 := funext fun k => iblk9_apply m c t k
  have h10 := funext fun k => iblk10_apply m c t k
  have h11 := funext fun k => iblk11_apply m c t k
  have a6 : (fun (k f : Fin 1024) => iblk m c (6 : Fin 19) t (ix2 k (⟨f.val, by omega⟩ : Fin 2048))) = fun k f => arg6 m c (ix3 (0 : Fin 1) k ⟨1536 + f.val, by omega⟩) :=
    funext fun k => funext fun f => h6 k ⟨f.val, by omega⟩
  have b6 : (fun (k f : Fin 1024) => iblk m c (6 : Fin 19) t (ix2 k (⟨1024 + f.val, by omega⟩ : Fin 2048))) = fun k f => arg6 m c (ix3 (0 : Fin 1) k ⟨2560 + f.val, by omega⟩) :=
    funext fun k => funext fun f => (h6 k ⟨1024 + f.val, by omega⟩).trans (congrArg (fun q => arg6 m c (ix3 (0 : Fin 1) k q)) (Fin.ext (by show 1536 + (1024 + f.val) = 2560 + f.val; omega)))
  have a7 : (fun f : Fin 1024 => iblk m c (7 : Fin 19) t (ix2 (0 : Fin 1) (⟨f.val, by omega⟩ : Fin 2048))) = fun f => arg7 m c (ix2 (0 : Fin 1) ⟨1536 + f.val, by omega⟩) :=
    funext fun f => h7 ⟨f.val, by omega⟩
  have b7 : (fun f : Fin 1024 => iblk m c (7 : Fin 19) t (ix2 (0 : Fin 1) (⟨1024 + f.val, by omega⟩ : Fin 2048))) = fun f => arg7 m c (ix2 (0 : Fin 1) ⟨2560 + f.val, by omega⟩) :=
    funext fun f => (h7 ⟨1024 + f.val, by omega⟩).trans (congrArg (fun q => arg7 m c (ix2 (0 : Fin 1) q)) (Fin.ext (by show 1536 + (1024 + f.val) = 2560 + f.val; omega)))
  refine Eq.trans (congrFun (?_ : _ = MixRow.out _ _ _ _ _ _ _ _ _ _ _ _ _) f) rfl
  congr 1

/-- What a point leaves at a place of its block of the result. -/
theorem mixAt_apply (t : Fin cfg0.N) (y : Fin 4096) (l : Fin 128) (q : Fin 131072) (hq : q.val = 4096 * t.val + y.val) :
    mixAt m c t (ix2 y l) = goal m c (ix2 q l) := by
  unfold goal
  rw [MixRef.out_apply]
  have ht : t.val < 32 := t.isLt
  have e1 : row t ⟨y.val / 8, by omega⟩ = MixRef.row q := Fin.ext (by show 512 * t.val + y.val / 8 = q.val / 8; omega)
  have e2 : (⟨128 * (y.val % 8) + l.val, by omega⟩ : Fin 1024) = MixRef.col q l := Fin.ext (by show 128 * (y.val % 8) + l.val = 128 * (q.val % 8) + l.val; omega)
  rw [← e1, ← e2, ← block_eq]
  rfl

theorem flush14 (t : Fin cfg0.N) : (cfg0.win (14 : Fin 19)).flush t = true :=
  (by decide +kernel : ∀ t : Fin grid0.N, win0_14.flush t = true) t

/-- What a point writes back is its block of the reference's result. -/
theorem flushed14 (t : Fin cfg0.N) : (dats m 0 c).flushed (14 : Fin 19) t = ((cfg0.win (14 : Fin 19)).blk t).view.read (Elt Ideal) (goal m c) := by
  have ht : t.val < 32 := t.isLt
  funext y
  have hy0 : (y 0).val < 4096 := (y 0).isLt
  have hy1 : (y 1).val < 128 := (y 1).isLt
  refine Eq.trans ?_ ((mixAt_apply m c t ⟨(y 0).val, hy0⟩ ⟨(y 1).val, hy1⟩ ⟨4096 * t.val + (y 0).val, by omega⟩ rfl).trans ?_)
  · show mixAt m c t _ = _
    refine congrArg (mixAt m c t) (funext fun a => Fin.ext ?_)
    match a with
    | ⟨0, _⟩ => rfl
    | ⟨1, _⟩ => rfl
  · refine congrArg (goal m c) (funext fun a => Fin.ext ?_)
    match a with
    | ⟨0, _⟩ => show 4096 * t.val + (y 0).val = cc0_transform_14 (grid0.coords t) 0 * 4096 + 1 * (y 0).val; rw [index14]; omega
    | ⟨1, _⟩ => show (y 1).val = 0 * 128 + 1 * (y 1).val; omega

/-- The point and the place in its block of an index of the result. -/
def pointOf (i : S131072x128.Idx) : Fin cfg0.N := ⟨(i 0).val / 4096, by have h : (i 0).val < 131072 := (i 0).isLt; show _ < 32; omega⟩
def placeOf (i : S131072x128.Idx) : S4096x128.Idx :=
  ix2 (⟨(i 0).val % 4096, by omega⟩ : Fin 4096) (⟨(i 1).val, (i 1).isLt⟩ : Fin 128)

theorem cover14 (i : S131072x128.Idx) : ∃ t : Fin cfg0.N, (cfg0.win (14 : Fin 19)).flush t = true ∧ i ∈ ((cfg0.win (14 : Fin 19)).blk t).view.set := by
  refine ⟨pointOf i, flush14 _, ?_⟩
  have hy : ((cfg0.win (14 : Fin 19)).blk (pointOf i)).view.emb (placeOf i) = i := by
    funext a
    refine Fin.ext ?_
    match a with
    | ⟨0, _⟩ =>
      show cc0_transform_14 (grid0.coords (pointOf i)) 0 * 4096 + 1 * ((i 0).val % 4096) = (i 0).val
      rw [index14]; show (i 0).val / 4096 * 4096 + _ = _; omega
    | ⟨1, _⟩ => show 0 * 128 + 1 * (i 1).val = (i 1).val; omega
  exact Set.mem_of_eq_of_mem hy.symm (View.emb_mem_set _ (placeOf i))

/-- The result array ends as the reference's. -/
theorem final : (dats m 0 c).arrAt (14 : Fin 19) cfg0.N = goal m c :=
  (dats m 0 c).arrAt_eq_of_cover (14 : Fin 19) (goal m c) (fun t _ => flushed14 m c t) cover14

/-- The idealised mixing ends, its result the reference's and its arguments unchanged. -/
theorem run_value (ρ : Dev nD → PrngReg) : θ_run defs (onTc (τ := τ) (main (F := Ideal))) ⟨m, fun _ => 0, ρ⟩ (fun r =>
      (∀ c : Dev nD, r.2.mem ((c.tc : Thread nD τ).loc main_v26_0) = goal m c)
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  θ_run_and ((θ_run defs _ _).mono (fun _ h c => ((h.1 c).1 (14 : Fin 19)).trans (final m c)) (run_quiescent m ρ))
    ((θ_run defs _ _).mono (fun _ h => h.1) (frame m ρ))

end Cert.Kernel3Ideal.Hand

end
-- ==== Proof.IdealConvBody.lean ====
module

public import proofs.«01_k».proof.Proof.Gen.Kernel4Ideal.Skeleton
public import proofs.«01_k».proof.Proof.Gen.Kernel4Ideal.Frame
public import Idealize.ShloMosaic.Lib.Pipeline.FrameBody
public import Idealize.ShloMosaic.Lib.Pipeline.TableIdle
public import Idealize.ShloMosaic.Lib.Writes
public import Idealize.ShloMosaic.Lib.Ring
public import Idealize.ShloMosaic.Lib.Exec
public import Idealize.ShloMosaic.Lib.Affine
public import Idealize.ShloMosaic.Lib.Tactic

/-! # One grid point of the convolution call

`runBody` packs what the body stores into its output block with the proof that the body, run on any contents of its two
scratch buffers, leaves it.  The loop over the two halves of the block is run trip by trip. -/

@[expose] public section

set_option maxRecDepth 16384
set_option Elab.async false

noncomputable section

namespace Cert.Kernel4Ideal.Hand

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The trips of a counted loop of two, in sequence. -/
theorem from_two {E : Type → Type} {α : Type} {n : ℕ} (h : n = 2) (body : Fin n → Unit → Prog E Unit) (K : Unit → Prog E α) :
    (Scf.forFrom body (List.finRange n) ⟨⟩ >>= K) = (body ⟨0, by omega⟩ ⟨⟩ >>= fun a => body ⟨1, by omega⟩ a >>= K) := by
  subst h
  show (body 0 ⟨⟩ >>= fun a => body 1 a >>= fun a => Prog.ret a) >>= K = _
  simp only [Prog.bind_assoc]
  rfl

/-- A counted loop of two trips that carries nothing, with what comes after it, is its two trips in sequence. -/
theorem two_trips {E : Type → Type} {α : Type} (l : Scf.Loop 32) (hok : l.OK) (h : l.trips = 2)
    (body : Fin l.trips → Unit → Prog E Unit) (K : Unit → Prog E α) :
    (l.for hok ⟨⟩ body >>= K) = (body ⟨0, by omega⟩ ⟨⟩ >>= fun a => body ⟨1, by omega⟩ a >>= K) := by
  unfold Scf.Loop.for
  rw [Scf.for_eq]
  exact from_two h body K

variable (c : Dev nD) (i : grid0.Coords) (arg2 : Memref sig .tc .vmem S1x16x512 .bf16) (harg2 : arg2.IsWhole) (arg3 : Memref sig .tc .vmem S1x512x512 .bf16) (harg3 : arg3.IsWhole) (arg4 : Memref sig .tc .vmem S1x16x512 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1x512x1024 .bf16) (harg10 : arg10.IsWhole) (arg11 : Memref sig .tc .vmem S8x544x512 .f32) (harg11 : arg11.IsWhole) (arg12 : Memref sig .tc .vmem S512x512 .bf16) (harg12 : arg12.IsWhole)
  (x0 : Vec F S1x16x512 .bf16) (x1 : Vec F S1x512x512 .bf16) (x2 : Vec F S1x16x512 .bf16) (x3 : Vec F S31x512 .f32) (x4 : Vec F S1x512 .f32) (x5 : Vec F S1x512 .f32) (x6 : Vec F S1x512 .f32) (x7 : Vec F S512x1024 .bf16)

/-- The staging buffers of the eight input windows at their blocks. -/
abbrev held : sProp 𝕄 :=
  iprop((arg2.view.loc (c : Thread nD τ) ↦[arg2.view.set]{fullShare} arg2.view.rep x0)
    ∗ (arg3.view.loc (c : Thread nD τ) ↦[arg3.view.set]{fullShare} arg3.view.rep x1)
    ∗ (arg4.view.loc (c : Thread nD τ) ↦[arg4.view.set]{fullShare} arg4.view.rep x2)
    ∗ (arg5.view.loc (c : Thread nD τ) ↦[arg5.view.set]{fullShare} arg5.view.rep x3)
    ∗ (arg6.view.loc (c : Thread nD τ) ↦[arg6.view.set]{fullShare} arg6.view.rep x4)
    ∗ (arg7.view.loc (c : Thread nD τ) ↦[arg7.view.set]{fullShare} arg7.view.rep x5)
    ∗ (arg8.view.loc (c : Thread nD τ) ↦[arg8.view.set]{fullShare} arg8.view.rep x6)
    ∗ (arg9.view.loc (c : Thread nD τ) ↦[arg9.view.set]{fullShare} arg9.view.rep x7))

set_option backward.proofsInPublic true in
set_option maxHeartbeats 16000000 in
/-- The body at one point, from scratch contents `f10` and `f11`. -/
noncomputable def runBody (f10 : arg11.view.ty.Contents (Elt F)) (f11 : arg12.view.ty.Contents (Elt F)) :
    { o8 : List (View.Piece (Elt F) S1x512x1024 .bf16) //
      ∀ K : PUnit → sProp 𝕄,
        iprop(held c arg2 arg3 arg4 arg5 arg6 arg7 arg8 arg9 x0 x1 x2 x3 x4 x5 x6 x7
          ∗ (∃ d, owns (c : Thread nD τ) arg10 fullShare d)
          ∗ (arg11.view.loc (c : Thread nD τ) ↦[arg11.view.set]{fullShare} f10)
          ∗ (arg12.view.loc (c : Thread nD τ) ↦[arg12.view.set]{fullShare} f11)
          ∗ (iprop(held c arg2 arg3 arg4 arg5 arg6 arg7 arg8 arg9 x0 x1 x2 x3 x4 x5 x6 x7
              ∗ (∃ f, arg10.view.loc (c : Thread nD τ) ↦[arg10.view.set]{fullShare} arg10.view.writes (Elt F) f o8)
              ∗ (∃ f, arg11.view.loc (c : Thread nD τ) ↦[arg11.view.set]{fullShare} f)
              ∗ (∃ f, arg12.view.loc (c : Thread nD τ) ↦[arg12.view.set]{fullShare} f)) -∗ K ⟨⟩))
          ⊢ wp frame (wpE (defs₀ (F := F)) Variants.none c none) Set.univ (cc0_conv_branch i arg2 harg2 arg3 harg3 arg4 harg4 arg5 harg5 arg6 harg6 arg7 harg7 arg8 harg8 arg9 harg9 arg10 harg10 arg11 harg11 arg12 harg12) K } :=
  ⟨_, fun K => by
    unfold owns held
    rw [cc0_conv_branch_eq_skeleton]; unfold cc0_conv_branch_skel
    simp only [two_trips k0_t1_loop k0_t1_ok (by decide)]
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    iintro ⟨⟨H0, H1, H2, H3, H4, H5, H6, H7⟩, ⟨%d8, %f8, -, H8⟩, H9, H10, Hk⟩
    sl_exec
    sl_step
    iapply Hk
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    iexists _; iexact H10⟩

end Cert.Kernel4Ideal.Hand
-- ==== Proof.IdealConvStep.lean ====
module

public import proofs.«01_k».proof.Proof.IdealConvBody
public import Idealize.ShloMosaic.Lib.VecWindow
public import Idealize.ShloMosaic.Lib.ValueLayout
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

/-! # One grid point of the convolution call in closed form

The body first lays out the block's 512 rows with sixteen neighbours on either side (`extRow`), and beside them seven copies,
each moved up by one more row; so every tap of the convolution reads aligned rows.  `Fills` says which rows of the scratch
buffer are laid out so far and that they hold what they should.  `convBlock` is the point's result. -/

@[expose] public section

set_option maxRecDepth 16384
set_option Elab.async false

noncomputable section

namespace Cert.Kernel4Ideal.Hand

open Cert.Kernel4Ideal Cert.Kernel4Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Row `n` of the block laid out with sixteen neighbouring rows before and after it. -/
def extRow (i : grid0.Coords) (x0 : Vec F S1x16x512 .bf16) (x1 : Vec F S1x512x512 .bf16) (x2 : Vec F S1x16x512 .bf16) (n : ℕ) (q : Fin 512) : Elt F .f32 :=
  if h : n < 16 then k0_pay22 i x0 (ix3 (0 : Fin 1) (⟨n, h⟩ : Fin 16) q)
  else if h' : n < 528 then k0_pay23 x1 (ix3 (0 : Fin 1) (⟨n - 16, by omega⟩ : Fin 512) q)
  else k0_pay24 i x2 (ix3 (0 : Fin 1) (⟨min (n - 528) 15, by omega⟩ : Fin 16) q)

/-- The 256 rows from row `n` of the laid out block. -/
def rowsFrom (i : grid0.Coords) (x0 : Vec F S1x16x512 .bf16) (x1 : Vec F S1x512x512 .bf16) (x2 : Vec F S1x16x512 .bf16) (n : ℕ) : Vec F S1x256x512 .f32 :=
  fun x => extRow i x0 x1 x2 (n + (x 1).val) (x 2)

/-- Row `j` of the 31 rows of taps. -/
def tapRow (x3 : Vec F S31x512 .f32) (j : ℕ) : Vec F S1x512 .f32 :=
  fun x => x3 (ix2 (⟨min j 30, by omega⟩ : Fin 31) (x 1 : Fin 512))

/-- The activations of 256 rows, from the rows `L j` and the taps `W j` of each of the 31 taps. -/
def chunkOf (L : ℕ → Vec F S1x256x512 .f32) (W : ℕ → Vec F S1x512 .f32) (cb g b : Vec F S1x512 .f32) : FVec F S256x512 .bf16 :=
  have a3 : FVec F S256x512 .f32 := k0_pay7 (k0_pay2 cb) (W 0) (L 0) (W 1) (L 1) (W 2) (L 2)
  have a8 : FVec F S256x512 .f32 := k0_pay9 a3 (k0_pay8 (W 3)) (L 3) (W 4) (L 4) (W 5) (L 5) (W 6) (L 6) (W 7) (L 7)
  have a12 : FVec F S256x512 .f32 := k0_pay10 a8  (W 8) (L 8) (W 9) (L 9) (W 10) (L 10) (W 11) (L 11)
  have a16 : FVec F S256x512 .f32 := k0_pay12 a12 (k0_pay11 (W 12)) (L 12) (W 13) (L 13) (W 14) (L 14) (W 15) (L 15)
  have a20 : FVec F S256x512 .f32 := k0_pay14 a16 (k0_pay13 (W 16)) (L 16) (W 17) (L 17) (W 18) (L 18) (W 19) (L 19)
  have a25 : FVec F S256x512 .f32 := k0_pay17 a20 (k0_pay15 (L 20)) (k0_pay16 (W 20)) (W 21) (L 21) (W 22) (L 22) (W 23) (L 23) (W 24) (L 24)
  have a29 : FVec F S256x512 .f32 := k0_pay18 a25  (W 25) (L 25) (W 26) (L 26) (W 27) (L 27) (W 28) (L 28)
  k0_pay20 (k0_pay3 g) (k0_pay4 b) a29 (k0_pay19 (W 29)) (L 29) (W 30) (L 30)

/-- The activations of the block's half `k`. -/
def chunk (i : grid0.Coords) (x0 : Vec F S1x16x512 .bf16) (x1 : Vec F S1x512x512 .bf16) (x2 : Vec F S1x16x512 .bf16) (x3 : Vec F S31x512 .f32) (x4 x5 x6 : Vec F S1x512 .f32) (k : ℕ) : FVec F S256x512 .bf16 :=
  chunkOf (fun j => rowsFrom i x0 x1 x2 (256 * k + (j + 1))) (tapRow x3) x4 x5 x6

/-- The activations of the block's 512 rows. -/
def act (i : grid0.Coords) (x0 : Vec F S1x16x512 .bf16) (x1 : Vec F S1x512x512 .bf16) (x2 : Vec F S1x16x512 .bf16) (x3 : Vec F S31x512 .f32) (x4 x5 x6 : Vec F S1x512 .f32) : Vec F S512x512 .bf16 :=
  fun y => chunk i x0 x1 x2 x3 x4 x5 x6 ((y 0).val / 256) (ix2 (⟨(y 0).val % 256, Nat.mod_lt _ (by omega)⟩ : Fin 256) (y 1 : Fin 512))

/-- The point's result: the activations times the output projection. -/
def convBlock (i : grid0.Coords) (x0 : Vec F S1x16x512 .bf16) (x1 : Vec F S1x512x512 .bf16) (x2 : Vec F S1x16x512 .bf16) (x3 : Vec F S31x512 .f32) (x4 x5 x6 : Vec F S1x512 .f32) (x7 : Vec F S512x1024 .bf16) : Vec F S1x512x1024 .bf16 :=
  k0_pay6 (act i x0 x1 x2 x3 x4 x5 x6) x7

/-- What the scratch buffer holds once laid out: copy `r` is the laid out block moved up by `r` rows. -/
def slab (i : grid0.Coords) (x0 : Vec F S1x16x512 .bf16) (x1 : Vec F S1x512x512 .bf16) (x2 : Vec F S1x16x512 .bf16) : S8x544x512.Idx → Elt F .f32 :=
  fun y => extRow i x0 x1 x2 ((y 0).val + (y 1).val) (y 2)

/-- The writes `L` lay out the first `k` copies. -/
structure Fills (i : grid0.Coords) (x0 : Vec F S1x16x512 .bf16) (x1 : Vec F S1x512x512 .bf16) (x2 : Vec F S1x16x512 .bf16) (L : List (View.Piece (Elt F) S8x544x512 .f32)) (k : ℕ) : Prop where
  agree : ∀ p ∈ L, ∀ x : p.1.shape.Idx, p.2 x = slab i x0 x1 x2 (p.1.emb x)
  cover : ∀ y : S8x544x512.Idx, (y 0).val < k → ((y 0).val = 0 ∨ (y 1).val < 536) → ∃ p ∈ L, y ∈ p.1.set

/-! The copies' payloads are the loaded rows themselves. -/

theorem pay1_eq (v : Vec F S1x536x512 .f32) : k0_pay1 v = v := by unfold k0_pay1; exact shapeCast_shapeCast v _ _
theorem pay25_eq (v : Vec F S1x536x512 .f32) : k0_pay25 v = v := by unfold k0_pay25; exact shapeCast_shapeCast v _ _
theorem pay26_eq (v : Vec F S1x536x512 .f32) : k0_pay26 v = v := by unfold k0_pay26; exact shapeCast_shapeCast v _ _
theorem pay27_eq (v : Vec F S1x536x512 .f32) : k0_pay27 v = v := by unfold k0_pay27; exact shapeCast_shapeCast v _ _
theorem pay28_eq (v : Vec F S1x536x512 .f32) : k0_pay28 v = v := by unfold k0_pay28; exact shapeCast_shapeCast v _ _
theorem pay29_eq (v : Vec F S1x536x512 .f32) : k0_pay29 v = v := by unfold k0_pay29; exact shapeCast_shapeCast v _ _
theorem pay30_eq (v : Vec F S1x536x512 .f32) : k0_pay30 v = v := by unfold k0_pay30; exact shapeCast_shapeCast v _ _

section
variable (i : grid0.Coords) (x0 : Vec F S1x16x512 .bf16) (x1 : Vec F S1x512x512 .bf16) (x2 : Vec F S1x16x512 .bf16)

/-- A load inside the laid out copies reads the laid out rows. -/
theorem load_rows {κ : Kind} {sp : Space} {sig' : RefSig} (v : View sig' κ sp S8x544x512 .f32) (L : List (View.Piece (Elt F) S8x544x512 .f32)) (k : ℕ) (hL : Fills i x0 x1 x2 L k)
    (r o n : ℕ) (h : ∀ a, (![r, o, 0] : Fin 3 → ℕ) a + (![1, n, 512] : Fin 3 → ℕ) a ≤ S8x544x512.size a) (hr : r < k) (ho : r = 0 ∨ o + n ≤ 536) (x : (Rect.unit (s := S8x544x512) ![r, o, 0] ![1, n, 512] h).shape.Idx) :
    v.readCov L (Rect.unit (s := S8x544x512) ![r, o, 0] ![1, n, 512] h).toLoadRect x = extRow i x0 x1 x2 (r + o + (x 1).val) (⟨(x 2).val, (x 2).isLt⟩ : Fin 512) := by
  have e0 : ((Rect.unit (s := S8x544x512) ![r, o, 0] ![1, n, 512] h).toLoadRect.idx x 0).val = r + 1 * (x 0).val := rfl
  have e1 : ((Rect.unit (s := S8x544x512) ![r, o, 0] ![1, n, 512] h).toLoadRect.idx x 1).val = o + 1 * (x 1).val := rfl
  have e2 : ((Rect.unit (s := S8x544x512) ![r, o, 0] ![1, n, 512] h).toLoadRect.idx x 2).val = 0 + 1 * (x 2).val := rfl
  have b0 : (x 0).val < 1 := (x 0).isLt
  have b1 : (x 1).val < n := (x 1).isLt
  unfold View.readCov
  rw [View.readAt_apply, View.read_writes_apply_of_pieces v v.junk (slab i x0 x1 x2) L hL.agree _ (hL.cover _ (by rw [e0]; omega) (by rw [e0, e1]; omega))]
  unfold slab
  rw [e0, e1]
  congr 1
  · omega
  · exact Fin.ext (by rw [e2]; show 0 + 1 * (x 2).val = (x 2).val; omega)

/-- The three stores of the block and its neighbours lay out the first copy. -/
theorem fills_first (i0 i1 i2) : Fills i x0 x1 x2
    [⟨Rect.unit (s := S8x544x512) ![0, 528, 0] S1x16x512.size i0, k0_pay24 i x2⟩, ⟨Rect.unit (s := S8x544x512) ![0, 16, 0] S1x512x512.size i1, k0_pay23 x1⟩,
     ⟨Rect.unit (s := S8x544x512) ![0, 0, 0] S1x16x512.size i2, k0_pay22 i x0⟩] 1 where
  agree := by
    simp only [List.forall_mem_cons]
    refine ⟨fun x => ?_, fun x => ?_, fun x => ?_, fun _ h => absurd h List.not_mem_nil⟩
    · have b0 : (x 0).val < 1 := (x 0).isLt
      have b1 : (x 1).val < 16 := (x 1).isLt
      show k0_pay24 i x2 x = extRow i x0 x1 x2 ((0 + 1 * (x 0).val) + (528 + 1 * (x 1).val)) _
      unfold extRow
      rw [dif_neg (by omega), dif_neg (by omega)]
      congr 1
      funext a
      match a with
      | ⟨0, _⟩ => exact Fin.ext (by show (x 0).val = 0; omega)
      | ⟨1, _⟩ => exact Fin.ext (by show (x 1).val = min (0 + 1 * (x 0).val + (528 + 1 * (x 1).val) - 528) 15; omega)
      | ⟨2, _⟩ => exact Fin.ext (by show (x 2).val = 0 + 1 * (x 2).val; omega)
    · have b0 : (x 0).val < 1 := (x 0).isLt
      have b1 : (x 1).val < 512 := (x 1).isLt
      show k0_pay23 x1 x = extRow i x0 x1 x2 ((0 + 1 * (x 0).val) + (16 + 1 * (x 1).val)) _
      unfold extRow
      rw [dif_neg (by omega), dif_pos (by omega)]
      congr 1
      funext a
      match a with
      | ⟨0, _⟩ => exact Fin.ext (by show (x 0).val = 0; omega)
      | ⟨1, _⟩ => exact Fin.ext (by show (x 1).val = 0 + 1 * (x 0).val + (16 + 1 * (x 1).val) - 16; omega)
      | ⟨2, _⟩ => exact Fin.ext (by show (x 2).val = 0 + 1 * (x 2).val; omega)
    · have b0 : (x 0).val < 1 := (x 0).isLt
      have b1 : (x 1).val < 16 := (x 1).isLt
      show k0_pay22 i x0 x = extRow i x0 x1 x2 ((0 + 1 * (x 0).val) + (0 + 1 * (x 1).val)) _
      unfold extRow
      rw [dif_pos (by omega)]
      congr 1
      funext a
      match a with
      | ⟨0, _⟩ => exact Fin.ext (by show (x 0).val = 0; omega)
      | ⟨1, _⟩ => exact Fin.ext (by show (x 1).val = 0 + 1 * (x 0).val + (0 + 1 * (x 1).val); omega)
      | ⟨2, _⟩ => exact Fin.ext (by show (x 2).val = 0 + 1 * (x 2).val; omega)
  cover := by
    intro y hy _
    have h1 : (y 1).val < 544 := (y 1).isLt
    have h2 : (y 2).val < 512 := (y 2).isLt
    simp only [List.exists_mem_cons_iff, LoadRect.mem_set]
    rcases (by omega : (y 1).val < 16 ∨ (16 ≤ (y 1).val ∧ (y 1).val < 528) ∨ 528 ≤ (y 1).val) with h | h | h
    · refine .inr (.inr (.inl fun a => ?_))
      match a with
      | ⟨0, _⟩ => exact ⟨0, by show 0 < 1; omega, by show (y 0).val = 0 + 1 * 0; omega⟩
      | ⟨1, _⟩ => exact ⟨(y 1).val, h, by show (y 1).val = 0 + 1 * (y 1).val; omega⟩
      | ⟨2, _⟩ => exact ⟨(y 2).val, h2, by show (y 2).val = 0 + 1 * (y 2).val; omega⟩
    · refine .inr (.inl fun a => ?_)
      match a with
      | ⟨0, _⟩ => exact ⟨0, by show 0 < 1; omega, by show (y 0).val = 0 + 1 * 0; omega⟩
      | ⟨1, _⟩ => exact ⟨(y 1).val - 16, by show (y 1).val - 16 < 512; omega, by show (y 1).val = 16 + 1 * ((y 1).val - 16); omega⟩
      | ⟨2, _⟩ => exact ⟨(y 2).val, h2, by show (y 2).val = 0 + 1 * (y 2).val; omega⟩
    · refine .inl fun a => ?_
      match a with
      | ⟨0, _⟩ => exact ⟨0, by show 0 < 1; omega, by show (y 0).val = 0 + 1 * 0; omega⟩
      | ⟨1, _⟩ => exact ⟨(y 1).val - 528, by show (y 1).val - 528 < 16; omega, by show (y 1).val = 528 + 1 * ((y 1).val - 528); omega⟩
      | ⟨2, _⟩ => exact ⟨(y 2).val, h2, by show (y 2).val = 0 + 1 * (y 2).val; omega⟩

/-- Storing the 536 rows read from row `k` of the first copy lays out copy `k`. -/
theorem fills_copy (arg11 : Memref sig .tc .vmem S8x544x512 .f32) {L : List (View.Piece (Elt F) S8x544x512 .f32)} (k : ℕ) (hk : 0 < k) (hk' : k < 8)
    (i0 : ∀ a, (![k, 0, 0] : Fin 3 → ℕ) a + (![1, 536, 512] : Fin 3 → ℕ) a ≤ S8x544x512.size a) (i1 : ∀ a, (![0, k, 0] : Fin 3 → ℕ) a + (![1, 536, 512] : Fin 3 → ℕ) a ≤ S8x544x512.size a) (h : Fills i x0 x1 x2 L k) :
    Fills i x0 x1 x2 (⟨Rect.unit (s := S8x544x512) ![k, 0, 0] ![1, 536, 512] i0, arg11.view.readCov L (Rect.unit (s := S8x544x512) ![0, k, 0] ![1, 536, 512] i1).toLoadRect⟩ :: L) (k + 1) where
  agree := by
    simp only [List.forall_mem_cons]
    refine ⟨fun x => ?_, h.agree⟩
    have b0 : (x 0).val < 1 := (x 0).isLt
    refine (load_rows i x0 x1 x2 arg11.view L k h 0 k 536 i1 hk (.inl rfl) x).trans ?_
    show _ = extRow i x0 x1 x2 ((k + 1 * (x 0).val) + (0 + 1 * (x 1).val)) _
    congr 1
    · omega
    · exact Fin.ext (by show (x 2).val = 0 + 1 * (x 2).val; omega)
  cover := by
    intro y hy hy'
    have h2 : (y 2).val < 512 := (y 2).isLt
    simp only [List.exists_mem_cons_iff]
    rcases (by omega : (y 0).val < k ∨ (y 0).val = k) with hk0 | hk0
    · exact .inr (h.cover y hk0 hy')
    · refine .inl ?_
      rw [LoadRect.mem_set]
      intro a
      match a with
      | ⟨0, _⟩ => exact ⟨0, by show 0 < 1; omega, by show (y 0).val = k + 1 * 0; omega⟩
      | ⟨1, _⟩ => exact ⟨(y 1).val, by show (y 1).val < 536; omega, by show (y 1).val = 0 + 1 * (y 1).val; omega⟩
      | ⟨2, _⟩ => exact ⟨(y 2).val, h2, by show (y 2).val = 0 + 1 * (y 2).val; omega⟩

end

/-- A load of a row of taps reads the row. -/
theorem load_tap (a : Memref sig .tc .vmem S31x512 .f32) (x : Vec F S31x512 .f32) (j : ℕ) (h : ∀ b, (![j, 0] : Fin 2 → ℕ) b + (![1, 512] : Fin 2 → ℕ) b ≤ S31x512.size b) :
    View.readAt (Elt F) a.view (Rect.unit (s := S31x512) ![j, 0] ![1, 512] h).toLoadRect (a.view.rep x) = tapRow x j := by
  have hj : j + 1 ≤ 31 := h 0
  rw [View.readAt_rep]
  funext y
  have b0 : (y 0).val < 1 := (y 0).isLt
  unfold tapRow
  show x _ = x _
  congr 1
  funext b
  match b with
  | ⟨0, _⟩ => exact Fin.ext (by show j + 1 * (y 0).val = min j 30; omega)
  | ⟨1, _⟩ => exact Fin.ext (by show 0 + 1 * (y 1).val = (y 1).val; omega)

theorem whole_S1x512 (a : Memref sig .tc .vmem S1x512 .f32) (x : Vec F S1x512 .f32) :
    View.readAt (Elt F) a.view (Rect.unit ![0, 0] ![1, 512] inb_S1x512_S1x512_0_0).toLoadRect (a.view.rep x) = x :=
  View.readAt_rep_full a.view x _

theorem whole_S512x1024 (a : Memref sig .tc .vmem S512x1024 .bf16) (x : Vec F S512x1024 .bf16) :
    View.readAt (Elt F) a.view (Rect.unit ![0, 0] ![512, 1024] inb_S512x1024_S512x1024_0_0).toLoadRect (a.view.rep x) = x :=
  View.readAt_rep_full a.view x _

theorem whole_S1x16x512 (a : Memref sig .tc .vmem S1x16x512 .bf16) (x : Vec F S1x16x512 .bf16) :
    View.readAt (Elt F) a.view (Rect.unit ![0, 0, 0] ![1, 16, 512] inb_S1x16x512_S1x16x512_0_0_0).toLoadRect (a.view.rep x) = x :=
  View.readAt_rep_full a.view x _

theorem whole_S1x512x512 (a : Memref sig .tc .vmem S1x512x512 .bf16) (x : Vec F S1x512x512 .bf16) :
    View.readAt (Elt F) a.view (Rect.unit ![0, 0, 0] ![1, 512, 512] inb_S1x512x512_S1x512x512_0_0_0).toLoadRect (a.view.rep x) = x :=
  View.readAt_rep_full a.view x _

/-- Contents written over anything, as a held buffer. -/
theorem owns_of_writes {sp : Space} {s : Shape} {e : EltTy} (c : Dev nD) (a : Memref sig .tc sp s e) (G : s.Idx → Elt F e)
    (L : List (View.Piece (Elt F) s e)) (h : ∀ f, a.view.read (Elt F) (a.view.writes (Elt F) f L) = G) :
    iprop(∃ f, a.view.loc (c : Thread nD τ) ↦[a.view.set]{fullShare} a.view.writes (Elt F) f L) ⊢ (owns (c : Thread nD τ) a fullShare G : sProp 𝕄) := by
  unfold owns
  iintro ⟨%f, H⟩
  iexists _; isplitr
  · ipureintro; exact h f
  iexact H

section
variable (c : Dev nD) (i : grid0.Coords) (arg2 : Memref sig .tc .vmem S1x16x512 .bf16) (harg2 : arg2.IsWhole) (arg3 : Memref sig .tc .vmem S1x512x512 .bf16) (harg3 : arg3.IsWhole) (arg4 : Memref sig .tc .vmem S1x16x512 .bf16) (harg4 : arg4.IsWhole) (arg5 : Memref sig .tc .vmem S31x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1x512x1024 .bf16) (harg10 : arg10.IsWhole) (arg11 : Memref sig .tc .vmem S8x544x512 .f32) (harg11 : arg11.IsWhole) (arg12 : Memref sig .tc .vmem S512x512 .bf16) (harg12 : arg12.IsWhole)
  (x0 : Vec F S1x16x512 .bf16) (x1 : Vec F S1x512x512 .bf16) (x2 : Vec F S1x16x512 .bf16) (x3 : Vec F S31x512 .f32) (x4 : Vec F S1x512 .f32) (x5 : Vec F S1x512 .f32) (x6 : Vec F S1x512 .f32) (x7 : Vec F S512x1024 .bf16)

/-- After the stores before the loop all eight copies are laid out. -/
theorem fills_all : Fills i x0 x1 x2 (runBody.sl.H9_10 i arg2 arg3 arg4 arg11 x0 x1 x2) 8 := by
  have h3 : Fills i x0 x1 x2 (runBody.sl.H9_3 i arg2 arg3 arg4 x0 x1 x2) 1 := by
    unfold runBody.sl.H9_3
    rw [show View.readAt (Elt F) arg4.view (Rect.unit ![0, 0, 0] S1x16x512.size inb_S1x16x512_S1x16x512_0_0_0).toLoadRect (arg4.view.rep x2) = x2 from whole_S1x16x512 arg4 x2,
      show View.readAt (Elt F) arg3.view (Rect.unit ![0, 0, 0] S1x512x512.size inb_S1x512x512_S1x512x512_0_0_0).toLoadRect (arg3.view.rep x1) = x1 from whole_S1x512x512 arg3 x1,
      show View.readAt (Elt F) arg2.view (Rect.unit ![0, 0, 0] S1x16x512.size inb_S1x16x512_S1x16x512_0_0_0).toLoadRect (arg2.view.rep x0) = x0 from whole_S1x16x512 arg2 x0]
    exact fills_first i x0 x1 x2 _ _ _
  have h4 : Fills i x0 x1 x2 (runBody.sl.H9_4 i arg2 arg3 arg4 arg11 x0 x1 x2) 2 := by
    unfold runBody.sl.H9_4
    simp only [runBody.sl.r, runBody.sl.r_1, pay1_eq, pay25_eq, pay26_eq, pay27_eq, pay28_eq, pay29_eq, pay30_eq]
    exact fills_copy i x0 x1 x2 arg11 1 (by omega) (by omega) _ _ h3
  have h5 : Fills i x0 x1 x2 (runBody.sl.H9_5 i arg2 arg3 arg4 arg11 x0 x1 x2) 3 := by
    unfold runBody.sl.H9_5
    simp only [runBody.sl.r, runBody.sl.r_1, pay1_eq, pay25_eq, pay26_eq, pay27_eq, pay28_eq, pay29_eq, pay30_eq]
    exact fills_copy i x0 x1 x2 arg11 2 (by omega) (by omega) _ _ h4
  have h6 : Fills i x0 x1 x2 (runBody.sl.H9_6 i arg2 arg3 arg4 arg11 x0 x1 x2) 4 := by
    unfold runBody.sl.H9_6
    simp only [runBody.sl.r, runBody.sl.r_1, pay1_eq, pay25_eq, pay26_eq, pay27_eq, pay28_eq, pay29_eq, pay30_eq]
    exact fills_copy i x0 x1 x2 arg11 3 (by omega) (by omega) _ _ h5
  have h7 : Fills i x0 x1 x2 (runBody.sl.H9_7 i arg2 arg3 arg4 arg11 x0 x1 x2) 5 := by
    unfold runBody.sl.H9_7
    simp only [runBody.sl.r, runBody.sl.r_1, pay1_eq, pay25_eq, pay26_eq, pay27_eq, pay28_eq, pay29_eq, pay30_eq]
    exact fills_copy i x0 x1 x2 arg11 4 (by omega) (by omega) _ _ h6
  have h8 : Fills i x0 x1 x2 (runBody.sl.H9_8 i arg2 arg3 arg4 arg11 x0 x1 x2) 6 := by
    unfold runBody.sl.H9_8
    simp only [runBody.sl.r, runBody.sl.r_1, pay1_eq, pay25_eq, pay26_eq, pay27_eq, pay28_eq, pay29_eq, pay30_eq]
    exact fills_copy i x0 x1 x2 arg11 5 (by omega) (by omega) _ _ h7
  have h9 : Fills i x0 x1 x2 (runBody.sl.H9_9 i arg2 arg3 arg4 arg11 x0 x1 x2) 7 := by
    unfold runBody.sl.H9_9
    simp only [runBody.sl.r, runBody.sl.r_1, pay1_eq, pay25_eq, pay26_eq, pay27_eq, pay28_eq, pay29_eq, pay30_eq]
    exact fills_copy i x0 x1 x2 arg11 6 (by omega) (by omega) _ _ h8
  have h10 : Fills i x0 x1 x2 (runBody.sl.H9_10 i arg2 arg3 arg4 arg11 x0 x1 x2) 8 := by
    unfold runBody.sl.H9_10
    simp only [runBody.sl.r, runBody.sl.r_1, pay1_eq, pay25_eq, pay26_eq, pay27_eq, pay28_eq, pay29_eq, pay30_eq]
    exact fills_copy i x0 x1 x2 arg11 7 (by omega) (by omega) _ _ h9
  exact h10

/-- A tap's load reads 256 laid out rows. -/
theorem load_chunk (r o : ℕ) (h : ∀ a, (![r, o, 0] : Fin 3 → ℕ) a + (![1, 256, 512] : Fin 3 → ℕ) a ≤ S8x544x512.size a) (hr : r < 8) (ho : o + 256 ≤ 536) :
    arg11.view.readCov (runBody.sl.H9_10 i arg2 arg3 arg4 arg11 x0 x1 x2) (Rect.unit (s := S8x544x512) ![r, o, 0] ![1, 256, 512] h).toLoadRect = rowsFrom i x0 x1 x2 (r + o) :=
  funext fun x => load_rows i x0 x1 x2 arg11.view _ 8 (fills_all i arg2 arg3 arg4 arg11 x0 x1 x2) r o 256 h hr (.inr ho) x

set_option maxHeartbeats 4000000 in
/-- The first trip's activations. -/
theorem trip_0 : runBody.sl.r_15 i arg2 arg3 arg4 arg5 arg6 arg7 arg8 arg11 x0 x1 x2 x3 x4 x5 x6 = chunk i x0 x1 x2 x3 x4 x5 x6 0 := by
  unfold chunk chunkOf
  simp only [runBody.sl.r_2, runBody.sl.r_3, runBody.sl.r_4, runBody.sl.r_5, runBody.sl.r_6, runBody.sl.r_7, runBody.sl.r_8, runBody.sl.r_9, runBody.sl.r_10, runBody.sl.r_11, runBody.sl.r_12, runBody.sl.r_13, runBody.sl.r_14, runBody.sl.r_15, runBody.sl.r_16, runBody.sl.r_17, runBody.sl.r_18, runBody.sl.r_19, runBody.sl.r_20, runBody.sl.r_21, runBody.sl.r_22, runBody.sl.r_23, runBody.sl.r_24, load_tap, whole_S1x512]
  congr
  all_goals exact load_chunk i arg2 arg3 arg4 arg11 x0 x1 x2 _ _ _ (by omega) (by omega)

set_option maxHeartbeats 4000000 in
/-- The second trip's activations. -/
theorem trip_1 : runBody.sl.r_24 i arg2 arg3 arg4 arg5 arg6 arg7 arg8 arg11 x0 x1 x2 x3 x4 x5 x6 = chunk i x0 x1 x2 x3 x4 x5 x6 1 := by
  unfold chunk chunkOf
  simp only [runBody.sl.r_2, runBody.sl.r_3, runBody.sl.r_4, runBody.sl.r_5, runBody.sl.r_6, runBody.sl.r_7, runBody.sl.r_8, runBody.sl.r_9, runBody.sl.r_10, runBody.sl.r_11, runBody.sl.r_12, runBody.sl.r_13, runBody.sl.r_14, runBody.sl.r_15, runBody.sl.r_16, runBody.sl.r_17, runBody.sl.r_18, runBody.sl.r_19, runBody.sl.r_20, runBody.sl.r_21, runBody.sl.r_22, runBody.sl.r_23, runBody.sl.r_24, load_tap, whole_S1x512]
  congr
  all_goals exact load_chunk i arg2 arg3 arg4 arg11 x0 x1 x2 _ _ _ (by omega) (by omega)

/-- The final load reads the activations of the whole block. -/
theorem load_act : runBody.sl.v65 i arg2 arg3 arg4 arg5 arg6 arg7 arg8 arg11 arg12 x0 x1 x2 x3 x4 x5 x6 = act i x0 x1 x2 x3 x4 x5 x6 := by
  unfold runBody.sl.v65 runBody.sl.H10_2
  rw [trip_0, trip_1]
  have p5 : ∀ v : FVec F S256x512 .bf16, k0_pay5 v = v := fun v => by unfold k0_pay5; exact shapeCast_self v _
  simp only [p5]
  funext x
  unfold View.readCov
  rw [View.readAt_apply, show (Rect.unit (s := S512x512) ![0, 0] ![512, 512] inb_S512x512_S512x512_0_0).toLoadRect.idx x = x from
    funext fun a => Fin.ext (by match a with | ⟨0, _⟩ => (show 0 + 1 * (x 0).val = (x 0).val; omega) | ⟨1, _⟩ => (show 0 + 1 * (x 1).val = (x 1).val; omega))]
  refine View.read_writes_apply_of_pieces arg12.view _ (act i x0 x1 x2 x3 x4 x5 x6) _ ?_ x ?_
  · simp only [List.forall_mem_cons]
    refine ⟨fun z => ?_, fun z => ?_, fun _ h => absurd h List.not_mem_nil⟩
    · have b0 : (z 0).val < 256 := (z 0).isLt
      unfold act
      show chunk i x0 x1 x2 x3 x4 x5 x6 1 z = chunk i x0 x1 x2 x3 x4 x5 x6 ((256 + 1 * (z 0).val) / 256) _
      rw [show (256 + 1 * (z 0).val) / 256 = 1 by omega]
      congr 1
      funext a
      match a with
      | ⟨0, _⟩ => exact Fin.ext (by show (z 0).val = (256 + 1 * (z 0).val) % 256; omega)
      | ⟨1, _⟩ => exact Fin.ext (by show (z 1).val = 0 + 1 * (z 1).val; omega)
    · have b0 : (z 0).val < 256 := (z 0).isLt
      unfold act
      show chunk i x0 x1 x2 x3 x4 x5 x6 0 z = chunk i x0 x1 x2 x3 x4 x5 x6 ((0 + 1 * (z 0).val) / 256) _
      rw [show (0 + 1 * (z 0).val) / 256 = 0 by omega]
      congr 1
      funext a
      match a with
      | ⟨0, _⟩ => exact Fin.ext (by show (z 0).val = (0 + 1 * (z 0).val) % 256; omega)
      | ⟨1, _⟩ => exact Fin.ext (by show (z 1).val = 0 + 1 * (z 1).val; omega)
  · have h0 : (x 0).val < 512 := (x 0).isLt
    have h1 : (x 1).val < 512 := (x 1).isLt
    simp only [List.exists_mem_cons_iff, LoadRect.mem_set]
    rcases (by omega : 256 ≤ (x 0).val ∨ (x 0).val < 256) with h | h
    · refine .inl fun a => ?_
      match a with
      | ⟨0, _⟩ => exact ⟨(x 0).val - 256, by show (x 0).val - 256 < 256; omega, by show (x 0).val = 256 + 1 * ((x 0).val - 256); omega⟩
      | ⟨1, _⟩ => exact ⟨(x 1).val, h1, by show (x 1).val = 0 + 1 * (x 1).val; omega⟩
    · refine .inr (.inl fun a => ?_)
      match a with
      | ⟨0, _⟩ => exact ⟨(x 0).val, h, by show (x 0).val = 0 + 1 * (x 0).val; omega⟩
      | ⟨1, _⟩ => exact ⟨(x 1).val, h1, by show (x 1).val = 0 + 1 * (x 1).val; omega⟩

/-- What the body leaves in its output block. -/
theorem runBody_out (f10 : arg11.view.ty.Contents (Elt F)) (f11 : arg12.view.ty.Contents (Elt F)) (f : arg10.view.ty.Contents (Elt F)) :
    arg10.view.read (Elt F) (arg10.view.writes (Elt F) f (runBody c i arg2 harg2 arg3 harg3 arg4 harg4 arg5 harg5 arg6 harg6 arg7 harg7 arg8 harg8 arg9 harg9 arg10 harg10 arg11 harg11 arg12 harg12 x0 x1 x2 x3 x4 x5 x6 x7 f10 f11).1) = convBlock i x0 x1 x2 x3 x4 x5 x6 x7 := by
  unfold runBody
  refine (View.read_writes_full (s := S1x512x1024) (off := ![0, 0, 0]) arg10.view f inb_S1x512x1024_S1x512x1024_0_0_0 _ _).trans ?_
  rw [load_act, whole_S512x1024]
  rfl

set_option maxHeartbeats 4000000 in
/-- ONE POINT.  From the blocks of the inputs and anything in the output block and the two scratch buffers, the body runs and
    leaves the result in closed form in the output block. -/
theorem step (K : PUnit → sProp 𝕄) :
    iprop(held c arg2 arg3 arg4 arg5 arg6 arg7 arg8 arg9 x0 x1 x2 x3 x4 x5 x6 x7
        ∗ (∃ d, owns (c : Thread nD τ) arg10 fullShare d)
        ∗ (∃ d, owns (c : Thread nD τ) arg11 fullShare d)
        ∗ (∃ d, owns (c : Thread nD τ) arg12 fullShare d)
        ∗ (iprop(held c arg2 arg3 arg4 arg5 arg6 arg7 arg8 arg9 x0 x1 x2 x3 x4 x5 x6 x7
            ∗ owns (c : Thread nD τ) arg10 fullShare (convBlock i x0 x1 x2 x3 x4 x5 x6 x7)
            ∗ (∃ d, owns (c : Thread nD τ) arg11 fullShare d)
            ∗ (∃ d, owns (c : Thread nD τ) arg12 fullShare d)) -∗ K ⟨⟩))
      ⊢ wp frame (wpE (defs₀ (F := F)) Variants.none c none) Set.univ (cc0_conv_branch i arg2 harg2 arg3 harg3 arg4 harg4 arg5 harg5 arg6 harg6 arg7 harg7 arg8 harg8 arg9 harg9 arg10 harg10 arg11 harg11 arg12 harg12) K := by
  have hw := fun f10 f11 => owns_of_writes c arg10 _ _ (runBody_out c i arg2 harg2 arg3 harg3 arg4 harg4 arg5 harg5 arg6 harg6 arg7 harg7 arg8 harg8 arg9 harg9 arg10 harg10 arg11 harg11 arg12 harg12 x0 x1 x2 x3 x4 x5 x6 x7 f10 f11)
  unfold owns at hw ⊢
  iintro ⟨HI, HO, ⟨%d11, %f10, -, HS⟩, ⟨%d12, %f11, -, HT⟩, Hk⟩
  iapply ((runBody c i arg2 harg2 arg3 harg3 arg4 harg4 arg5 harg5 arg6 harg6 arg7 harg7 arg8 harg8 arg9 harg9 arg10 harg10 arg11 harg11 arg12 harg12 x0 x1 x2 x3 x4 x5 x6 x7 f10 f11).2 K)
  unfold owns
  isplitl [HI]; · iexact HI
  isplitl [HO]; · iexact HO
  isplitl [HS]; · iexact HS
  isplitl [HT]; · iexact HT
  iintro ⟨HI, HO, ⟨%g10, HS⟩, ⟨%g11, HT⟩⟩
  iapply Hk
  isplitl [HI]; · iexact HI
  isplitl [HO]; · iapply (hw f10 f11); iexact HO
  isplitl [HS]
  · iexists _; iexists g10; isplitr; swap
    · iexact HS
    · ipureintro; rfl
  iexists _; iexists g11; isplitr; swap
  · iexact HT
  · ipureintro; rfl

end

end Cert.Kernel4Ideal.Hand
-- ==== Proof.IdealConvRun.lean ====
module

public import proofs.«01_k».proof.Proof.IdealConvStep
public import Idealize.ShloMosaic.Lib.Pipeline.Kit
public import Idealize.ShloMosaic.Lib.Claim
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

/-! # The convolution call from launch to end

Every point leaves its result in closed form (`convAt`); nothing travels from point to point, so both scratch buffers hold
anything between points.  Three windows read one array, the block and its neighbours on either side, and share it.  The run of
the whole call leaves every argument unchanged and the result's array filled block by block. -/

@[expose] public section

set_option maxRecDepth 16384
set_option Elab.async false

noncomputable section

namespace Cert.Kernel4Ideal.Hand

open Cert.Kernel4Ideal Cert.Kernel4Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers: the laid out rows and the activations. -/
abbrev sc0 : Memref sig .tc .vmem S8x544x512 .f32 := Memref.whole cc0_scratch0
abbrev sc1 : Memref sig .tc .vmem S512x512 .bf16 := Memref.whole cc0_scratch1

/-- Point `t`'s coordinates. -/
abbrev crd (t : Fin cfg0.N) : grid0.Coords := cfg0.grid.coords t

/-! Each window's staging buffer at point `t`, and that it is whole. -/

abbrev ms0 (t : Fin cfg0.N) : Memref sig .tc .vmem S1x16x512 .bf16 := win0_0.stage (cfg0.slots t (0 : Fin 9))
abbrev hs0 (t : Fin cfg0.N) : (ms0 t).IsWhole := hstage0_0 ((cfg0.slots t (0 : Fin 9)).cast nbuf0_0)
abbrev ms1 (t : Fin cfg0.N) : Memref sig .tc .vmem S1x512x512 .bf16 := win0_1.stage (cfg0.slots t (1 : Fin 9))
abbrev hs1 (t : Fin cfg0.N) : (ms1 t).IsWhole := hstage0_1 ((cfg0.slots t (1 : Fin 9)).cast nbuf0_1)
abbrev ms2 (t : Fin cfg0.N) : Memref sig .tc .vmem S1x16x512 .bf16 := win0_2.stage (cfg0.slots t (2 : Fin 9))
abbrev hs2 (t : Fin cfg0.N) : (ms2 t).IsWhole := hstage0_2 ((cfg0.slots t (2 : Fin 9)).cast nbuf0_2)
abbrev ms3 (t : Fin cfg0.N) : Memref sig .tc .vmem S31x512 .f32 := win0_3.stage (cfg0.slots t (3 : Fin 9))
abbrev hs3 (t : Fin cfg0.N) : (ms3 t).IsWhole := hstage0_3 ((cfg0.slots t (3 : Fin 9)).cast nbuf0_3)
abbrev ms4 (t : Fin cfg0.N) : Memref sig .tc .vmem S1x512 .f32 := win0_4.stage (cfg0.slots t (4 : Fin 9))
abbrev hs4 (t : Fin cfg0.N) : (ms4 t).IsWhole := hstage0_4 ((cfg0.slots t (4 : Fin 9)).cast nbuf0_4)
abbrev ms5 (t : Fin cfg0.N) : Memref sig .tc .vmem S1x512 .f32 := win0_5.stage (cfg0.slots t (5 : Fin 9))
abbrev hs5 (t : Fin cfg0.N) : (ms5 t).IsWhole := hstage0_5 ((cfg0.slots t (5 : Fin 9)).cast nbuf0_5)
abbrev ms6 (t : Fin cfg0.N) : Memref sig .tc .vmem S1x512 .f32 := win0_6.stage (cfg0.slots t (6 : Fin 9))
abbrev hs6 (t : Fin cfg0.N) : (ms6 t).IsWhole := hstage0_6 ((cfg0.slots t (6 : Fin 9)).cast nbuf0_6)
abbrev ms7 (t : Fin cfg0.N) : Memref sig .tc .vmem S512x1024 .bf16 := win0_7.stage (cfg0.slots t (7 : Fin 9))
abbrev hs7 (t : Fin cfg0.N) : (ms7 t).IsWhole := hstage0_7 ((cfg0.slots t (7 : Fin 9)).cast nbuf0_7)
abbrev ms8 (t : Fin cfg0.N) : Memref sig .tc .vmem S1x512x1024 .bf16 := win0_8.stage (cfg0.slots t (8 : Fin 9))
abbrev hs8 (t : Fin cfg0.N) : (ms8 t).IsWhole := hstage0_8 ((cfg0.slots t (8 : Fin 9)).cast nbuf0_8)

/-- The result's block at point `t`. -/
def convAt (c : Dev nD) (t : Fin cfg0.N) : S1x512x1024.Idx → Elt F .bf16 :=
  convBlock (crd t) (iblk m c (0 : Fin 9) t) (iblk m c (1 : Fin 9) t) (iblk m c (2 : Fin 9) t) (iblk m c (3 : Fin 9) t) (iblk m c (4 : Fin 9) t) (iblk m c (5 : Fin 9) t) (iblk m c (6 : Fin 9) t) (iblk m c (7 : Fin 9) t)

/-- Between points both scratch buffers hold anything and the generator register is in some state. -/
def Phi (c : Dev nD) : sProp 𝕄 :=
  iprop(((∃ a, owns (c : Thread nD τ) sc0 fullShare a) ∗ (∃ a, owns (c : Thread nD τ) sc1 fullShare a)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c (0 : Fin 9) t
    | ⟨1, _⟩ => iblk m c (1 : Fin 9) t
    | ⟨2, _⟩ => iblk m c (2 : Fin 9) t
    | ⟨3, _⟩ => iblk m c (3 : Fin 9) t
    | ⟨4, _⟩ => iblk m c (4 : Fin 9) t
    | ⟨5, _⟩ => iblk m c (5 : Fin 9) t
    | ⟨6, _⟩ => iblk m c (6 : Fin 9) t
    | ⟨7, _⟩ => iblk m c (7 : Fin 9) t
    | ⟨8, _⟩ => convAt m c t
    | ⟨_ + 9, h⟩ => absurd h (Nat.not_lt.2 (Nat.le_add_left _ _))
  Φ _ := Phi c
  q w := Pipeline.shareOf spec0 w
  owed _ := 0

theorem A_dats (c : Dev nD) (w : Fin cfg0.W) : (dats m 0 c).A w = V m c (Pipeline.arrRef spec0 w) := rfl
theorem after0 (c : Dev nD) (t : Fin cfg0.N) : (dats m 0 c).after (0 : Fin 9) t = iblk m c (0 : Fin 9) t := rfl
theorem after1 (c : Dev nD) (t : Fin cfg0.N) : (dats m 0 c).after (1 : Fin 9) t = iblk m c (1 : Fin 9) t := rfl
theorem after2 (c : Dev nD) (t : Fin cfg0.N) : (dats m 0 c).after (2 : Fin 9) t = iblk m c (2 : Fin 9) t := rfl
theorem after3 (c : Dev nD) (t : Fin cfg0.N) : (dats m 0 c).after (3 : Fin 9) t = iblk m c (3 : Fin 9) t := rfl
theorem after4 (c : Dev nD) (t : Fin cfg0.N) : (dats m 0 c).after (4 : Fin 9) t = iblk m c (4 : Fin 9) t := rfl
theorem after5 (c : Dev nD) (t : Fin cfg0.N) : (dats m 0 c).after (5 : Fin 9) t = iblk m c (5 : Fin 9) t := rfl
theorem after6 (c : Dev nD) (t : Fin cfg0.N) : (dats m 0 c).after (6 : Fin 9) t = iblk m c (6 : Fin 9) t := rfl
theorem after7 (c : Dev nD) (t : Fin cfg0.N) : (dats m 0 c).after (7 : Fin 9) t = iblk m c (7 : Fin 9) t := rfl
theorem after8 (c : Dev nD) (t : Fin cfg0.N) : (dats m 0 c).after (8 : Fin 9) t = convAt m c t := rfl
theorem before0 (c : Dev nD) (t : Fin cfg0.N) (d) : (dats m 0 c).before (0 : Fin 9) t d = iblk m c (0 : Fin 9) t :=
  before0_0_of m (dats m 0 c) (A_dats m c 0) (after0 m c) t d
theorem before1 (c : Dev nD) (t : Fin cfg0.N) (d) : (dats m 0 c).before (1 : Fin 9) t d = iblk m c (1 : Fin 9) t :=
  before0_1_of m (dats m 0 c) (A_dats m c 1) (after1 m c) t d
theorem before2 (c : Dev nD) (t : Fin cfg0.N) (d) : (dats m 0 c).before (2 : Fin 9) t d = iblk m c (2 : Fin 9) t :=
  before0_2_of m (dats m 0 c) (A_dats m c 2) (after2 m c) t d
theorem before3 (c : Dev nD) (t : Fin cfg0.N) (d) : (dats m 0 c).before (3 : Fin 9) t d = iblk m c (3 : Fin 9) t :=
  before0_3_of m (dats m 0 c) (A_dats m c 3) (after3 m c) t d
theorem before4 (c : Dev nD) (t : Fin cfg0.N) (d) : (dats m 0 c).before (4 : Fin 9) t d = iblk m c (4 : Fin 9) t :=
  before0_4_of m (dats m 0 c) (A_dats m c 4) (after4 m c) t d
theorem before5 (c : Dev nD) (t : Fin cfg0.N) (d) : (dats m 0 c).before (5 : Fin 9) t d = iblk m c (5 : Fin 9) t :=
  before0_5_of m (dats m 0 c) (A_dats m c 5) (after5 m c) t d
theorem before6 (c : Dev nD) (t : Fin cfg0.N) (d) : (dats m 0 c).before (6 : Fin 9) t d = iblk m c (6 : Fin 9) t :=
  before0_6_of m (dats m 0 c) (A_dats m c 6) (after6 m c) t d
theorem before7 (c : Dev nD) (t : Fin cfg0.N) (d) : (dats m 0 c).before (7 : Fin 9) t d = iblk m c (7 : Fin 9) t :=
  before0_7_of m (dats m 0 c) (A_dats m c 7) (after7 m c) t d

/-- The body at point `t` on its staging buffers. -/
abbrev bodyAt (t : Fin cfg0.N) : Prog (TpuEff nD τ sig (Elt F) Λ₀ .tc) PUnit :=
  cc0_conv_branch (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _)

set_option maxHeartbeats 8000000 in
/-- The body at point `t` takes the invariant and the windows' buffers to the next point's. -/
theorem sound_body (c : Dev nD) (t : Fin cfg0.N) :
    iprop((dats m 0 c).Φ t.castSucc ∗ (dats m 0 c).owesAt () t.castSucc
        ∗ (∃ d, owns (c : Thread nD τ) (ms0 t) fullShare ((dats m 0 c).before (0 : Fin 9) t d))
        ∗ (∃ d, owns (c : Thread nD τ) (ms1 t) fullShare ((dats m 0 c).before (1 : Fin 9) t d))
        ∗ (∃ d, owns (c : Thread nD τ) (ms2 t) fullShare ((dats m 0 c).before (2 : Fin 9) t d))
        ∗ (∃ d, owns (c : Thread nD τ) (ms3 t) fullShare ((dats m 0 c).before (3 : Fin 9) t d))
        ∗ (∃ d, owns (c : Thread nD τ) (ms4 t) fullShare ((dats m 0 c).before (4 : Fin 9) t d))
        ∗ (∃ d, owns (c : Thread nD τ) (ms5 t) fullShare ((dats m 0 c).before (5 : Fin 9) t d))
        ∗ (∃ d, owns (c : Thread nD τ) (ms6 t) fullShare ((dats m 0 c).before (6 : Fin 9) t d))
        ∗ (∃ d, owns (c : Thread nD τ) (ms7 t) fullShare ((dats m 0 c).before (7 : Fin 9) t d))
        ∗ (∃ d, owns (c : Thread nD τ) (ms8 t) fullShare ((dats m 0 c).before (8 : Fin 9) t d)))
      ⊢ wp frame (wpE (defs₀ (F := F)) Variants.none c none) Set.univ (bodyAt t) fun _ =>
          iprop((dats m 0 c).Φ t.succ ∗ (dats m 0 c).owesAt () t.succ
            ∗ owns (c : Thread nD τ) (ms0 t) fullShare ((dats m 0 c).after (0 : Fin 9) t)
            ∗ owns (c : Thread nD τ) (ms1 t) fullShare ((dats m 0 c).after (1 : Fin 9) t)
            ∗ owns (c : Thread nD τ) (ms2 t) fullShare ((dats m 0 c).after (2 : Fin 9) t)
            ∗ owns (c : Thread nD τ) (ms3 t) fullShare ((dats m 0 c).after (3 : Fin 9) t)
            ∗ owns (c : Thread nD τ) (ms4 t) fullShare ((dats m 0 c).after (4 : Fin 9) t)
            ∗ owns (c : Thread nD τ) (ms5 t) fullShare ((dats m 0 c).after (5 : Fin 9) t)
            ∗ owns (c : Thread nD τ) (ms6 t) fullShare ((dats m 0 c).after (6 : Fin 9) t)
            ∗ owns (c : Thread nD τ) (ms7 t) fullShare ((dats m 0 c).after (7 : Fin 9) t)
            ∗ owns (c : Thread nD τ) (ms8 t) fullShare ((dats m 0 c).after (8 : Fin 9) t)) := by
  simp only [before0, before1, before2, before3, before4, before5, before6, before7, after0, after1, after2, after3, after4, after5, after6, after7, after8]
  rewrite [show (dats m 0 c).Φ t.succ = Phi c from rfl, show (dats m 0 c).Φ t.castSucc = Phi c from rfl,
    show (dats m 0 c).owesAt () t.succ = (dats m 0 c).owesAt () t.castSucc from rfl]
  unfold Phi
  iintro ⟨⟨⟨HS, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (step c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) (iblk m c (0 : Fin 9) t) (iblk m c (1 : Fin 9) t) (iblk m c (2 : Fin 9) t) (iblk m c (3 : Fin 9) t) (iblk m c (4 : Fin 9) t) (iblk m c (5 : Fin 9) t) (iblk m c (6 : Fin 9) t) (iblk m c (7 : Fin 9) t))
  isplitl [H0 H1 H2 H3 H4 H5 H6 H7]
  · unfold held
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    iapply rep_of_owns; iexact H7
  isplitl [H8]; · iexists _; iexact H8
  isplitl [HS]; · iexact HS
  isplitl [HT]; · iexact HT
  unfold held
  iintro ⟨⟨H0, H1, H2, H3, H4, H5, H6, H7⟩, H8, HS, HT⟩
  isplitl [HS HT Hg]
  · isplitl [HS HT]
    · isplitl [HS]; · iexact HS
      iexact HT
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  iexact H8

/-- The table of bodies at point `t` is the body on its staging buffers. -/
theorem body_row (t : Fin cfg0.N) : defs₀ (F := F) .tc cfg0.body (cfg0.bodyArgs t (cfg0.slots t)) = bodyAt t := by
  unfold defs₀; rw [Defs.onTc_tc]

/-- The same at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the region is handed gives the invariant before the first point; -/
theorem phi_in (c : Dev nD) : Pipeline.ΦA spec0 c ⊢ (dats m 0 c).Φ 0 := by
  rw [show (dats m 0 c).Φ 0 = Phi c from rfl]
  unfold Pipeline.ΦA Phi
  rw [scopedRest0_eq]
  simp only [sc0, sc1, owns_whole]
  iintro ⟨⟨HS, HT⟩, Hg⟩
  isplitl [HS HT]
  · isplitl [HS]; · iexact HS
    iexact HT
  iexact Hg

/-- and the invariant after the last point gives it back. -/
theorem phi_out (c : Dev nD) : (dats m 0 c).Φ (Fin.last cfg0.N) ⊢ Pipeline.ΦA spec0 c := by
  rw [show (dats m 0 c).Φ (Fin.last cfg0.N) = Phi c from rfl]
  unfold Pipeline.ΦA Phi
  rw [scopedRest0_eq]
  simp only [sc0, sc1, owns_whole]
  iintro ⟨⟨HS, HT⟩, Hg⟩
  isplitl [HS HT]
  · isplitl [HS]; · iexact HS
    iexact HT
  iexact Hg

set_option backward.isDefEq.respectTransparency.types false in
/-- From any memory with zero counters, every weakly fair execution ends with every array at what the pipeline computes, every
    other buffer as the region found it, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_dats m) (hin := phi_in m) (hout := phi_out m)

/-- At the end the argument arrays are as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_dats m) ((θ_run defs _ _).mono (fun _ h => h.1) (run_quiescent m ρ)))
    ((θ_run defs _ _).mono (fun _ h => h.2) (run_quiescent m ρ))

end Cert.Kernel4Ideal.Hand
-- ==== Proof.ConvRow.lean ====
module

public import Idealize.ShloMosaic.Lib.IdealHost
public import Idealize.ShloMosaic.PureOps.Ideal

/-! # The convolution branch of one row

A sequence of 2048 rows of 512 numbers stands between 15 rows of zeros on either side.  At each position 31 rows are weighed
column by column and summed, an offset is added, and the sum goes through a layer norm, the product of a number with its
logistic function, and a product with a matrix of 512 by 1024. -/

@[expose] public section

noncomputable section

namespace Cert.ConvRow

open Idealize.ShloMosaic

/-- Row `n` of the sequence between its zeros. -/
def padded (u : Fin 2048 → Fin 512 → EReal) (n : ℕ) (q : Fin 512) : EReal :=
  if h : 15 ≤ n ∧ n < 2063 then u ⟨n - 15, by omega⟩ q else 0

/-- The weighed sum of the rows `v 0` to `v 30`, and its offset. -/
def conv (v w : ℕ → Fin 512 → EReal) (b : Fin 512 → EReal) (q : Fin 512) : EReal :=
  (∑ j ∈ Finset.range 31, v j q * w j q) + b q

/-- The mean of a row. -/
def mean (x : Fin 512 → EReal) : EReal := Ideal.div (∑ k, x k) (Ideal.ofBits .f32 0x44000000#32)

/-- The layer norm of a row, at a column. -/
def norm (x g b : Fin 512 → EReal) (k : Fin 512) : EReal :=
  (x k - mean x) * Ideal.rsqrt (mean (fun j => (x j - mean x) * (x j - mean x)) + Ideal.ofBits .f32 0x3727C5AC#32) * g k + b k

/-- The activations at a position, from the 31 rows there. -/
def act (v w : ℕ → Fin 512 → EReal) (b g o : Fin 512 → EReal) (k : Fin 512) : EReal :=
  norm (conv v w b) g o k * Ideal.logistic (norm (conv v w b) g o k)

/-- The branch's result at position `t` of a sequence, at a column. -/
def out (u : Fin 2048 → Fin 512 → EReal) (w : ℕ → Fin 512 → EReal) (b g o : Fin 512 → EReal) (p : Fin 512 → Fin 1024 → EReal) (t : ℕ)
    (f : Fin 1024) : EReal :=
  ∑ k : Fin 512, act (fun j => padded u (t + j)) w b g o k * p k f

/-- Only the 31 rows count. -/
theorem conv_congr {v v' w w' : ℕ → Fin 512 → EReal} {b : Fin 512 → EReal} (hv : ∀ j < 31, ∀ q, v j q = v' j q) (hw : ∀ j < 31, ∀ q, w j q = w' j q) :
    conv v w b = conv v' w' b := by
  funext q
  unfold conv
  refine congrArg (· + b q) (Finset.sum_congr rfl fun j hj => ?_)
  rw [hv j (Finset.mem_range.mp hj), hw j (Finset.mem_range.mp hj)]

end Cert.ConvRow

end
-- ==== Proof.ConvBlock.lean ====
module

public import proofs.«01_k».proof.Proof.IdealConvStep
public import proofs.«01_k».proof.Proof.ConvRow
public import proofs.«01_k».proof.Proof.Sigmoid
public import Idealize.ShloMosaic.Lib.Pointwise

/-! # The convolution's block, read at an index

The body sums the offset and 31 products, each a row of taps times a window of the laid out rows, and takes the sum through
the layer norm, the logistic function and the last product.  Each step is given by its entries, and so the block is the branch
of one row (`Cert.ConvRow`) at every place. -/

@[expose] public section

set_option maxRecDepth 16384
set_option Elab.async false

noncomputable section

namespace Cert.Kernel4Ideal.Hand

open Cert.Kernel4Ideal Cert.Kernel4Ideal.Gen
open Idealize.ShloMosaic Idealize.ShloMosaic.TcCoe

/-- The mean of every row of a half block, as a column. -/
def rowMean (v : FVec Ideal S256x512 .f32) : FVec Ideal S256x1 .f32 :=
  divf (shapeCast S256x1 (multiReduction .add [1] S256 v 0x00000000#32 reduces_S256x512_S256 (.inl rfl) rfl) shapeCasts_S256_S256x1) (broadcast S256x1 (Scalar.ofBits .f32 0x44000000#32))

/-- Every row of a half block less its mean. -/
def rowDev (v : FVec Ideal S256x512 .f32) : FVec Ideal S256x512 .f32 :=
  subf v (broadcastTo S256x512 (rowMean v) broadcasts_S256x1_S256x512)

/-- The layer norm of the rows of a half block. -/
def rowNorm (x : FVec Ideal S256x512 .f32) (g b : FVec Ideal S1x512 .f32) : FVec Ideal S256x512 .f32 :=
  addf (mulf (mulf (rowDev x) (broadcastTo S256x512 (rsqrt (addf (rowMean (mulf (rowDev x) (rowDev x))) (broadcast S256x1 (Scalar.ofBits .f32 0x3727C5AC#32)))) broadcasts_S256x1_S256x512)) (broadcastTo S256x512 g broadcasts_S1x512_S256x512)) (broadcastTo S256x512 b broadcasts_S1x512_S256x512)

/-- The logistic function, as the body computes it. -/
def half (z : FVec Ideal S256x512 .f32) : FVec Ideal S256x512 .f32 :=
  addf (mulf (broadcast S256x512 (Scalar.ofBits .f32 0x3F000000#32)) (tanh (mulf (broadcast S256x512 (Scalar.ofBits .f32 0x3F000000#32)) z))) (broadcast S256x512 (Scalar.ofBits .f32 0x3F000000#32))

/-- The offset and the first `n` taps, summed. -/
def accum (L : ℕ → FVec Ideal S1x256x512 .f32) (W : ℕ → FVec Ideal S1x512 .f32) (cb : FVec Ideal S1x512 .f32) : ℕ → FVec Ideal S256x512 .f32
  | 0 => addf (broadcast S256x512 (Scalar.ofBits .f32 0x00000000#32)) (broadcastTo S256x512 cb broadcasts_S1x512_S256x512)
  | n + 1 => addf (accum L W cb n) (mulf (broadcastTo S256x512 (W n) broadcasts_S1x512_S256x512) (shapeCast S256x512 (L n) shapeCasts_S1x256x512_S256x512))

/-- The activations of a half block, in these terms. -/
theorem chunkOf_eq (L : ℕ → Vec Ideal S1x256x512 .f32) (W : ℕ → Vec Ideal S1x512 .f32) (cb g b : Vec Ideal S1x512 .f32) :
    chunkOf (F := Ideal) L W cb g b = truncf .bf16 (mulf (rowNorm (accum L W cb 31) g b) (half (rowNorm (accum L W cb 31) g b))) bitsLt_bf16_f32 := by
  have e3 : k0_pay7 (F := Ideal) cb (W 0) (L 0) (W 1) (L 1) (W 2) (L 2) = accum L W cb 3 := by
    unfold k0_pay7
    simp only [shapeCast_self]
    rfl
  have e8 : k0_pay9 (F := Ideal) (accum L W cb 3) (W 3) (L 3) (W 4) (L 4) (W 5) (L 5) (W 6) (L 6) (W 7) (L 7) = accum L W cb 8 := by
    unfold k0_pay9
    simp only [shapeCast_self]
    rfl
  have e12 : k0_pay10 (F := Ideal) (accum L W cb 8) (W 8) (L 8) (W 9) (L 9) (W 10) (L 10) (W 11) (L 11) = accum L W cb 12 := by
    unfold k0_pay10
    simp only [shapeCast_self]
    rfl
  have e16 : k0_pay12 (F := Ideal) (accum L W cb 12) (W 12) (L 12) (W 13) (L 13) (W 14) (L 14) (W 15) (L 15) = accum L W cb 16 := by
    unfold k0_pay12
    simp only [shapeCast_self]
    rfl
  have e20 : k0_pay14 (F := Ideal) (accum L W cb 16) (W 16) (L 16) (W 17) (L 17) (W 18) (L 18) (W 19) (L 19) = accum L W cb 20 := by
    unfold k0_pay14
    simp only [shapeCast_self]
    rfl
  have e25 : k0_pay17 (F := Ideal) (accum L W cb 20) (k0_pay15 (L 20)) (k0_pay16 (W 20)) (W 21) (L 21) (W 22) (L 22) (W 23) (L 23) (W 24) (L 24) = accum L W cb 25 := by
    unfold k0_pay17 k0_pay15 k0_pay16
    simp only [shapeCast_self]
    rfl
  have e29 : k0_pay18 (F := Ideal) (accum L W cb 25) (W 25) (L 25) (W 26) (L 26) (W 27) (L 27) (W 28) (L 28) = accum L W cb 29 := by
    unfold k0_pay18
    simp only [shapeCast_self]
    rfl
  have e31 : k0_pay20 (F := Ideal) g b (accum L W cb 29) (W 29) (L 29) (W 30) (L 30)
      = truncf .bf16 (mulf (rowNorm (accum L W cb 31) g b) (half (rowNorm (accum L W cb 31) g b))) bitsLt_bf16_f32 := by
    have e : accum L W cb 31 = addf (addf (accum L W cb 29) (mulf (broadcastTo S256x512 (W 29) broadcasts_S1x512_S256x512) (shapeCast S256x512 (L 29) shapeCasts_S1x256x512_S256x512)))
        (mulf (broadcastTo S256x512 (W 30) broadcasts_S1x512_S256x512) (shapeCast S256x512 (L 30) shapeCasts_S1x256x512_S256x512)) := rfl
    rw [e]
    unfold k0_pay20 half rowNorm rowDev rowMean
    simp only [shapeCast_self]
  unfold chunkOf k0_pay2 k0_pay3 k0_pay4 k0_pay8 k0_pay11 k0_pay13 k0_pay19
  simp only [shapeCast_self]
  rw [e3, e8, e12, e16, e20, e25, e29, e31]

theorem accum_apply (L : ℕ → FVec Ideal S1x256x512 .f32) (W : ℕ → FVec Ideal S1x512 .f32) (cb : FVec Ideal S1x512 .f32) (p : Fin 256) (q : Fin 512) (n : ℕ) :
    accum L W cb n (ix2 p q) = (∑ j ∈ Finset.range n, L j (ix3 (0 : Fin 1) p q) * W j (ix2 (0 : Fin 1) q)) + cb (ix2 (0 : Fin 1) q) := by
  induction n with
  | zero =>
    rw [Finset.sum_range_zero]
    unfold accum
    pointwise
  | succ n ih =>
    have h1 : broadcastTo S256x512 (W n) broadcasts_S1x512_S256x512 (ix2 p q) = W n (ix2 (0 : Fin 1) q) := by pointwise
    have h2 : shapeCast S256x512 (L n) shapeCasts_S1x256x512_S256x512 (ix2 p q) = L n (ix3 (0 : Fin 1) p q) := by pointwise
    rw [Finset.sum_range_succ, add_right_comm, ← ih, mul_comm (L n _), ← h1, ← h2]
    rfl

theorem rowMean_apply (y : FVec Ideal S256x512 .f32) (p : Fin 256) :
    rowMean y (ix2 p (0 : Fin 1)) = ConvRow.mean fun k => y (ix2 p k) := by
  unfold rowMean
  pointwise
  rfl

theorem rowDev_apply (y : FVec Ideal S256x512 .f32) (p : Fin 256) (k : Fin 512) :
    rowDev y (ix2 p k) = y (ix2 p k) - ConvRow.mean fun k => y (ix2 p k) := by
  have := rowMean_apply y p
  unfold rowDev
  generalize rowMean y = u at *
  rw [← this]
  pointwise

theorem rowNorm_apply (x : FVec Ideal S256x512 .f32) (g b : FVec Ideal S1x512 .f32) (p : Fin 256) (k : Fin 512) :
    rowNorm x g b (ix2 p k) = ConvRow.norm (fun k => x (ix2 p k)) (fun k => g (ix2 (0 : Fin 1) k)) (fun k => b (ix2 (0 : Fin 1) k)) k := by
  have h1 := rowMean_apply (mulf (rowDev x) (rowDev x)) p
  have h2 := rowDev_apply x p
  unfold rowNorm
  have h3 : (fun k => (mulf (rowDev x) (rowDev x)) (ix2 p k)) = fun k => rowDev x (ix2 p k) * rowDev x (ix2 p k) := rfl
  rw [h3] at h1
  generalize rowMean (mulf (rowDev x) (rowDev x)) = v at *
  generalize rowDev x = d at *
  simp only [h2] at h1
  unfold ConvRow.norm
  rw [← h1, ← h2]
  pointwise

theorem half_apply (z : FVec Ideal S256x512 .f32) (p : Fin 256) (f : Fin 512) : half z (ix2 p f) = Ideal.logistic (z (ix2 p f)) := by
  refine Eq.trans ?_ (Sigmoid.half_tanh (z (ix2 p f)))
  unfold half
  pointwise

/-- The activations of a half block at an index, of its windows and taps. -/
theorem chunkOf_apply (L : ℕ → Vec Ideal S1x256x512 .f32) (W : ℕ → Vec Ideal S1x512 .f32) (cb g b : Vec Ideal S1x512 .f32) (p : Fin 256) (q : Fin 512) :
    chunkOf (F := Ideal) L W cb g b (ix2 p q)
      = ConvRow.act (fun j k => L j (ix3 (0 : Fin 1) p k)) (fun j k => W j (ix2 (0 : Fin 1) k)) (fun k => cb (ix2 (0 : Fin 1) k)) (fun k => g (ix2 (0 : Fin 1) k)) (fun k => b (ix2 (0 : Fin 1) k)) q := by
  rw [chunkOf_eq]
  have h := rowNorm_apply (accum L W cb 31) g b p q
  simp only [accum_apply] at h
  exact congrArg₂ (fun a b : EReal => a * b) h ((half_apply _ p q).trans (congrArg Ideal.logistic h))

variable (i : grid0.Coords) (x0 : Vec Ideal S1x16x512 .bf16) (x1 : Vec Ideal S1x512x512 .bf16) (x2 : Vec Ideal S1x16x512 .bf16) (x3 : Vec Ideal S31x512 .f32)
variable (x4 x5 x6 : Vec Ideal S1x512 .f32) (x7 : Vec Ideal S512x1024 .bf16)

/-- The row of the activations at place `p` takes the 31 laid out rows from `p + 1` on. -/
theorem act_apply (p k : Fin 512) :
    act (F := Ideal) i x0 x1 x2 x3 x4 x5 x6 (ix2 p k)
      = ConvRow.act (fun j => extRow (F := Ideal) i x0 x1 x2 (p.val + j + 1)) (fun j q => x3 (ix2 (⟨min j 30, by omega⟩ : Fin 31) q)) (fun k => x4 (ix2 (0 : Fin 1) k))
          (fun k => x5 (ix2 (0 : Fin 1) k)) (fun k => x6 (ix2 (0 : Fin 1) k)) k := by
  have h := chunkOf_apply (fun j => rowsFrom (F := Ideal) i x0 x1 x2 (256 * (p.val / 256) + (j + 1))) (tapRow (F := Ideal) x3) x4 x5 x6 (⟨p.val % 256, Nat.mod_lt _ (by omega)⟩ : Fin 256) k
  refine Eq.trans ?_ (h.trans ?_)
  · unfold act chunk
    exact congrArg (chunkOf (F := Ideal) (fun j => rowsFrom (F := Ideal) i x0 x1 x2 (256 * (p.val / 256) + (j + 1))) (tapRow (F := Ideal) x3) x4 x5 x6) (ix2_eq_valueIdx (⟨p.val % 256, Nat.mod_lt _ (by omega)⟩ : Fin 256) k).symm
  · have e1 : (fun (j : ℕ) (k : Fin 512) => rowsFrom (F := Ideal) i x0 x1 x2 (256 * (p.val / 256) + (j + 1)) (ix3 (0 : Fin 1) (⟨p.val % 256, Nat.mod_lt _ (by omega)⟩ : Fin 256) k))
        = fun j => extRow (F := Ideal) i x0 x1 x2 (p.val + j + 1) := by
      funext j k
      unfold rowsFrom
      refine congrArg (fun n => extRow (F := Ideal) i x0 x1 x2 n k) ?_
      show 256 * (p.val / 256) + (j + 1) + p.val % 256 = p.val + j + 1
      omega
    have e2 : (fun (j : ℕ) (k : Fin 512) => tapRow (F := Ideal) x3 j (ix2 (0 : Fin 1) k)) = fun j q => x3 (ix2 (⟨min j 30, by omega⟩ : Fin 31) q) := by
      funext j k
      unfold tapRow
      exact congrArg x3 (ix2_eq_valueIdx (⟨min j 30, by omega⟩ : Fin 31) k).symm
    rw [e1, e2]

/-- The block at an index. -/
theorem convBlock_apply (p : Fin 512) (f : Fin 1024) :
    convBlock (F := Ideal) i x0 x1 x2 x3 x4 x5 x6 x7 (ix3 (0 : Fin 1) p f)
      = ∑ k : Fin 512, ConvRow.act (fun j => extRow (F := Ideal) i x0 x1 x2 (p.val + j + 1)) (fun j q => x3 (ix2 (⟨min j 30, by omega⟩ : Fin 31) q)) (fun k => x4 (ix2 (0 : Fin 1) k))
          (fun k => x5 (ix2 (0 : Fin 1) k)) (fun k => x6 (ix2 (0 : Fin 1) k)) k * x7 (ix2 k f) := by
  simp only [← act_apply]
  unfold convBlock
  generalize act (F := Ideal) i x0 x1 x2 x3 x4 x5 x6 = a
  unfold k0_pay6
  simp only [shapeCast_self]
  pointwise

/-! ## The laid out rows -/

theorem lay16 (x : Vec Ideal S1x16x512 .bf16) (a : Fin 16) (q : Fin 512) :
    shapeCast S1x16x512 (extf (F := Ideal) .f32 (shapeCast S16x512 x shapeCasts_S1x16x512_S16x512) bitsLt_bf16_f32) shapeCasts_S16x512_S1x16x512 (ix3 (0 : Fin 1) a q)
      = x (ix3 (0 : Fin 1) a q) := by
  pointwise

/-- The rows before the block: zeros before the first. -/
theorem before_first (h : (i 1).val = 0) (a : Fin 16) (q : Fin 512) : k0_pay22 (F := Ideal) i x0 (ix3 (0 : Fin 1) a q) = 0 := by
  have e : Scalar.cmpi .sgt (BitVec.ofNat 32 (i 1).val) 0#32 = 0#1 := by rw [h]; decide
  unfold k0_pay22 k0_pay21
  simp only [e]
  pointwise
theorem before_rest (h : 0 < (i 1).val) (a : Fin 16) (q : Fin 512) : k0_pay22 (F := Ideal) i x0 (ix3 (0 : Fin 1) a q) = x0 (ix3 (0 : Fin 1) a q) := by
  have hi : (i 1).val < 4 := (i 1).isLt
  have e : Scalar.cmpi .sgt (BitVec.ofNat 32 (i 1).val) 0#32 = 1#1 := by
    rcases (by omega : (i 1).val = 1 ∨ (i 1).val = 2 ∨ (i 1).val = 3) with h | h | h <;> (rw [h]; decide)
  refine Eq.trans ?_ (lay16 x0 a q)
  unfold k0_pay22
  simp only [e]
  rfl

/-- The rows of the block. -/
theorem within (a q : Fin 512) : k0_pay23 (F := Ideal) x1 (ix3 (0 : Fin 1) a q) = x1 (ix3 (0 : Fin 1) a q) := by
  unfold k0_pay23
  pointwise

/-- The rows after the block: zeros after the last. -/
theorem after_last (h : (i 1).val = 3) (a : Fin 16) (q : Fin 512) : k0_pay24 (F := Ideal) i x2 (ix3 (0 : Fin 1) a q) = 0 := by
  have e : Scalar.cmpi .slt (BitVec.ofNat 32 (i 1).val) 3#32 = 0#1 := by rw [h]; decide
  unfold k0_pay24 k0_pay21
  simp only [e]
  pointwise
theorem after_rest (h : (i 1).val < 3) (a : Fin 16) (q : Fin 512) : k0_pay24 (F := Ideal) i x2 (ix3 (0 : Fin 1) a q) = x2 (ix3 (0 : Fin 1) a q) := by
  have e : Scalar.cmpi .slt (BitVec.ofNat 32 (i 1).val) 3#32 = 1#1 := by
    rcases (by omega : (i 1).val = 0 ∨ (i 1).val = 1 ∨ (i 1).val = 2) with h | h | h <;> (rw [h]; decide)
  refine Eq.trans ?_ (lay16 x2 a q)
  unfold k0_pay24
  simp only [e]
  rfl

/-- The laid out rows are those of a sequence between its zeros, if the block and its neighbours are the sequence's. -/
theorem extRow_eq (u : Fin 2048 → Fin 512 → EReal)
    (h0 : ∀ (a : Fin 16) (q : Fin 512) (s : Fin 2048), 0 < (i 1).val → s.val + 16 = 512 * (i 1).val + a.val → x0 (ix3 (0 : Fin 1) a q) = u s q)
    (h1 : ∀ (a : Fin 512) (q : Fin 512) (s : Fin 2048), s.val = 512 * (i 1).val + a.val → x1 (ix3 (0 : Fin 1) a q) = u s q)
    (h2 : ∀ (a : Fin 16) (q : Fin 512) (s : Fin 2048), (i 1).val < 3 → s.val = 512 * (i 1).val + 512 + a.val → x2 (ix3 (0 : Fin 1) a q) = u s q)
    (n : ℕ) (hn : n < 543) (q : Fin 512) :
    extRow (F := Ideal) i x0 x1 x2 (n + 1) q = ConvRow.padded u (512 * (i 1).val + n) q := by
  have hi : (i 1).val < 4 := (i 1).isLt
  unfold extRow ConvRow.padded
  simp only [← ix3_eq_valueIdx]
  by_cases c0 : n + 1 < 16
  · rw [dif_pos c0]
    by_cases z : (i 1).val = 0
    · rw [before_first i x0 z, dif_neg (by omega)]
    · rw [before_rest i x0 (by omega), dif_pos (by omega)]
      exact h0 _ _ _ (by omega) (by show 512 * (i 1).val + n - 15 + 16 = 512 * (i 1).val + (n + 1); omega)
  · rw [dif_neg c0]
    by_cases c1 : n + 1 < 528
    · rw [dif_pos c1, within, dif_pos (by omega)]
      exact h1 _ _ _ (by show 512 * (i 1).val + n - 15 = 512 * (i 1).val + (n + 1 - 16); omega)
    · rw [dif_neg c1]
      by_cases z : (i 1).val = 3
      · rw [after_last i x2 z, dif_neg (by omega)]
      · rw [after_rest i x2 (by omega), dif_pos (by omega)]
        exact h2 _ _ _ (by omega) (by show 512 * (i 1).val + n - 15 = 512 * (i 1).val + 512 + min (n + 1 - 528) 15; omega)

end Cert.Kernel4Ideal.Hand

end
-- ==== Proof.ConvRef.lean ====
module

public import proofs.«01_k».proof.Proof.Gen.Reference4Ideal.Run
public import proofs.«01_k».proof.Proof.ConvRow
public import Idealize.ShloMosaic.Lib.Pointwise
public import Idealize.ShloMosaic.Lib.KernelVsHost

/-! # The convolution branch's reference, read at an index

The reference lays zeros before and after every sequence and sums 31 shifted copies, each weighed by its row of taps; the
layer norm, the logistic function and the last product follow, each given by its entries. -/

@[expose] public section

set_option maxRecDepth 8192
set_option Elab.async false

noncomputable section

namespace Cert.ConvRef

open Cert.Reference4Ideal Cert.Reference4Ideal.Facts₀ Cert.Reference4Ideal.Facts
open Idealize.ShloMosaic Idealize.ShloMosaic.TcCoe

variable (u : FVec Ideal S8x2048x512 .bf16) (w : FVec Ideal S1x31x512 .f32) (b g o : FVec Ideal S1x512 .f32)
variable (p : FVec Ideal S1x512x1024 .f32)

/-- The sequences between their zeros. -/
def padded : FVec Ideal S8x2078x512 .f32 :=
  pad S8x2078x512 ![0, 15, 0] ![0, 15, 0] ![0, 0, 0] (extf .f32 u bitsLt_bf16_f32) (sitofp .f32 (constantI S_ 32 0#32)) pads_S8x2048x512_S8x2078x512_000_15150_000 h_S_

/-- A vector of 512 at every position. -/
def spread (v : FVec Ideal S512 .f32) : FVec Ideal S8x2048x512 .f32 :=
  broadcastInDim S8x2048x512 ![0, 1, 2] bcast_S1x1x512_S8x2048x512_0_1_2 (broadcastInDim S1x1x512 ![2] bcast_S512_S1x1x512_2 v)

/-- The mean of every row. -/
def mean (y : FVec Ideal S8x2048x512 .f32) : FVec Ideal S8x2048x1 .f32 :=
  Host.divf (broadcastInDim S8x2048x1 ![0, 1] bcast_S8x2048_S8x2048x1_0_1 (Host.reduceAdd y (constant S_ .f32 0x00000000#32) reducesTo_S8x2048x512_S8x2048_d2 h_S_)) (broadcastInDim S8x2048x1 ![] bcast_S_S8x2048x1 (constant S_ .f32 0x44000000#32))

/-- Every row less its mean. -/
def dev (y : FVec Ideal S8x2048x512 .f32) : FVec Ideal S8x2048x512 .f32 :=
  subf y (broadcastInDim S8x2048x512 ![0, 1, 2] bcast_S8x2048x1_S8x2048x512_0_1_2 (mean y))

/-- The layer norm of every row. -/
def norm (y : FVec Ideal S8x2048x512 .f32) : FVec Ideal S8x2048x512 .f32 :=
  addf (mulf (mulf (dev y) (broadcastInDim S8x2048x512 ![0, 1, 2] bcast_S8x2048x1_S8x2048x512_0_1_2 (Host.rsqrt (addf (mean (mulf (dev y) (dev y))) (broadcastInDim S8x2048x1 ![] bcast_S_S8x2048x1 (constant S_ .f32 0x3727C5AC#32)))))) (spread (shapeCast _ g shapeCasts_S1x512_S512))) (spread (shapeCast _ o shapeCasts_S1x512_S512))

/-- The logistic function. -/
def sigma (z : FVec Ideal S8x2048x512 .f32) : FVec Ideal S8x2048x512 .f32 :=
  Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf z)))

/-- The last product. -/
def proj (z : FVec Ideal S8x2048x512 .f32) : FVec Ideal S8x2048x1024 .bf16 :=
  truncf .bf16 (Host.dotGeneral dot_S8x2048x512_S512x1024_S8x2048x1024_2_0_01_1_n_n none z (shapeCast _ p shapeCasts_S1x512x1024_S512x1024)) bitsLt_bf16_f32

/-! ## The entries -/

/-- The rows of taps, from row 31 on the last one. -/
def tap (j : ℕ) (q : Fin 512) : EReal := w (ix3 (0 : Fin 1) (⟨min j 30, by omega⟩ : Fin 31) q)

theorem padded_apply (i : Fin 8) (n : Fin 2078) (q : Fin 512) :
    padded u (ix3 i n q) = ConvRow.padded (fun t k => u (ix3 i t k)) n.val q := by
  unfold padded ConvRow.padded
  by_cases h : 15 ≤ n.val ∧ n.val < 2063
  · rw [dif_pos h]
    refine (pad_apply_of_inside _ _ _ _ _ _ _ _ (ix3 i (⟨n.val - 15, by omega⟩ : Fin 2048) q) ?_).trans rfl
    intro a
    match a with
    | ⟨0, _⟩ => show i.val = 0 + i.val * (0 + 1); omega
    | ⟨1, _⟩ => show n.val = 15 + (n.val - 15) * (0 + 1); omega
    | ⟨2, _⟩ => show q.val = 0 + q.val * (0 + 1); omega
  · rw [dif_neg h]
    refine (pad_apply_of_not_inside _ _ _ _ _ _ _ _ (1 : Fin 3) ?_).trans ?_
    · show ¬(15 ≤ n.val ∧ (n.val - 15) % (0 + 1) = 0 ∧ (n.val - 15) / (0 + 1) < 2048)
      omega
    · show ((((0#32 : BitVec 32).toInt : ℝ)) : EReal) = 0
      simp

theorem spread_apply (v : FVec Ideal S512 .f32) (i : Fin 8) (t : Fin 2048) (q : Fin 512) : spread v (ix3 i t q) = v (ix1 q) := by
  unfold spread
  pointwise

/-- One more tap of the sum. -/
theorem add_tap (y : FVec Ideal S8x2048x512 .f32) (i : Fin 8) (t : Fin 2048) (q : Fin 512) (j : ℕ) (hj : j < 31)
    (hs : S8x2078x512.Slices ![0, j, 0] S8x2048x512) (hw : S1x31x512.Slices ![0, j, 0] S1x1x512)
    (hy : y (ix3 i t q) = ∑ j ∈ Finset.range j, ConvRow.padded (fun t k => u (ix3 i t k)) (t.val + j) q * tap w j q) :
    addf y (mulf (extractStridedSlice S8x2048x512 ![0, j, 0] (padded u) hs) (spread (shapeCast _ (extractStridedSlice S1x1x512 ![0, j, 0] w hw) shapeCasts_S1x1x512_S512))) (ix3 i t q)
      = ∑ j ∈ Finset.range (j + 1), ConvRow.padded (fun t k => u (ix3 i t k)) (t.val + j) q * tap w j q := by
  have h1 : extractStridedSlice S8x2048x512 ![0, j, 0] (padded u) hs (ix3 i t q) = ConvRow.padded (fun t k => u (ix3 i t k)) (t.val + j) q := by
    refine Eq.trans (congrArg (padded u) (funext fun a => Fin.ext ?_)) (padded_apply u i (⟨t.val + j, by omega⟩ : Fin 2078) q)
    match a with
    | ⟨0, _⟩ => show 0 + i.val = i.val; omega
    | ⟨1, _⟩ => show j + t.val = t.val + j; omega
    | ⟨2, _⟩ => show 0 + q.val = q.val; omega
  have h2 : shapeCast S512 (extractStridedSlice S1x1x512 ![0, j, 0] w hw) shapeCasts_S1x1x512_S512 (ix1 q) = tap w j q := by
    refine (shapeCast_apply _ _ _ (ix3 (0 : Fin 1) (0 : Fin 1) q) ?_).trans ?_
    · rw [Shape.rowMajor_val_one, Shape.rowMajor_val_three]
      show (0 * 1 + 0) * 512 + q.val = q.val
      omega
    · refine congrArg w (funext fun a => Fin.ext ?_)
      match a with
      | ⟨0, _⟩ => rfl
      | ⟨1, _⟩ => show j + 0 = min j 30; omega
      | ⟨2, _⟩ => show 0 + q.val = q.val; omega
  rw [Finset.sum_range_succ]
  exact congrArg₂ (· + ·) hy (congrArg₂ (· * ·) h1 ((spread_apply _ i t q).trans h2))

theorem mean_apply (y : FVec Ideal S8x2048x512 .f32) (i : Fin 8) (t : Fin 2048) :
    mean y (ix3 i t (0 : Fin 1)) = ConvRow.mean fun k => y (ix3 i t k) := by
  unfold mean
  pointwise
  rfl

theorem dev_apply (y : FVec Ideal S8x2048x512 .f32) (i : Fin 8) (t : Fin 2048) (k : Fin 512) :
    dev y (ix3 i t k) = y (ix3 i t k) - ConvRow.mean fun k => y (ix3 i t k) := by
  have := mean_apply y i t
  unfold dev
  generalize mean y = u at *
  rw [← this]
  pointwise

theorem norm_apply (y : FVec Ideal S8x2048x512 .f32) (i : Fin 8) (t : Fin 2048) (k : Fin 512) :
    norm g o y (ix3 i t k) = ConvRow.norm (fun k => y (ix3 i t k)) (fun k => g (ix2 (0 : Fin 1) k)) (fun k => o (ix2 (0 : Fin 1) k)) k := by
  have h1 := mean_apply (mulf (dev y) (dev y)) i t
  have h2 := dev_apply y i t
  have h3 : (fun k => (mulf (dev y) (dev y)) (ix3 i t k)) = fun k => dev y (ix3 i t k) * dev y (ix3 i t k) := rfl
  rw [h3] at h1
  unfold norm spread
  generalize mean (mulf (dev y) (dev y)) = v at *
  generalize dev y = d at *
  simp only [h2] at h1
  unfold ConvRow.norm
  rw [← h1, ← h2]
  pointwise

theorem sigma_apply (z : FVec Ideal S8x2048x512 .f32) (i : Fin 8) (t : Fin 2048) (k : Fin 512) :
    sigma z (ix3 i t k) = Ideal.logistic (z (ix3 i t k)) := by
  unfold sigma
  pointwise
  unfold Ideal.logistic
  rfl

theorem proj_apply (z : FVec Ideal S8x2048x512 .f32) (i : Fin 8) (t : Fin 2048) (f : Fin 1024) :
    proj p z (ix3 i t f) = ∑ k : Fin 512, z (ix3 i t k) * p (ix3 (0 : Fin 1) k f) := by
  unfold proj
  pointwise

/-- The result, by its entries. -/
def out : FVec Ideal S8x2048x1024 .bf16 := fun y =>
  ConvRow.out (fun t k => u (ix3 (⟨(y 0).val, (y 0).isLt⟩ : Fin 8) t k)) (tap w) (fun k => b (ix2 (0 : Fin 1) k)) (fun k => g (ix2 (0 : Fin 1) k))
    (fun k => o (ix2 (0 : Fin 1) k)) (fun k f => p (ix3 (0 : Fin 1) k f)) (y 1).val ⟨(y 2).val, (y 2).isLt⟩

/-! ## The run's terms -/

variable (V0 : Valuation τ sig (Elt Ideal))

/-- The arrays of a valuation. -/
abbrev au : FVec Ideal S8x2048x512 .bf16 := V0 (Proc.devRef .tc main_arg0)
abbrev aw : FVec Ideal S1x31x512 .f32 := V0 (Proc.devRef .tc main_arg1)
abbrev ab : FVec Ideal S1x512 .f32 := V0 (Proc.devRef .tc main_arg2)
abbrev ag : FVec Ideal S1x512 .f32 := V0 (Proc.devRef .tc main_arg3)
abbrev ao : FVec Ideal S1x512 .f32 := V0 (Proc.devRef .tc main_arg4)
abbrev ap : FVec Ideal S1x512x1024 .f32 := V0 (Proc.devRef .tc main_arg5)

/-- The terms of the first `n` taps, summed. -/
abbrev partialSum (n : ℕ) (i : Fin 8) (t : Fin 2048) (q : Fin 512) : EReal :=
  ∑ j ∈ Finset.range n, ConvRow.padded (fun t k => au V0 (ix3 i t k)) (t.val + j) q * tap (aw V0) j q

theorem first_apply (i : Fin 8) (t : Fin 2048) (q : Fin 512) : Value.res_main_v79 (F := Ideal) V0 (ix3 i t q) = partialSum V0 11 i t q := by
  unfold Value.res_main_v79
  iterate 11 refine add_tap (au V0) (aw V0) _ i t q _ (by omega) _ _ ?_
  rw [Finset.sum_range_zero]
  pointwise

theorem second_apply (i : Fin 8) (t : Fin 2048) (q : Fin 512) : Value.res_main_v156 (F := Ideal) V0 (ix3 i t q) = partialSum V0 22 i t q := by
  unfold Value.res_main_v156
  iterate 11 refine add_tap (au V0) (aw V0) _ i t q _ (by omega) _ _ ?_
  exact first_apply V0 i t q

/-- The convolution. -/
theorem conv_apply (i : Fin 8) (t : Fin 2048) (q : Fin 512) :
    Value.res_main_v223 (F := Ideal) V0 (ix3 i t q)
      = ConvRow.conv (fun j => ConvRow.padded (fun t k => au V0 (ix3 i t k)) (t.val + j)) (tap (aw V0)) (fun k => ab V0 (ix2 (0 : Fin 1) k)) q := by
  have hb : spread (shapeCast S512 (ab V0) shapeCasts_S1x512_S512) (ix3 i t q) = ab V0 (ix2 (0 : Fin 1) q) := by
    unfold spread
    pointwise
  unfold Value.res_main_v223 ConvRow.conv
  refine congrArg₂ (fun a b : EReal => a + b) ?_ hb
  iterate 9 refine add_tap (au V0) (aw V0) _ i t q _ (by omega) _ _ ?_
  exact second_apply V0 i t q

/-- The run's last terms are `out`. -/
theorem res_eq : proj (ap V0) (mulf (Value.res_main_v249 V0) (sigma (Value.res_main_v249 V0)))
    = out (au V0) (aw V0) (ab V0) (ag V0) (ao V0) (ap V0) := by
  have e : Value.res_main_v249 (F := Ideal) V0 = norm (ag V0) (ao V0) (Value.res_main_v223 V0) := by
    unfold Value.res_main_v249 Value.res_main_v229 Value.res_main_v227 norm dev mean spread
    rfl
  rw [e]
  funext y
  obtain ⟨i, t, f, rfl⟩ : ∃ (i : Fin 8) (t : Fin 2048) (f : Fin 1024), y = ix3 i t f := ⟨y 0, y 1, y 2, by funext a; match a with | ⟨0, _⟩ => rfl | ⟨1, _⟩ => rfl | ⟨2, _⟩ => rfl⟩
  refine (proj_apply (ap V0) (mulf (norm (ag V0) (ao V0) (Value.res_main_v223 V0)) (sigma (norm (ag V0) (ao V0) (Value.res_main_v223 V0)))) i t f).trans ?_
  unfold out ConvRow.out ConvRow.act
  refine Finset.sum_congr rfl fun k _ => congrArg (· * _) ?_
  have h := norm_apply (ag V0) (ao V0) (Value.res_main_v223 V0) i t k
  simp only [conv_apply] at h
  exact congrArg₂ (fun a b : EReal => a * b) h ((sigma_apply _ i t k).trans (congrArg Ideal.logistic h))

/-- The reference ends, its result `out` of the launch's arrays and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v259) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun _ h c => ⟨(h c).1.trans ?_, (h c).2⟩) (Value.run m ρ)
  refine Eq.trans ?_ (res_eq (StableHlo.launchContents m c))
  unfold proj sigma
  rfl

end Cert.ConvRef

end
-- ==== Proof.ConvValue.lean ====
module

public import proofs.«01_k».proof.Proof.IdealConvRun
public import proofs.«01_k».proof.Proof.ConvBlock
public import proofs.«01_k».proof.Proof.ConvRef
public import Idealize.ShloMosaic.Lib.Pointwise

/-! # The idealised convolution call computes the reference's function

Each grid point takes 512 positions of one sequence, with 16 rows of either neighbour.  The rows it lays out are those of the
sequence between its zeros, so that its block is the branch at those positions; the blocks tile the result. -/

@[expose] public section

set_option maxRecDepth 16384
set_option Elab.async false

noncomputable section

namespace Cert.Kernel4Ideal.Hand

open Cert.Kernel4Ideal Cert.Kernel4Ideal.Gen
open Idealize.ShloMosaic Idealize.ShloMosaic.TcCoe
open Idealize.ShloMosaic.Pipeline

/-! ## The arrays the region finds -/

variable (m : (ℓ : Loc nD τ sig) → Buf (Elt Ideal) ℓ) (c : Dev nD)

/-- The arrays at launch. -/
abbrev arg0 : FVec Ideal S8x2048x512 .bf16 := m ((c : Thread nD τ).loc main_arg0)
abbrev arg1 : FVec Ideal S1x31x512 .f32 := m ((c : Thread nD τ).loc main_arg1)
abbrev arg2 : FVec Ideal S1x512 .f32 := m ((c : Thread nD τ).loc main_arg2)
abbrev arg3 : FVec Ideal S1x512 .f32 := m ((c : Thread nD τ).loc main_arg3)
abbrev arg4 : FVec Ideal S1x512 .f32 := m ((c : Thread nD τ).loc main_arg4)
abbrev arg5 : FVec Ideal S1x512x1024 .f32 := m ((c : Thread nD τ).loc main_arg5)

theorem v0_eq : V m c main_v0 = shapeCast S31x512 (arg1 m c) shapeCasts_S1x31x512_S31x512 := by
  simp only [V, hostOps0, List.flatten_cons, List.flatten_nil, List.append_nil, List.cons_append, List.nil_append, StableHlo.after]
  rfl
theorem v2_eq : V m c main_v2 = shapeCast S1x512 (shapeCast S512 (arg2 m c) shapeCasts_S1x512_S512) shapeCasts_S512_S1x512 := by
  simp only [V, hostOps0, List.flatten_cons, List.flatten_nil, List.append_nil, List.cons_append, List.nil_append, StableHlo.after]
  rfl
theorem v4_eq : V m c main_v4 = shapeCast S1x512 (shapeCast S512 (arg3 m c) shapeCasts_S1x512_S512) shapeCasts_S512_S1x512 := by
  simp only [V, hostOps0, List.flatten_cons, List.flatten_nil, List.append_nil, List.cons_append, List.nil_append, StableHlo.after]
  rfl
theorem v6_eq : V m c main_v6 = shapeCast S1x512 (shapeCast S512 (arg4 m c) shapeCasts_S1x512_S512) shapeCasts_S512_S1x512 := by
  simp only [V, hostOps0, List.flatten_cons, List.flatten_nil, List.append_nil, List.cons_append, List.nil_append, StableHlo.after]
  rfl
theorem v8_eq : V m c main_v8 = truncf (F := Ideal) .bf16 (shapeCast S512x1024 (arg5 m c) shapeCasts_S1x512x1024_S512x1024) bitsLt_bf16_f32 := by
  simp only [V, hostOps0, List.flatten_cons, List.flatten_nil, List.append_nil, List.cons_append, List.nil_append, StableHlo.after]
  rfl

theorem v0_apply (j : Fin 31) (q : Fin 512) : V m c main_v0 (ix2 j q) = arg1 m c (ix3 (0 : Fin 1) j q) := by
  rw [v0_eq]
  pointwise
theorem v2_apply (k : Fin 512) : V m c main_v2 (ix2 (0 : Fin 1) k) = arg2 m c (ix2 (0 : Fin 1) k) := by
  rw [v2_eq]
  pointwise
theorem v4_apply (k : Fin 512) : V m c main_v4 (ix2 (0 : Fin 1) k) = arg3 m c (ix2 (0 : Fin 1) k) := by
  rw [v4_eq]
  pointwise
theorem v6_apply (k : Fin 512) : V m c main_v6 (ix2 (0 : Fin 1) k) = arg4 m c (ix2 (0 : Fin 1) k) := by
  rw [v6_eq]
  pointwise
theorem v8_apply (k : Fin 512) (f : Fin 1024) : V m c main_v8 (ix2 k f) = arg5 m c (ix3 (0 : Fin 1) k f) := by
  rw [v8_eq]
  pointwise

/-! ## The blocks of a point -/

/-- The sequence of a point, and the part of it. -/
def seqOf (t : Fin cfg0.N) : Fin 8 := ⟨t.val / 4, by have h : t.val < 32 := t.isLt; omega⟩

theorem part_val (t : Fin cfg0.N) : (crd t 1).val = t.val % 4 :=
  (by decide +kernel : ∀ t : Fin grid0.N, (grid0.coords t 1).val = t.val % 4) t
theorem index0 (t : Fin cfg0.N) : cc0_transform_0 (grid0.coords t) 0 = t.val / 4 ∧ cc0_transform_0 (grid0.coords t) 1 = 32 * (t.val % 4) - 1 :=
  (by decide +kernel : ∀ t : Fin grid0.N, cc0_transform_0 (grid0.coords t) 0 = t.val / 4 ∧ cc0_transform_0 (grid0.coords t) 1 = 32 * (t.val % 4) - 1) t
theorem index1 (t : Fin cfg0.N) : cc0_transform_1 (grid0.coords t) 0 = t.val / 4 ∧ cc0_transform_1 (grid0.coords t) 1 = t.val % 4 :=
  (by decide +kernel : ∀ t : Fin grid0.N, cc0_transform_1 (grid0.coords t) 0 = t.val / 4 ∧ cc0_transform_1 (grid0.coords t) 1 = t.val % 4) t
theorem index2 (t : Fin cfg0.N) : cc0_transform_2 (grid0.coords t) 0 = t.val / 4 ∧ cc0_transform_2 (grid0.coords t) 1 = min (32 * (t.val % 4 + 1)) 127 :=
  (by decide +kernel : ∀ t : Fin grid0.N, cc0_transform_2 (grid0.coords t) 0 = t.val / 4 ∧ cc0_transform_2 (grid0.coords t) 1 = min (32 * (t.val % 4 + 1)) 127) t
theorem index8 (t : Fin cfg0.N) : cc0_transform_8 (grid0.coords t) 0 = t.val / 4 ∧ cc0_transform_8 (grid0.coords t) 1 = t.val % 4 :=
  (by decide +kernel : ∀ t : Fin grid0.N, cc0_transform_8 (grid0.coords t) 0 = t.val / 4 ∧ cc0_transform_8 (grid0.coords t) 1 = t.val % 4) t

theorem iblk0_apply (t : Fin cfg0.N) (a : Fin 16) (q : Fin 512) (s : Fin 2048) (h : 0 < t.val % 4) (hs : s.val + 16 = 512 * (t.val % 4) + a.val) :
    iblk m c ((0 : Fin 9) : Fin cfg0.W) t (ix3 (0 : Fin 1) a q) = arg0 m c (ix3 (seqOf t) s q) := by
  refine Eq.trans ?_ (congrFun (V_main_arg0 m c) (ix3 (seqOf t) s q))
  unfold iblk
  refine congrArg (V m c main_arg0) (funext fun b => Fin.ext ?_)
  match b with
  | ⟨0, _⟩ => show cc0_transform_0 (grid0.coords t) 0 * 1 + 1 * 0 = t.val / 4; rw [(index0 t).1]; omega
  | ⟨1, _⟩ => show cc0_transform_0 (grid0.coords t) 1 * 16 + 1 * a.val = s.val; rw [(index0 t).2]; omega
  | ⟨2, _⟩ => show 0 * 512 + 1 * q.val = q.val; omega
theorem iblk1_apply (t : Fin cfg0.N) (a : Fin 512) (q : Fin 512) (s : Fin 2048) (hs : s.val = 512 * (t.val % 4) + a.val) :
    iblk m c ((1 : Fin 9) : Fin cfg0.W) t (ix3 (0 : Fin 1) a q) = arg0 m c (ix3 (seqOf t) s q) := by
  refine Eq.trans ?_ (congrFun (V_main_arg0 m c) (ix3 (seqOf t) s q))
  unfold iblk
  refine congrArg (V m c main_arg0) (funext fun b => Fin.ext ?_)
  match b with
  | ⟨0, _⟩ => show cc0_transform_1 (grid0.coords t) 0 * 1 + 1 * 0 = t.val / 4; rw [(index1 t).1]; omega
  | ⟨1, _⟩ => show cc0_transform_1 (grid0.coords t) 1 * 512 + 1 * a.val = s.val; rw [(index1 t).2]; omega
  | ⟨2, _⟩ => show 0 * 512 + 1 * q.val = q.val; omega
theorem iblk2_apply (t : Fin cfg0.N) (a : Fin 16) (q : Fin 512) (s : Fin 2048) (h : t.val % 4 < 3) (hs : s.val = 512 * (t.val % 4) + 512 + a.val) :
    iblk m c ((2 : Fin 9) : Fin cfg0.W) t (ix3 (0 : Fin 1) a q) = arg0 m c (ix3 (seqOf t) s q) := by
  refine Eq.trans ?_ (congrFun (V_main_arg0 m c) (ix3 (seqOf t) s q))
  unfold iblk
  refine congrArg (V m c main_arg0) (funext fun b => Fin.ext ?_)
  match b with
  | ⟨0, _⟩ => show cc0_transform_2 (grid0.coords t) 0 * 1 + 1 * 0 = t.val / 4; rw [(index2 t).1]; omega
  | ⟨1, _⟩ => show cc0_transform_2 (grid0.coords t) 1 * 16 + 1 * a.val = s.val; rw [(index2 t).2]; omega
  | ⟨2, _⟩ => show 0 * 512 + 1 * q.val = q.val; omega
theorem iblk3_apply (t : Fin cfg0.N) (j : Fin 31) (q : Fin 512) : iblk m c ((3 : Fin 9) : Fin cfg0.W) t (ix2 j q) = arg1 m c (ix3 (0 : Fin 1) j q) := by
  refine Eq.trans ?_ (v0_apply m c j q)
  unfold iblk
  refine congrArg (V m c main_v0) (funext fun a => Fin.ext ?_)
  match a with
  | ⟨0, _⟩ => show 0 * 31 + 1 * j.val = j.val; omega
  | ⟨1, _⟩ => show 0 * 512 + 1 * q.val = q.val; omega
theorem iblk4_apply (t : Fin cfg0.N) (k : Fin 512) : iblk m c ((4 : Fin 9) : Fin cfg0.W) t (ix2 (0 : Fin 1) k) = arg2 m c (ix2 (0 : Fin 1) k) := by
  refine Eq.trans ?_ (v2_apply m c k)
  unfold iblk
  refine congrArg (V m c main_v2) (funext fun a => Fin.ext ?_)
  match a with
  | ⟨0, _⟩ => rfl
  | ⟨1, _⟩ => show 0 * 512 + 1 * k.val = k.val; omega
theorem iblk5_apply (t : Fin cfg0.N) (k : Fin 512) : iblk m c ((5 : Fin 9) : Fin cfg0.W) t (ix2 (0 : Fin 1) k) = arg3 m c (ix2 (0 : Fin 1) k) := by
  refine Eq.trans ?_ (v4_apply m c k)
  unfold iblk
  refine congrArg (V m c main_v4) (funext fun a => Fin.ext ?_)
  match a with
  | ⟨0, _⟩ => rfl
  | ⟨1, _⟩ => show 0 * 512 + 1 * k.val = k.val; omega
theorem iblk6_apply (t : Fin cfg0.N) (k : Fin 512) : iblk m c ((6 : Fin 9) : Fin cfg0.W) t (ix2 (0 : Fin 1) k) = arg4 m c (ix2 (0 : Fin 1) k) := by
  refine Eq.trans ?_ (v6_apply m c k)
  unfold iblk
  refine congrArg (V m c main_v6) (funext fun a => Fin.ext ?_)
  match a with
  | ⟨0, _⟩ => rfl
  | ⟨1, _⟩ => show 0 * 512 + 1 * k.val = k.val; omega
theorem iblk7_apply (t : Fin cfg0.N) (k : Fin 512) (f : Fin 1024) : iblk m c ((7 : Fin 9) : Fin cfg0.W) t (ix2 k f) = arg5 m c (ix3 (0 : Fin 1) k f) := by
  refine Eq.trans ?_ (v8_apply m c k f)
  unfold iblk
  refine congrArg (V m c main_v8) (funext fun a => Fin.ext ?_)
  match a with
  | ⟨0, _⟩ => show 0 * 512 + 1 * k.val = k.val; omega
  | ⟨1, _⟩ => show 0 * 1024 + 1 * f.val = f.val; omega

/-! ## The result -/

/-- The reference's result, of the launch's arrays. -/
def goal : FVec Ideal S8x2048x1024 .bf16 :=
  ConvRef.out (arg0 m c) (arg1 m c) (arg2 m c) (arg3 m c) (arg4 m c) (arg5 m c)

/-- The rows a point lays out are those of its sequence. -/
theorem rows_eq (t : Fin cfg0.N) (n : ℕ) (hn : n < 543) (q : Fin 512) :
    extRow (F := Ideal) (crd t) (iblk m c (0 : Fin 9) t) (iblk m c (1 : Fin 9) t) (iblk m c (2 : Fin 9) t) (n + 1) q
      = ConvRow.padded (fun s k => arg0 m c (ix3 (seqOf t) s k)) (512 * (t.val % 4) + n) q := by
  have e := part_val t
  rw [← e]
  refine extRow_eq (crd t) _ _ _ _ ?_ ?_ ?_ n hn q
  · intro a q s h hs
    exact iblk0_apply m c t a q s (by omega) (by omega)
  · intro a q s hs
    exact iblk1_apply m c t a q s (by omega)
  · intro a q s h hs
    exact iblk2_apply m c t a q s (by omega) (by omega)

/-- What a point leaves at a place of its block of the result. -/
theorem convAt_apply (t : Fin cfg0.N) (p : Fin 512) (f : Fin 1024) (s : Fin 2048) (hs : s.val = 512 * (t.val % 4) + p.val) :
    convAt m c t (ix3 (0 : Fin 1) p f) = goal m c (ix3 (seqOf t) s f) := by
  refine (convBlock_apply _ _ _ _ _ _ _ _ _ p f).trans ?_
  have h4 := funext fun k => iblk4_apply m c t k
  have h5 := funext fun k => iblk5_apply m c t k
  have h6 := funext fun k => iblk6_apply m c t k
  show _ = ∑ k : Fin 512, ConvRow.act _ _ _ _ _ k * arg5 m c (ix3 (0 : Fin 1) k f)
  refine Finset.sum_congr rfl fun k _ => congrArg₂ (fun a b : EReal => a * b) ?_ (iblk7_apply m c t k f)
  unfold ConvRow.act
  have hc : ConvRow.conv (fun j => extRow (F := Ideal) (crd t) (iblk m c (0 : Fin 9) t) (iblk m c (1 : Fin 9) t) (iblk m c (2 : Fin 9) t) (p.val + j + 1))
        (fun j q => iblk m c (3 : Fin 9) t (ix2 (⟨min j 30, by omega⟩ : Fin 31) q)) (fun k => iblk m c (4 : Fin 9) t (ix2 (0 : Fin 1) k))
      = ConvRow.conv (fun j => ConvRow.padded (fun s k => arg0 m c (ix3 (seqOf t) s k)) (s.val + j)) (ConvRef.tap (arg1 m c)) (fun k => arg2 m c (ix2 (0 : Fin 1) k)) := by
    rw [h4]
    refine ConvRow.conv_congr (fun j hj q => ?_) (fun j hj q => iblk3_apply m c t _ q)
    rw [rows_eq m c t _ (by omega), hs, Nat.add_assoc]
  rw [hc, h5, h6]
  rfl

theorem flush8 (t : Fin cfg0.N) : (cfg0.win (8 : Fin 9)).flush t = true :=
  (by decide +kernel : ∀ t : Fin grid0.N, win0_8.flush t = true) t

/-- What a point writes back is its block of the reference's result. -/
theorem flushed8 (t : Fin cfg0.N) : (dats m 0 c).flushed (8 : Fin 9) t = ((cfg0.win (8 : Fin 9)).blk t).view.read (Elt Ideal) (goal m c) := by
  have ht : t.val < 32 := t.isLt
  funext y
  have hy0 : (y 0).val < 1 := (y 0).isLt
  have hy1 : (y 1).val < 512 := (y 1).isLt
  have hy2 : (y 2).val < 1024 := (y 2).isLt
  refine Eq.trans ?_ ((convAt_apply m c t ⟨(y 1).val, hy1⟩ ⟨(y 2).val, hy2⟩ ⟨512 * (t.val % 4) + (y 1).val, by omega⟩ rfl).trans ?_)
  · show convAt m c t _ = _
    refine congrArg (convAt m c t) (funext fun a => Fin.ext ?_)
    match a with
    | ⟨0, _⟩ => show (y 0).val = 0; omega
    | ⟨1, _⟩ => rfl
    | ⟨2, _⟩ => rfl
  · refine congrArg (goal m c) (funext fun a => Fin.ext ?_)
    match a with
    | ⟨0, _⟩ => show t.val / 4 = cc0_transform_8 (grid0.coords t) 0 * 1 + 1 * (y 0).val; rw [(index8 t).1]; omega
    | ⟨1, _⟩ => show 512 * (t.val % 4) + (y 1).val = cc0_transform_8 (grid0.coords t) 1 * 512 + 1 * (y 1).val; rw [(index8 t).2]; omega
    | ⟨2, _⟩ => show (y 2).val = 0 * 1024 + 1 * (y 2).val; omega

/-- The point and the place in its block of an index of the result. -/
def pointOf (i : S8x2048x1024.Idx) : Fin cfg0.N :=
  ⟨4 * (i 0).val + (i 1).val / 512, by have h0 : (i 0).val < 8 := (i 0).isLt; have h1 : (i 1).val < 2048 := (i 1).isLt; show _ < 32; omega⟩
def placeOf (i : S8x2048x1024.Idx) : S1x512x1024.Idx :=
  ix3 (0 : Fin 1) (⟨(i 1).val % 512, by omega⟩ : Fin 512) (⟨(i 2).val, (i 2).isLt⟩ : Fin 1024)

theorem cover8 (i : S8x2048x1024.Idx) : ∃ t : Fin cfg0.N, (cfg0.win (8 : Fin 9)).flush t = true ∧ i ∈ ((cfg0.win (8 : Fin 9)).blk t).view.set := by
  refine ⟨pointOf i, flush8 _, ?_⟩
  have h1 : (i 1).val < 2048 := (i 1).isLt
  have hy : ((cfg0.win (8 : Fin 9)).blk (pointOf i)).view.emb (placeOf i) = i := by
    funext a
    refine Fin.ext ?_
    match a with
    | ⟨0, _⟩ =>
      show cc0_transform_8 (grid0.coords (pointOf i)) 0 * 1 + 1 * 0 = (i 0).val
      rw [(index8 _).1]; show (4 * (i 0).val + (i 1).val / 512) / 4 * 1 + _ = _; omega
    | ⟨1, _⟩ =>
      show cc0_transform_8 (grid0.coords (pointOf i)) 1 * 512 + 1 * ((i 1).val % 512) = (i 1).val
      rw [(index8 _).2]; show (4 * (i 0).val + (i 1).val / 512) % 4 * 512 + _ = _; omega
    | ⟨2, _⟩ => show 0 * 1024 + 1 * (i 2).val = (i 2).val; omega
  exact Set.mem_of_eq_of_mem hy.symm (View.emb_mem_set _ (placeOf i))

/-- The result array ends as the reference's. -/
theorem final : (dats m 0 c).arrAt (8 : Fin 9) cfg0.N = goal m c :=
  (dats m 0 c).arrAt_eq_of_cover (8 : Fin 9) (goal m c) (fun t _ => flushed8 m c t) cover8

/-- The idealised convolution call ends, its result the reference's and its arguments unchanged. -/
theorem run_value (ρ : Dev nD → PrngReg) : θ_run defs (onTc (τ := τ) (main (F := Ideal))) ⟨m, fun _ => 0, ρ⟩ (fun r =>
      (∀ c : Dev nD, r.2.mem ((c.tc : Thread nD τ).loc main_v9) = goal m c)
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_and ((θ_run defs _ _).mono (fun _ h c => ((h.1 c).1 (8 : Fin 9)).trans (final m c)) (run_quiescent m ρ))
    ((θ_run defs _ _).mono (fun _ h => h.1) (frame m ρ))

end Cert.Kernel4Ideal.Hand

end
-- ==== Proof.lean ====
module

public import proofs.«01_k».proof.Defs
public import proofs.«01_k».proof.Proof.Run
public import proofs.«01_k».proof.Proof.IdealValue
public import proofs.«01_k».proof.Proof.Words
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.InValue
public import proofs.«01_k».proof.Proof.Gen.Kernel3.Frame
public import proofs.«01_k».proof.Proof.Gen.Kernel3.Skeleton
public import proofs.«01_k».proof.Proof.Gen.Kernel3Ideal.Skeleton
public import proofs.«01_k».proof.Proof.Gen.Kernel3Ideal.Frame
public import proofs.«01_k».proof.Proof.MixRun
public import proofs.«01_k».proof.Proof.MixValue
public import proofs.«01_k».proof.Proof.Gen.Reference3Ideal.Run
public import proofs.«01_k».proof.Proof.Gen.Kernel4.Frame
public import proofs.«01_k».proof.Proof.Gen.Kernel4.Skeleton
public import proofs.«01_k».proof.Proof.Gen.Kernel4Ideal.Skeleton
public import proofs.«01_k».proof.Proof.Gen.Kernel4Ideal.Frame
public import proofs.«01_k».proof.Proof.ConvRun
public import proofs.«01_k».proof.Proof.ConvValue
public import proofs.«01_k».proof.Proof.Gen.Reference4Ideal.Run
public import Idealize.ShloMosaic.Lib.Quiescent
public import Idealize.ShloMosaic.Adequacy
public import Idealize.ShloMosaic.Init

/-! # The certificate

`frame_kernel`, `frame_ideal` and `frame_reference` say that the three programs end with their arguments unchanged and every
counter at zero; `algebraic` says that over the extended reals the expert call and the reference end with the same
result.  The tables of the launch are read off its memory, and the precondition gives what `Tab` asks of them.

`frame_input`, `frame_input_ideal`, `frame_input_reference` and `algebraic_input` say the same of the input projection, of which
nothing is assumed; `frame_mix`, `frame_mix_ideal`, `frame_mix_reference` and `algebraic_mix` of the mixing, likewise;
`frame_conv`, `frame_conv_ideal`, `frame_conv_reference` and `algebraic_conv` of the convolution branch. -/

@[expose] public section

noncomputable section

namespace Cert.Proof

open Idealize.ShloMosaic Idealize.ShloMosaic.TcCoe Idealize.SL.Sem

namespace OfKernel

open Cert.Kernel Cert.Kernel.Gen Cert.Kernel.Hand

variable (m : (ℓ : Loc nD τ sig) → Buf (Elt Bits) ℓ)

/-- The tables of a launch. -/
def tab : pre0.Contents (Elt Bits) := fun j => m (((0 : Dev nD) : Thread nD τ).loc (pre0.ref j))

theorem pinned : Pinned (tab m) m := fun c j => by
  obtain rfl : c = 0 := Subsingleton.elim _ _
  rfl

theorem tab_ok (h : Cert.Pre_Kernel m) : Tab (tab m) := by
  have e := Cert.Words.words_of_pre _ _ _ _ _ _ _ (h 0)
  exact ⟨fun n => e.1 _, e.2 _⟩

end OfKernel

namespace OfIdeal

open Cert.KernelIdeal Cert.KernelIdeal.Gen Cert.KernelIdeal.Hand

variable (m : (ℓ : Loc nD τ sig) → Buf (Elt Ideal) ℓ)

/-- The tables of a launch. -/
def tab : pre0.Contents (Elt Ideal) := fun j => m (((0 : Dev nD) : Thread nD τ).loc (pre0.ref j))

theorem pinned : Pinned (tab m) m := fun c j => by
  obtain rfl : c = 0 := Subsingleton.elim _ _
  rfl

theorem tab_ok (h : Cert.Pre_KernelIdeal m) : Tab (tab m) := by
  have e := Cert.Words.words_of_pre _ _ _ _ _ _ _ (h 0)
  exact ⟨fun n => e.1 _, e.2 _⟩

end OfIdeal

/-- The expert call, word for word: it ends, its arguments unchanged and its counters zero. -/
theorem frame_kernel : Cert.quiescent_Kernel := fun m g h =>
  (θ_run _ _ _).mono (fun _ e => ⟨fun c => (e.1 c).1, e.2⟩)
    (Cert.Kernel.Hand.frame_value (OfKernel.tab m) (OfKernel.tab_ok m h) m g (OfKernel.pinned m))

/-- The same over the extended reals. -/
theorem frame_ideal : Cert.quiescent_KernelIdeal := fun m g h =>
  (θ_run _ _ _).mono (fun _ e => ⟨fun c => (e.1 c).1, e.2⟩)
    (Cert.KernelIdeal.Hand.frame_value (OfIdeal.tab m) (OfIdeal.tab_ok m h) m g (OfIdeal.pinned m))

/-- The reference ends, its arguments unchanged; it has no counters. -/
theorem frame_reference : Cert.quiescent_ReferenceIdeal := fun m g _ =>
  (θ_run _ _ _).mono (fun _ e => ⟨fun c => (e c).2, sem_eq_zero_of_no_sems rfl _⟩) (Cert.ReferenceIdeal.Value.run m g)

/-- The same, of the memories the precondition admits. -/
theorem frame_reference_pre : Cert.quiescent_ReferenceIdeal_pre_tables_in_range := fun m g _ => frame_reference m g trivial

/-- Over the extended reals the expert call and the reference end with the same result. -/
theorem algebraic : Cert.algebraic_KernelIdeal_ReferenceIdeal := by
  intro m g m' g' h he
  refine ⟨fun c => Cert.KernelIdeal.Hand.goal (OfIdeal.tab m) m c, ?_, ?_⟩
  · exact (θ_run _ _ _).mono (fun _ e c => ⟨(e.1 c).2.trans (Cert.KernelIdeal.Hand.final (OfIdeal.tab m) (OfIdeal.tab_ok m h) m g c), (e.1 c).1⟩)
      (Cert.KernelIdeal.Hand.frame_value (OfIdeal.tab m) (OfIdeal.tab_ok m h) m g (OfIdeal.pinned m))
  · refine (θ_run _ _ _).mono (fun _ e c => ⟨(e c).1.trans ?_, (e c).2⟩) (Cert.ReferenceIdeal.Value.run m' g')
    obtain ⟨h0, h1, h2, h3, h4, h5, h6⟩ := he c
    rw [Cert.RefValue.res_eq, h0, h1, h2, h3, h4, h5, h6]
    obtain rfl : c = 0 := Subsingleton.elim _ _
    rfl

/-! ## The input projection -/

/-- The input projection, word for word: it ends, its arguments unchanged and its counters zero. -/
theorem frame_input : Cert.quiescent_Kernel2 := fun m g _ => Cert.Kernel2.Gen.frame m g

/-- The same over the extended reals. -/
theorem frame_input_ideal : Cert.quiescent_Kernel2Ideal := fun m g _ => Cert.Kernel2Ideal.Gen.frame m g

/-- Its reference ends, its arguments unchanged; it has no counters. -/
theorem frame_input_reference : Cert.quiescent_Reference2Ideal := fun m g _ =>
  (θ_run _ _ _).mono (fun _ e => ⟨fun c => (e c).2, sem_eq_zero_of_no_sems rfl _⟩) (Cert.InRef.run m g)

/-- Over the extended reals the input projection and its reference end with the same two results. -/
theorem algebraic_input : Cert.algebraic_Kernel2Ideal_Reference2Ideal := by
  intro m g m' g' h he
  refine ⟨fun c => Cert.Kernel2Ideal.Hand.goal5 m c, fun c => Cert.Kernel2Ideal.Hand.goal6 m c, ?_, ?_⟩
  · exact (θ_run _ _ _).mono (fun _ e c => ⟨(e c).1.trans (Cert.Kernel2Ideal.Hand.final5 m c), (e c).2.1.trans (Cert.Kernel2Ideal.Hand.final6 m c), (e c).2.2⟩)
      (Cert.Kernel2Ideal.Value.run_blocks m g)
  · refine (θ_run _ _ _).mono (fun _ e c => ⟨(e c).1.1.trans ?_, (e c).1.2.trans ?_, (e c).2⟩) (Cert.InRef.run m' g')
    all_goals
      obtain ⟨h0, h1, h2, h3, h4⟩ := he c
      rw [h0, h1, h2, h3, h4]
      rfl

/-! ## The mixing -/

/-- The mixing and routing call, word for word: it ends, its arguments unchanged and its counters zero. -/
theorem frame_mix : Cert.quiescent_Kernel3 := fun m g _ => Cert.Kernel3.Hand.frame m g

/-- The same over the extended reals. -/
theorem frame_mix_ideal : Cert.quiescent_Kernel3Ideal := fun m g _ => Cert.Kernel3Ideal.Hand.frame m g

/-- Its reference ends, its arguments unchanged; it has no counters. -/
theorem frame_mix_reference : Cert.quiescent_Reference3Ideal := fun m g _ =>
  (θ_run _ _ _).mono (fun _ e => ⟨fun c => (e c).2, sem_eq_zero_of_no_sems rfl _⟩) (Cert.Reference3Ideal.Value.run m g)

/-- Over the extended reals the mixing and its reference end with the same normed rows. -/
theorem algebraic_mix : Cert.algebraic_Kernel3Ideal_Reference3Ideal := by
  intro m g m' g' h he
  refine ⟨fun c => Cert.Kernel3Ideal.Hand.goal m c, ?_, ?_⟩
  · exact (θ_run _ _ _).mono (fun _ e c => ⟨e.1 c, e.2 c⟩) (Cert.Kernel3Ideal.Hand.run_value m g)
  · refine (θ_run _ _ _).mono (fun _ e c => ⟨(e c).1.trans ?_, (e c).2⟩) (Cert.Reference3Ideal.Value.run m' g')
    obtain ⟨h0, h1, h2, _, h4, h5, h6, h7, h8, h9, h10, h11, _, _⟩ := he c
    rw [Cert.MixRef.res_eq, h0, h1, h2, h4, h5, h6, h7, h8, h9, h10, h11]
    rfl

/-! ## The convolution branch -/

/-- The convolution call, word for word: it ends, its arguments unchanged and its counters zero. -/
theorem frame_conv : Cert.quiescent_Kernel4 := fun m g _ => Cert.Kernel4.Hand.frame m g

/-- The same over the extended reals. -/
theorem frame_conv_ideal : Cert.quiescent_Kernel4Ideal := fun m g _ => Cert.Kernel4Ideal.Hand.frame m g

/-- Its reference ends, its arguments unchanged; it has no counters. -/
theorem frame_conv_reference : Cert.quiescent_Reference4Ideal := fun m g _ =>
  (θ_run _ _ _).mono (fun _ e => ⟨fun c => (e c).2, sem_eq_zero_of_no_sems rfl _⟩) (Cert.ConvRef.run m g)

/-- Over the extended reals the convolution call and its reference end with the same result. -/
theorem algebraic_conv : Cert.algebraic_Kernel4Ideal_Reference4Ideal := by
  intro m g m' g' h he
  refine ⟨fun c => Cert.Kernel4Ideal.Hand.goal m c, ?_, ?_⟩
  · exact (θ_run _ _ _).mono (fun _ e c => ⟨e.1 c, e.2 c⟩) (Cert.Kernel4Ideal.Hand.run_value m g)
  · refine (θ_run _ _ _).mono (fun _ e c => ⟨(e c).1.trans ?_, (e c).2⟩) (Cert.ConvRef.run m' g')
    obtain ⟨h0, h1, h2, h3, h4, h5⟩ := he c
    rw [h0, h1, h2, h3, h4, h5]
    rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Pre_tables_in_range.Gen.facts, frame_kernel, frame_ideal, frame_reference, frame_reference_pre, frame_input, frame_input_ideal,
    frame_input_reference, frame_mix, frame_mix_ideal, frame_mix_reference, frame_conv, frame_conv_ideal, frame_conv_reference,
    trivial, algebraic, trivial, algebraic_input, trivial,
    algebraic_mix, trivial, algebraic_conv⟩

end Cert.Proof

end
